-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v130)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v130) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v65) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v22)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v22) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v48) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_scores.lean ====
abbrev S8x8192x8x64 : Shape := ⟨4, ![8, 8192, 8, 64]⟩
abbrev S8x8192x2x64 : Shape := ⟨4, ![8, 8192, 2, 64]⟩
abbrev S8x513 : Shape := ⟨2, ![8, 513]⟩
abbrev S8 : Shape := ⟨1, ![8]⟩
abbrev S_ : Shape := ⟨0, ![]⟩

class Facts : Prop where
  bcast_S_S8x8192x8x64 : S_.BroadcastsInDim S8x8192x8x64 (![] : Fin 0 → Fin S8x8192x8x64.rank)
  reducesTo_S8x8192x8x64_S_d0_1_2_3 : S8x8192x8x64.ReducesTo [0, 1, 2, 3] S_
  h_S_ : 0 < S_.numel
  bcast_S_S8x8192x2x64 : S_.BroadcastsInDim S8x8192x2x64 (![] : Fin 0 → Fin S8x8192x2x64.rank)
  reducesTo_S8x8192x2x64_S_d0_1_2_3 : S8x8192x2x64.ReducesTo [0, 1, 2, 3] S_
  bcast_S_S8x513 : S_.BroadcastsInDim S8x513 (![] : Fin 0 → Fin S8x513.rank)
  reducesTo_S8x513_S_d0_1 : S8x513.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg6 : FVec F S8x513 .f32) (main_arg7 : FVec F S8 .f32) (main_v13 : IVec S_ 1) (main_v16 : IVec S8x8192x2x64 1) : IVec S_ 1 :=
  let main_c_5 : IVec S_ 1 := constantI S_ 1 1#1
  let main_v17 : IVec S_ 1 := (fun x v => Host.reduce IntOp.andi x v reducesTo_S8x8192x2x64_S_d0_1_2_3 h_S_) main_v16 main_c_5
  let main_v18 : IVec S_ 1 := andi main_v13 main_v17
  let main_v19 : FVec F S8x513 .f32 := Host.absf main_arg6
  let main_cst_6 : FVec F S_ .f32 := constant S_ .f32 0x7F800000#32
  let main_v20 : FVec F S8x513 .f32 := broadcastInDim S8x513 ![] bcast_S_S8x513 main_cst_6
  let main_v21 : IVec S8x513 1 := cmpf .olt main_v19 main_v20
  let main_c_7 : IVec S_ 1 := constantI S_ 1 1#1
  let main_v22 : IVec S_ 1 := (fun x v => Host.reduce IntOp.andi x v reducesTo_S8x513_S_d0_1 h_S_) main_v21 main_c_7
  let main_v23 : IVec S_ 1 := andi main_v18 main_v22
  let main_cst_8 : FVec F S_ .f32 := constant S_ .f32 0x7F800000#32
  let main_v24 : FVec F S8 .f32 := broadcastInDim S8 ![] bcast_S_S8 main_cst_8
  let main_v25 : IVec S8 1 := cmpf .olt main_arg7 main_v24
  let main_c_9 : IVec S_ 1 := constantI S_ 1 1#1
  let main_v26 : IVec S_ 1 := (fun x v => Host.reduce IntOp.andi x v reducesTo_S8_S_d0 h_S_) main_v25 main_c_9
  let main_v27 : IVec S_ 1 := andi main_v23 main_v26
  main_v27

def fn {F : FTy → Type} [FloatOps F] (main_arg0 : FVec F S8x8192x8x64 .f32) (main_arg1 : FVec F S8x8192x8x64 .f32) (main_arg2 : FVec F S8x8192x8x64 .f32) (main_arg3 : FVec F S8x8192x8x64 .f32) (main_arg4 : FVec F S8x8192x2x64 .f32) (main_arg5 : FVec F S8x8192x2x64 .f32) (main_arg6 : FVec F S8x513 .f32) (main_arg7 : FVec F S8 .f32) : IVec S_ 1 :=
  let main_v0 : FVec F S8x8192x8x64 .f32 := Host.absf main_arg0
  let main_cst : FVec F S_ .f32 := constant S_ .f32 0x7F800000#32
  let main_v1 : FVec F S8x8192x8x64 .f32 := broadcastInDim S8x8192x8x64 ![] bcast_S_S8x8192x8x64 main_cst
  let main_v2 : IVec S8x8192x8x64 1 := cmpf .olt main_v0 main_v1
  let main_c : IVec S_ 1 := constantI S_ 1 1#1
  let main_v3 : IVec S_ 1 := (fun x v => Host.reduce IntOp.andi x v reducesTo_S8x8192x8x64_S_d0_1_2_3 h_S_) main_v2 main_c
  let main_v4 : FVec F S8x8192x8x64 .f32 := Host.absf main_arg1
  let main_cst_0 : FVec F S_ .f32 := constant S_ .f32 0x7F800000#32
  let main_v5 : FVec F S8x8192x8x64 .f32 := broadcastInDim S8x8192x8x64 ![] bcast_S_S8x8192x8x64 main_cst_0
  let main_v6 : IVec S8x8192x8x64 1 := cmpf .olt main_v4 main_v5
  let main_c_1 : IVec S_ 1 := constantI S_ 1 1#1
  let main_v7 : IVec S_ 1 := (fun x v => Host.reduce IntOp.andi x v reducesTo_S8x8192x8x64_S_d0_1_2_3 h_S_) main_v6 main_c_1
  let main_v8 : IVec S_ 1 := andi main_v3 main_v7
  let main_v9 : FVec F S8x8192x8x64 .f32 := Host.absf main_arg3
  let main_cst_2 : FVec F S_ .f32 := constant S_ .f32 0x7F800000#32
  let main_v10 : FVec F S8x8192x8x64 .f32 := broadcastInDim S8x8192x8x64 ![] bcast_S_S8x8192x8x64 main_cst_2
  let main_v11 : IVec S8x8192x8x64 1 := cmpf .olt main_v9 main_v10
  let main_c_3 : IVec S_ 1 := constantI S_ 1 1#1
  let main_v12 : IVec S_ 1 := (fun x v => Host.reduce IntOp.andi x v reducesTo_S8x8192x8x64_S_d0_1_2_3 h_S_) main_v11 main_c_3
  let main_v13 : IVec S_ 1 := andi main_v8 main_v12
  let main_v14 : FVec F S8x8192x2x64 .f32 := Host.absf main_arg4
  let main_cst_4 : FVec F S_ .f32 := constant S_ .f32 0x7F800000#32
  let main_v15 : FVec F S8x8192x2x64 .f32 := broadcastInDim S8x8192x2x64 ![] bcast_S_S8x8192x2x64 main_cst_4
  let main_v16 : IVec S8x8192x2x64 1 := cmpf .olt main_v14 main_v15
  fn_part1 (F := F) main_arg6 main_arg7 main_v13 main_v16
-- ==== Kernel.lean ====
abbrev S8x8192x8x64 : Shape := ⟨4, ![8, 8192, 8, 64]⟩
abbrev S8x8192x2x64 : Shape := ⟨4, ![8, 8192, 2, 64]⟩
abbrev S8x513 : Shape := ⟨2, ![8, 513]⟩
abbrev S8 : Shape := ⟨1, ![8]⟩
abbrev S_ : Shape := ⟨0, ![]⟩
abbrev S65536x2x4x64 : Shape := ⟨4, ![65536, 2, 4, 64]⟩
abbrev S65536x4x2x64 : Shape := ⟨4, ![65536, 4, 2, 64]⟩
abbrev S65536x512 : Shape := ⟨2, ![65536, 512]⟩
abbrev S65536x128 : Shape := ⟨2, ![65536, 128]⟩
abbrev S65536x2304 : Shape := ⟨2, ![65536, 2304]⟩
abbrev S128 : Shape := ⟨1, ![128]⟩
abbrev S128x1 : Shape := ⟨2, ![128, 1]⟩
abbrev S640 : Shape := ⟨1, ![640]⟩
abbrev S1x640 : Shape := ⟨2, ![1, 640]⟩
abbrev S128x640 : Shape := ⟨2, ![128, 640]⟩
abbrev S8x383 : Shape := ⟨2, ![8, 383]⟩
abbrev S8x1 : Shape := ⟨2, ![8, 1]⟩
abbrev S8x384 : Shape := ⟨2, ![8, 384]⟩
abbrev S8x767 : Shape := ⟨2, ![8, 767]⟩
abbrev S8x768 : Shape := ⟨2, ![8, 768]⟩
abbrev S1x8x1x768 : Shape := ⟨4, ![1, 8, 1, 768]⟩
abbrev S1x8x128x768 : Shape := ⟨4, ![1, 8, 128, 768]⟩
abbrev S8x98304 : Shape := ⟨2, ![8, 98304]⟩
abbrev S8x98176 : Shape := ⟨2, ![8, 98176]⟩
abbrev S8x128x767 : Shape := ⟨3, ![8, 128, 767]⟩
abbrev S8x128x640 : Shape := ⟨3, ![8, 128, 640]⟩
abbrev S1x1x640 : Shape := ⟨3, ![1, 1, 640]⟩
abbrev S5x1x640 : Shape := ⟨3, ![5, 1, 640]⟩
abbrev S1x128x640 : Shape := ⟨3, ![1, 128, 640]⟩
abbrev S5x128x640 : Shape := ⟨3, ![5, 128, 640]⟩
abbrev S5x1x128x640 : Shape := ⟨4, ![5, 1, 128, 640]⟩
abbrev S1x8x128x640 : Shape := ⟨4, ![1, 8, 128, 640]⟩
abbrev S5x8x128x640 : Shape := ⟨4, ![5, 8, 128, 640]⟩
abbrev S256 : Shape := ⟨1, ![256]⟩
abbrev S1x256 : Shape := ⟨2, ![1, 256]⟩
abbrev S128x256 : Shape := ⟨2, ![128, 256]⟩
abbrev S8x1x1 : Shape := ⟨3, ![8, 1, 1]⟩
abbrev S1x128x256 : Shape := ⟨3, ![1, 128, 256]⟩
abbrev S8x128x256 : Shape := ⟨3, ![8, 128, 256]⟩
abbrev S1x1x256 : Shape := ⟨3, ![1, 1, 256]⟩
abbrev S2x1x256 : Shape := ⟨3, ![2, 1, 256]⟩
abbrev S2x128x256 : Shape := ⟨3, ![2, 128, 256]⟩
abbrev S2x1x128x256 : Shape := ⟨4, ![2, 1, 128, 256]⟩
abbrev S1x8x128x256 : Shape := ⟨4, ![1, 8, 128, 256]⟩
abbrev S2x8x128x256 : Shape := ⟨4, ![2, 8, 128, 256]⟩
abbrev S65536x1024 : Shape := ⟨2, ![65536, 1024]⟩
abbrev S512x512 : Shape := ⟨2, ![512, 512]⟩
abbrev S512x128 : Shape := ⟨2, ![512, 128]⟩
abbrev S512x1024 : Shape := ⟨2, ![512, 1024]⟩
abbrev S1x128 : Shape := ⟨2, ![1, 128]⟩
abbrev S1024x128 : Shape := ⟨2, ![1024, 128]⟩
abbrev S640x128 : Shape := ⟨2, ![640, 128]⟩
abbrev S128x128 : Shape := ⟨2, ![128, 128]⟩
abbrev S256x128 : Shape := ⟨2, ![256, 128]⟩
abbrev S256x640 : Shape := ⟨2, ![256, 640]⟩
abbrev S1x1x128x640 : Shape := ⟨4, ![1, 1, 128, 640]⟩
abbrev S512x256 : Shape := ⟨2, ![512, 256]⟩
abbrev S1024x256 : Shape := ⟨2, ![1024, 256]⟩
abbrev S640x256 : Shape := ⟨2, ![640, 256]⟩
abbrev S512x640 : Shape := ⟨2, ![512, 640]⟩
abbrev S256x256 : Shape := ⟨2, ![256, 256]⟩
abbrev S1 : Shape := ⟨1, ![1]⟩
abbrev S1x1x128x256 : Shape := ⟨4, ![1, 1, 128, 256]⟩

abbrev nBuf : Space → Nat
  | .hbm => 180
  | .vmem => 38
  | .smem => 1
  | _ => 0

abbrev hbmTy0_0 (i : Nat) : BufTy := match i % 128 with
  | 0 => ⟨S8x8192x8x64, .f32⟩
  | 1 => ⟨S8x8192x8x64, .f32⟩
  | 2 => ⟨S8x8192x8x64, .f32⟩
  | 3 => ⟨S8x8192x8x64, .f32⟩
  | 4 => ⟨S8x8192x2x64, .f32⟩
  | 5 => ⟨S8x8192x2x64, .f32⟩
  | 6 => ⟨S8x513, .f32⟩
  | 7 => ⟨S8, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S65536x2x4x64, .f32⟩
  | 15 => ⟨S65536x4x2x64, .f32⟩
  | 16 => ⟨S65536x512, .f32⟩
  | 17 => ⟨S65536x512, .f32⟩
  | 18 => ⟨S65536x512, .f32⟩
  | 19 => ⟨S65536x512, .f32⟩
  | 20 => ⟨S65536x512, .f32⟩
  | 21 => ⟨S65536x512, .f32⟩
  | 22 => ⟨S65536x512, .f32⟩
  | 23 => ⟨S65536x512, .f32⟩
  | 24 => ⟨S65536x128, .f32⟩
  | 25 => ⟨S65536x128, .f32⟩
  | 26 => ⟨S65536x2304, .f32⟩
  | 27 => ⟨S65536x2304, .bf16⟩
  | 28 => ⟨S128, .i32⟩
  | 29 => ⟨S128x1, .i32⟩
  | 30 => ⟨S640, .i32⟩
  | 31 => ⟨S1x640, .i32⟩
  | 32 => ⟨S_, .i32⟩
  | 33 => ⟨S1x640, .i32⟩
  | 34 => ⟨S1x640, .i32⟩
  | 35 => ⟨S_, .i32⟩
  | 36 => ⟨S128x1, .i32⟩
  | 37 => ⟨S128x1, .i32⟩
  | 38 => ⟨S128x640, .i32⟩
  | 39 => ⟨S128x640, .i32⟩
  | 40 => ⟨S128x640, .i32⟩
  | 41 => ⟨S_, .i32⟩
  | 42 => ⟨S128x640, .i32⟩
  | 43 => ⟨S128x640, .i1⟩
  | 44 => ⟨S_, .i32⟩
  | 45 => ⟨S128x640, .i32⟩
  | 46 => ⟨S128x640, .i1⟩
  | 47 => ⟨S128x640, .i1⟩
  | 48 => ⟨S8x383, .f32⟩
  | 49 => ⟨S8x1, .f32⟩
  | 50 => ⟨S8x384, .f32⟩
  | 51 => ⟨S8x767, .f32⟩
  | 52 => ⟨S8x767, .f32⟩
  | 53 => ⟨S_, .i32⟩
  | 54 => ⟨S_, .f32⟩
  | 55 => ⟨S8x768, .f32⟩
  | 56 => ⟨S1x8x1x768, .f32⟩
  | 57 => ⟨S1x8x128x768, .f32⟩
  | 58 => ⟨S8x98304, .f32⟩
  | 59 => ⟨S8x98176, .f32⟩
  | 60 => ⟨S8x128x767, .f32⟩
  | 61 => ⟨S8x128x640, .f32⟩
  | 62 => ⟨S_, .i32⟩
  | 63 => ⟨S1x640, .i32⟩
  | 64 => ⟨S1x640, .i1⟩
  | 65 => ⟨S_, .i32⟩
  | 66 => ⟨S1x640, .i32⟩
  | 67 => ⟨S1x640, .i1⟩
  | 68 => ⟨S_, .i32⟩
  | 69 => ⟨S1x640, .i32⟩
  | 70 => ⟨S1x640, .i1⟩
  | 71 => ⟨S_, .i32⟩
  | 72 => ⟨S1x640, .i32⟩
  | 73 => ⟨S1x640, .i1⟩
  | 74 => ⟨S_, .i32⟩
  | 75 => ⟨S1x640, .i32⟩
  | 76 => ⟨S1x640, .i1⟩
  | 77 => ⟨S1x1x640, .i1⟩
  | 78 => ⟨S1x1x640, .i1⟩
  | 79 => ⟨S1x1x640, .i1⟩
  | 80 => ⟨S1x1x640, .i1⟩
  | 81 => ⟨S1x1x640, .i1⟩
  | 82 => ⟨S5x1x640, .i1⟩
  | 83 => ⟨S1x128x640, .i1⟩
  | 84 => ⟨S5x128x640, .i1⟩
  | 85 => ⟨S5x128x640, .i1⟩
  | 86 => ⟨S5x128x640, .i1⟩
  | 87 => ⟨S5x1x128x640, .i1⟩
  | 88 => ⟨S1x8x128x640, .f32⟩
  | 89 => ⟨S_, .f32⟩
  | 90 => ⟨S_, .f32⟩
  | 91 => ⟨S_, .f32⟩
  | 92 => ⟨S_, .f32⟩
  | 93 => ⟨S1x8x128x640, .f32⟩
  | 94 => ⟨S1x8x128x640, .f32⟩
  | 95 => ⟨S_, .f32⟩
  | 96 => ⟨S_, .f32⟩
  | 97 => ⟨S5x8x128x640, .i1⟩
  | 98 => ⟨S5x8x128x640, .f32⟩
  | 99 => ⟨S5x8x128x640, .f32⟩
  | 100 => ⟨S5x8x128x640, .f32⟩
  | 101 => ⟨S256, .i32⟩
  | 102 => ⟨S1x256, .i32⟩
  | 103 => ⟨S128x256, .i32⟩
  | 104 => ⟨S128x256, .i32⟩
  | 105 => ⟨S128x256, .i32⟩
  | 106 => ⟨S_, .i32⟩
  | 107 => ⟨S128x256, .i32⟩
  | 108 => ⟨S128x256, .i32⟩
  | 109 => ⟨S_, .i32⟩
  | 110 => ⟨S1x256, .i32⟩
  | 111 => ⟨S1x256, .i32⟩
  | 112 => ⟨S_, .i32⟩
  | 113 => ⟨S128x1, .i32⟩
  | 114 => ⟨S128x1, .i32⟩
  | 115 => ⟨S128x256, .i32⟩
  | 116 => ⟨S128x256, .i32⟩
  | 117 => ⟨S128x256, .i32⟩
  | 118 => ⟨S_, .i32⟩
  | 119 => ⟨S128x256, .i32⟩
  | 120 => ⟨S128x256, .i1⟩
  | 121 => ⟨S_, .i32⟩
  | 122 => ⟨S128x256, .i32⟩
  | 123 => ⟨S128x256, .i1⟩
  | 124 => ⟨S128x256, .i1⟩
  | 125 => ⟨S8, .f32⟩
  | 126 => ⟨S_, .f32⟩
  | 127 => ⟨S8, .f32⟩
  | _ => ⟨S8x8192x8x64, .f32⟩

abbrev hbmTy0_1 (i : Nat) : BufTy := match i % 128 with
  | 0 => ⟨S8, .f32⟩
  | 1 => ⟨S_, .f32⟩
  | 2 => ⟨S8, .f32⟩
  | 3 => ⟨S8, .f32⟩
  | 4 => ⟨S_, .f32⟩
  | 5 => ⟨S8, .f32⟩
  | 6 => ⟨S8, .f32⟩
  | 7 => ⟨S_, .f32⟩
  | 8 => ⟨S8, .f32⟩
  | 9 => ⟨S8, .f32⟩
  | 10 => ⟨S8x1x1, .f32⟩
  | 11 => ⟨S8x1x1, .f32⟩
  | 12 => ⟨S128x256, .i32⟩
  | 13 => ⟨S128x256, .f32⟩
  | 14 => ⟨S1x128x256, .f32⟩
  | 15 => ⟨S8x128x256, .f32⟩
  | 16 => ⟨S8x128x256, .f32⟩
  | 17 => ⟨S8x128x256, .f32⟩
  | 18 => ⟨S_, .f32⟩
  | 19 => ⟨S_, .f32⟩
  | 20 => ⟨S_, .f32⟩
  | 21 => ⟨S_, .f32⟩
  | 22 => ⟨S8x128x256, .f32⟩
  | 23 => ⟨S8x128x256, .f32⟩
  | 24 => ⟨S_, .i32⟩
  | 25 => ⟨S1x256, .i32⟩
  | 26 => ⟨S1x256, .i1⟩
  | 27 => ⟨S_, .i32⟩
  | 28 => ⟨S1x256, .i32⟩
  | 29 => ⟨S1x256, .i1⟩
  | 30 => ⟨S1x1x256, .i1⟩
  | 31 => ⟨S1x1x256, .i1⟩
  | 32 => ⟨S2x1x256, .i1⟩
  | 33 => ⟨S1x128x256, .i1⟩
  | 34 => ⟨S2x128x256, .i1⟩
  | 35 => ⟨S2x128x256, .i1⟩
  | 36 => ⟨S2x128x256, .i1⟩
  | 37 => ⟨S2x1x128x256, .i1⟩
  | 38 => ⟨S1x8x128x256, .f32⟩
  | 39 => ⟨S_, .f32⟩
  | 40 => ⟨S_, .f32⟩
  | 41 => ⟨S2x8x128x256, .i1⟩
  | 42 => ⟨S2x8x128x256, .f32⟩
  | 43 => ⟨S2x8x128x256, .f32⟩
  | 44 => ⟨S2x8x128x256, .f32⟩
  | 45 => ⟨S_, .f32⟩
  | 46 => ⟨S_, .f32⟩
  | 47 => ⟨S_, .f32⟩
  | 48 => ⟨S_, .f32⟩
  | 49 => ⟨S8, .f32⟩
  | 50 => ⟨S8, .f32⟩
  | 51 => ⟨S65536x1024, .bf16⟩
  | _ => ⟨S8x8192x8x64, .f32⟩

abbrev hbmTy (i : Nat) : BufTy := match i / 128 with
  | 0 => hbmTy0_0 i
  | 1 => hbmTy0_1 i
  | _ => ⟨S8x8192x8x64, .f32⟩

abbrev bufTy : (tb : Table) → Fin (tcTables nBuf tb) → BufTy
  | .hbm, ⟨i, _⟩ => hbmTy i
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S512x128, .bf16⟩
  | .local _ .vmem, ⟨20, _⟩ => ⟨S1x8x128x640, .f32⟩
  | .local _ .vmem, ⟨21, _⟩ => ⟨S1x8x128x640, .f32⟩
  | .local _ .vmem, ⟨22, _⟩ => ⟨S1x8x128x640, .f32⟩
  | .local _ .vmem, ⟨23, _⟩ => ⟨S1x8x128x640, .f32⟩
  | .local _ .vmem, ⟨24, _⟩ => ⟨S1x8x128x640, .f32⟩
  | .local _ .vmem, ⟨25, _⟩ => ⟨S1x8x128x640, .f32⟩
  | .local _ .vmem, ⟨26, _⟩ => ⟨S1x8x128x640, .f32⟩
  | .local _ .vmem, ⟨27, _⟩ => ⟨S1x8x128x640, .f32⟩
  | .local _ .vmem, ⟨28, _⟩ => ⟨S1x8x128x256, .f32⟩
  | .local _ .vmem, ⟨29, _⟩ => ⟨S1x8x128x256, .f32⟩
  | .local _ .vmem, ⟨30, _⟩ => ⟨S1x8x128x256, .f32⟩
  | .local _ .vmem, ⟨31, _⟩ => ⟨S1x8x128x256, .f32⟩
  | .local _ .vmem, ⟨32, _⟩ => ⟨S1x8x128x256, .f32⟩
  | .local _ .vmem, ⟨33, _⟩ => ⟨S1x8x128x256, .f32⟩
  | .local _ .vmem, ⟨34, _⟩ => ⟨S1x8x128x256, .f32⟩
  | .local _ .vmem, ⟨35, _⟩ => ⟨S1x8x128x256, .f32⟩
  | .local _ .vmem, ⟨36, _⟩ => ⟨S512x1024, .bf16⟩
  | .local _ .vmem, ⟨37, _⟩ => ⟨S512x1024, .bf16⟩
  | .local _ .smem, ⟨0, _⟩ => ⟨S8, .f32⟩
  | _, _ => ⟨S8x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .smem, ⟨0, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c : Ref sig .tc := ⟨.hbm, 32, rfl⟩
abbrev main_v21 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_3 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_5 : Ref sig .tc := ⟨.hbm, 53, rfl⟩
abbrev main_call0_v0 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_6 : Ref sig .tc := ⟨.hbm, 62, rfl⟩
abbrev main_v45 : Ref sig .tc := ⟨.hbm, 63, rfl⟩
abbrev main_v46 : Ref sig .tc := ⟨.hbm, 64, rfl⟩
abbrev main_c_7 : Ref sig .tc := ⟨.hbm, 65, rfl⟩
abbrev main_v47 : Ref sig .tc := ⟨.hbm, 66, rfl⟩
abbrev main_v48 : Ref sig .tc := ⟨.hbm, 67, rfl⟩
abbrev main_c_8 : Ref sig .tc := ⟨.hbm, 68, rfl⟩
abbrev main_v49 : Ref sig .tc := ⟨.hbm, 69, rfl⟩
abbrev main_v50 : Ref sig .tc := ⟨.hbm, 70, rfl⟩
abbrev main_c_9 : Ref sig .tc := ⟨.hbm, 71, rfl⟩
abbrev main_v51 : Ref sig .tc := ⟨.hbm, 72, rfl⟩
abbrev main_v52 : Ref sig .tc := ⟨.hbm, 73, rfl⟩
abbrev main_c_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_11 : Ref sig .tc := ⟨.hbm, 89, rfl⟩
abbrev main_v67 : Ref sig .tc := ⟨.hbm, 90, rfl⟩
abbrev main_cst_12 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_13 : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_call1_v3 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_14 : Ref sig .tc := ⟨.hbm, 106, rfl⟩
abbrev main_v77 : Ref sig .tc := ⟨.hbm, 107, rfl⟩
abbrev main_v78 : Ref sig .tc := ⟨.hbm, 108, rfl⟩
abbrev main_c_15 : Ref sig .tc := ⟨.hbm, 109, rfl⟩
abbrev main_v79 : Ref sig .tc := ⟨.hbm, 110, rfl⟩
abbrev main_v80 : Ref sig .tc := ⟨.hbm, 111, rfl⟩
abbrev main_c_16 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_c_17 : Ref sig .tc := ⟨.hbm, 118, rfl⟩
abbrev main_v86 : Ref sig .tc := ⟨.hbm, 119, rfl⟩
abbrev main_v87 : Ref sig .tc := ⟨.hbm, 120, rfl⟩
abbrev main_c_18 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_19 : Ref sig .tc := ⟨.hbm, 126, rfl⟩
abbrev main_v92 : Ref sig .tc := ⟨.hbm, 127, rfl⟩
abbrev main_v93 : Ref sig .tc := ⟨.hbm, 128, rfl⟩
abbrev main_cst_20 : Ref sig .tc := ⟨.hbm, 129, rfl⟩
abbrev main_v94 : Ref sig .tc := ⟨.hbm, 130, rfl⟩
abbrev main_v95 : Ref sig .tc := ⟨.hbm, 131, rfl⟩
abbrev main_cst_21 : Ref sig .tc := ⟨.hbm, 132, rfl⟩
abbrev main_v96 : Ref sig .tc := ⟨.hbm, 133, rfl⟩
abbrev main_v97 : Ref sig .tc := ⟨.hbm, 134, rfl⟩
abbrev main_cst_22 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_23 : Ref sig .tc := ⟨.hbm, 146, rfl⟩
abbrev main_v108 : Ref sig .tc := ⟨.hbm, 147, rfl⟩
abbrev main_cst_24 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_c_25 : Ref sig .tc := ⟨.hbm, 152, rfl⟩
abbrev main_v112 : Ref sig .tc := ⟨.hbm, 153, rfl⟩
abbrev main_v113 : Ref sig .tc := ⟨.hbm, 154, rfl⟩
abbrev main_c_26 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_cst_27 : Ref sig .tc := ⟨.hbm, 167, rfl⟩
abbrev main_call2_v0 : Ref sig .tc := ⟨.hbm, 168, rfl⟩
abbrev main_call2_v1 : Ref sig .tc := ⟨.hbm, 169, rfl⟩
abbrev main_call2_v2 : Ref sig .tc := ⟨.hbm, 170, rfl⟩
abbrev main_call2_v3 : Ref sig .tc := ⟨.hbm, 171, rfl⟩
abbrev main_v125 : Ref sig .tc := ⟨.hbm, 172, rfl⟩
abbrev main_cst_28 : Ref sig .tc := ⟨.hbm, 173, rfl⟩
abbrev main_v126 : Ref sig .tc := ⟨.hbm, 174, rfl⟩
abbrev main_cst_29 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38

abbrev nD : Nat := 1
abbrev τ : Topo := Topo.v7x

variable {F : FTy → Type} [FloatOps F]

abbrev grid0 : Pipeline.Grid := ⟨2, ![8, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c0_i32_1 : BitVec 32 := 0#32
  let c0_i32_2 : BitVec 32 := 0#32
  ![v3.toNat, c0_i32_1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c1_i32_0 : BitVec 32 := 1#32
  let c0_i32_1 : BitVec 32 := 0#32
  ![v3.toNat, c1_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c1_i32 : BitVec 32 := 1#32
  let c0_i32_1 : BitVec 32 := 0#32
  ![v3.toNat, c1_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c3_i32 : BitVec 32 := 3#32
  let c0_i32_0 : BitVec 32 := 0#32
  ![v3.toNat, c3_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c3_i32 : BitVec 32 := 3#32
  let c0_i32_1 : BitVec 32 := 0#32
  ![v3.toNat, c3_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c2_i32 : BitVec 32 := 2#32
  let c0_i32_1 : BitVec 32 := 0#32
  ![v3.toNat, c2_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c16_i32_0 : BitVec 32 := 16#32
  let c0_i32_1 : BitVec 32 := 0#32
  ![v3.toNat, c16_i32_0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c16_i32_1 : BitVec 32 := 16#32
  let c0_i32_2 : BitVec 32 := 0#32
  ![v3.toNat, c16_i32_1.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c17_i32 : BitVec 32 := 17#32
  let c0_i32_0 : BitVec 32 := 0#32
  ![v3.toNat, c17_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c17_i32 : BitVec 32 := 17#32
  let c0_i32_1 : BitVec 32 := 0#32
  ![v3.toNat, c17_i32.toNat]

def cc0_transform_11 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c0_i32 : BitVec 32 := 0#32
  let v1 : BitVec 32 := Scalar.addi v0 c0_i32
  let c4_i32_0 : BitVec 32 := 4#32
  let v2 : BitVec 32 := Scalar.minsi v1 c4_i32_0
  let c0_i32_1 : BitVec 32 := 0#32
  let c0_i32_2 : BitVec 32 := 0#32
  let c0_i32_3 : BitVec 32 := 0#32
  let c0_i32_4 : BitVec 32 := 0#32
  ![v2.toNat, c0_i32_1.toNat, c0_i32_2.toNat, c0_i32_3.toNat]

def cc0_transform_12 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.addi v0 c1_i32
  let c4_i32_0 : BitVec 32 := 4#32
  let v2 : BitVec 32 := Scalar.minsi v1 c4_i32_0
  let c0_i32 : BitVec 32 := 0#32
  let c0_i32_1 : BitVec 32 := 0#32
  let c0_i32_2 : BitVec 32 := 0#32
  let c0_i32_3 : BitVec 32 := 0#32
  ![v2.toNat, c0_i32.toNat, c0_i32_1.toNat, c0_i32_2.toNat]

def cc0_transform_13 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c2_i32 : BitVec 32 := 2#32
  let v1 : BitVec 32 := Scalar.addi v0 c2_i32
  let c4_i32_0 : BitVec 32 := 4#32
  let v2 : BitVec 32 := Scalar.minsi v1 c4_i32_0
  let c0_i32 : BitVec 32 := 0#32
  let c0_i32_1 : BitVec 32 := 0#32
  let c0_i32_2 : BitVec 32 := 0#32
  let c0_i32_3 : BitVec 32 := 0#32
  ![v2.toNat, c0_i32.toNat, c0_i32_1.toNat, c0_i32_2.toNat]

def cc0_transform_14 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c3_i32 : BitVec 32 := 3#32
  let v1 : BitVec 32 := Scalar.addi v0 c3_i32
  let c4_i32_0 : BitVec 32 := 4#32
  let v2 : BitVec 32 := Scalar.minsi v1 c4_i32_0
  let c0_i32 : BitVec 32 := 0#32
  let c0_i32_1 : BitVec 32 := 0#32
  let c0_i32_2 : BitVec 32 := 0#32
  let c0_i32_3 : BitVec 32 := 0#32
  ![v2.toNat, c0_i32.toNat, c0_i32_1.toNat, c0_i32_2.toNat]

def cc0_transform_15 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c0_i32 : BitVec 32 := 0#32
  let v1 : BitVec 32 := Scalar.addi v0 c0_i32
  let c1_i32 : BitVec 32 := 1#32
  let v2 : BitVec 32 := Scalar.minsi v1 c1_i32
  let c0_i32_0 : BitVec 32 := 0#32
  let c0_i32_1 : BitVec 32 := 0#32
  let c0_i32_2 : BitVec 32 := 0#32
  let c0_i32_3 : BitVec 32 := 0#32
  ![v2.toNat, c0_i32_0.toNat, c0_i32_1.toNat, c0_i32_2.toNat]

def cc0_transform_16 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.addi v0 c1_i32
  let c1_i32_0 : BitVec 32 := 1#32
  let v2 : BitVec 32 := Scalar.minsi v1 c1_i32_0
  let c0_i32 : BitVec 32 := 0#32
  let c0_i32_1 : BitVec 32 := 0#32
  let c0_i32_2 : BitVec 32 := 0#32
  let c0_i32_3 : BitVec 32 := 0#32
  ![v2.toNat, c0_i32.toNat, c0_i32_1.toNat, c0_i32_2.toNat]

def cc0_transform_17 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c2_i32 : BitVec 32 := 2#32
  let v1 : BitVec 32 := Scalar.addi v0 c2_i32
  let c1_i32 : BitVec 32 := 1#32
  let v2 : BitVec 32 := Scalar.minsi v1 c1_i32
  let c0_i32 : BitVec 32 := 0#32
  let c0_i32_0 : BitVec 32 := 0#32
  let c0_i32_1 : BitVec 32 := 0#32
  let c0_i32_2 : BitVec 32 := 0#32
  ![v2.toNat, c0_i32.toNat, c0_i32_0.toNat, c0_i32_1.toNat]

def cc0_transform_18 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c3_i32 : BitVec 32 := 3#32
  let v1 : BitVec 32 := Scalar.addi v0 c3_i32
  let c1_i32 : BitVec 32 := 1#32
  let v2 : BitVec 32 := Scalar.minsi v1 c1_i32
  let c0_i32 : BitVec 32 := 0#32
  let c0_i32_0 : BitVec 32 := 0#32
  let c0_i32_1 : BitVec 32 := 0#32
  let c0_i32_2 : BitVec 32 := 0#32
  ![v2.toNat, c0_i32.toNat, c0_i32_0.toNat, c0_i32_1.toNat]

def cc0_transform_19 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x128x640 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x8x128x640 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x8x128x640 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x8x128x640 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1x8x128x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S1x8x128x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S1x8x128x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]

abbrev stage0_18 : Fin 2 → Memref sig .tc .vmem S1x8x128x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![false, true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== ReferenceIdeal.lean ====
abbrev S8x8192x8x64 : Shape := ⟨4, ![8, 8192, 8, 64]⟩
abbrev S8x8192x2x64 : Shape := ⟨4, ![8, 8192, 2, 64]⟩
abbrev S8x513 : Shape := ⟨2, ![8, 513]⟩
abbrev S8 : Shape := ⟨1, ![8]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S8192x8192x1 : Shape := ⟨3, ![8192, 8192, 1]⟩
abbrev S8x8192x8192 : Shape := ⟨3, ![8, 8192, 8192]⟩
abbrev S8x1x8192x8192 : Shape := ⟨4, ![8, 1, 8192, 8192]⟩
abbrev S8x8192x8x1x64 : Shape := ⟨5, ![8, 8192, 8, 1, 64]⟩
abbrev S8x8x8192x8192x1 : Shape := ⟨5, ![8, 8, 8192, 8192, 1]⟩
abbrev S8x8x1x8192x8192 : Shape := ⟨5, ![8, 8, 1, 8192, 8192]⟩
abbrev S1x8x1x8192x8192 : Shape := ⟨5, ![1, 8, 1, 8192, 8192]⟩
abbrev S8x8x1x8192 : Shape := ⟨4, ![8, 8, 1, 8192]⟩
abbrev S8x8x1x8192x1 : Shape := ⟨5, ![8, 8, 1, 8192, 1]⟩
abbrev S8x8x64x1x8192 : Shape := ⟨5, ![8, 8, 64, 1, 8192]⟩
abbrev S8x1x1 : Shape := ⟨3, ![8, 1, 1]⟩
abbrev S1x8192x8192 : Shape := ⟨3, ![1, 8192, 8192]⟩
abbrev S2x4x8192x8192 : Shape := ⟨4, ![2, 4, 8192, 8192]⟩
abbrev S2x4 : Shape := ⟨2, ![2, 4]⟩
abbrev S8x8192x2x4x64 : Shape := ⟨5, ![8, 8192, 2, 4, 64]⟩
abbrev S8x2x8192x8192x4 : Shape := ⟨5, ![8, 2, 8192, 8192, 4]⟩
abbrev S8x2x4x8192x8192 : Shape := ⟨5, ![8, 2, 4, 8192, 8192]⟩
abbrev S1x2x4x8192x8192 : Shape := ⟨5, ![1, 2, 4, 8192, 8192]⟩
abbrev S1x2x4x1x1 : Shape := ⟨5, ![1, 2, 4, 1, 1]⟩
abbrev S8x2x4x8192 : Shape := ⟨4, ![8, 2, 4, 8192]⟩
abbrev S8x2x4x8192x1 : Shape := ⟨5, ![8, 2, 4, 8192, 1]⟩
abbrev S8x2x64x4x8192 : Shape := ⟨5, ![8, 2, 64, 4, 8192]⟩
abbrev S8x8192x4x2x64 : Shape := ⟨5, ![8, 8192, 4, 2, 64]⟩
abbrev S65536x512 : Shape := ⟨2, ![65536, 512]⟩
abbrev S65536x1024 : Shape := ⟨2, ![65536, 1024]⟩

abbrev nBuf : Space → Nat
  | .hbm => 156
  | .vmem => 0
  | .smem => 0
  | _ => 0

abbrev hbmTy0_0 (i : Nat) : BufTy := match i % 128 with
  | 0 => ⟨S8x8192x8x64, .f32⟩
  | 1 => ⟨S8x8192x8x64, .f32⟩
  | 2 => ⟨S8x8192x8x64, .f32⟩
  | 3 => ⟨S8x8192x8x64, .f32⟩
  | 4 => ⟨S8x8192x2x64, .f32⟩
  | 5 => ⟨S8x8192x2x64, .f32⟩
  | 6 => ⟨S8x513, .f32⟩
  | 7 => ⟨S8, .f32⟩
  | 8 => ⟨S8192, .i32⟩
  | 9 => ⟨S8192x1, .i32⟩
  | 10 => ⟨S1x8192, .i32⟩
  | 11 => ⟨S8192x8192, .i32⟩
  | 12 => ⟨S8192x8192, .i32⟩
  | 13 => ⟨S8192x8192, .i32⟩
  | 14 => ⟨S_, .i32⟩
  | 15 => ⟨S_, .i32⟩
  | 16 => ⟨S_, .i32⟩
  | 17 => ⟨S8192x8192, .i32⟩
  | 18 => ⟨S8192x8192, .i32⟩
  | 19 => ⟨S_, .i32⟩
  | 20 => ⟨S8192x8192, .i32⟩
  | 21 => ⟨S8192x8192, .i32⟩
  | 22 => ⟨S_, .i32⟩
  | 23 => ⟨S8192x8192, .i32⟩
  | 24 => ⟨S8192x8192, .i32⟩
  | 25 => ⟨S_, .i32⟩
  | 26 => ⟨S8192x8192, .i32⟩
  | 27 => ⟨S8192x8192, .i1⟩
  | 28 => ⟨S_, .i32⟩
  | 29 => ⟨S8192x8192, .i32⟩
  | 30 => ⟨S8192x8192, .i32⟩
  | 31 => ⟨S8192x8192, .i32⟩
  | 32 => ⟨S8192x8192x1, .i32⟩
  | 33 => ⟨S8x8192x8192, .f32⟩
  | 34 => ⟨S8x1x8192x8192, .f32⟩
  | 35 => ⟨S8192, .i32⟩
  | 36 => ⟨S_, .i32⟩
  | 37 => ⟨S8192, .i32⟩
  | 38 => ⟨S8192, .i32⟩
  | 39 => ⟨S8192x1, .i32⟩
  | 40 => ⟨S1x8192, .i32⟩
  | 41 => ⟨S8192x8192, .i32⟩
  | 42 => ⟨S8192x8192, .i32⟩
  | 43 => ⟨S8192x8192, .i32⟩
  | 44 => ⟨S_, .i32⟩
  | 45 => ⟨S8192x8192, .i32⟩
  | 46 => ⟨S8192x8192, .i1⟩
  | 47 => ⟨S_, .i32⟩
  | 48 => ⟨S8192x8192, .i32⟩
  | 49 => ⟨S8192x8192, .i1⟩
  | 50 => ⟨S8192x8192, .i1⟩
  | 51 => ⟨S8x8192x8x1x64, .f32⟩
  | 52 => ⟨S8x8x8192x8192x1, .f32⟩
  | 53 => ⟨S8x8x1x8192x8192, .f32⟩
  | 54 => ⟨S_, .f32⟩
  | 55 => ⟨S8x8x1x8192x8192, .f32⟩
  | 56 => ⟨S8x8x1x8192x8192, .f32⟩
  | 57 => ⟨S1x8x1x8192x8192, .f32⟩
  | 58 => ⟨S8x8x1x8192x8192, .f32⟩
  | 59 => ⟨S8x8x1x8192x8192, .f32⟩
  | 60 => ⟨S_, .f32⟩
  | 61 => ⟨S_, .f32⟩
  | 62 => ⟨S8x8x1x8192x8192, .i1⟩
  | 63 => ⟨S8x8x1x8192x8192, .f32⟩
  | 64 => ⟨S8x8x1x8192x8192, .f32⟩
  | 65 => ⟨S_, .f32⟩
  | 66 => ⟨S8x8x1x8192, .f32⟩
  | 67 => ⟨S8x8x1x8192x1, .f32⟩
  | 68 => ⟨S8x8x1x8192x8192, .f32⟩
  | 69 => ⟨S8x8x1x8192x8192, .f32⟩
  | 70 => ⟨S8x8x1x8192x8192, .f32⟩
  | 71 => ⟨S_, .f32⟩
  | 72 => ⟨S8x8x1x8192, .f32⟩
  | 73 => ⟨S8x8x1x8192x1, .f32⟩
  | 74 => ⟨S8x8x1x8192x8192, .f32⟩
  | 75 => ⟨S8x8x1x8192x8192, .f32⟩
  | 76 => ⟨S8x8x64x1x8192, .f32⟩
  | 77 => ⟨S8x8192x8x1x64, .f32⟩
  | 78 => ⟨S8, .f32⟩
  | 79 => ⟨S_, .f32⟩
  | 80 => ⟨S8, .f32⟩
  | 81 => ⟨S8, .f32⟩
  | 82 => ⟨S_, .f32⟩
  | 83 => ⟨S8, .f32⟩
  | 84 => ⟨S8, .f32⟩
  | 85 => ⟨S_, .f32⟩
  | 86 => ⟨S8, .f32⟩
  | 87 => ⟨S8, .f32⟩
  | 88 => ⟨S_, .f32⟩
  | 89 => ⟨S8, .f32⟩
  | 90 => ⟨S8, .f32⟩
  | 91 => ⟨S8x1x1, .f32⟩
  | 92 => ⟨S8x1x1, .f32⟩
  | 93 => ⟨S8192x8192, .i32⟩
  | 94 => ⟨S8192x8192, .f32⟩
  | 95 => ⟨S1x8192x8192, .f32⟩
  | 96 => ⟨S8x8192x8192, .f32⟩
  | 97 => ⟨S8x8192x8192, .f32⟩
  | 98 => ⟨S8x8192x8192, .f32⟩
  | 99 => ⟨S2x4x8192x8192, .f32⟩
  | 100 => ⟨S2x4, .f32⟩
  | 101 => ⟨S8192, .i32⟩
  | 102 => ⟨S_, .i32⟩
  | 103 => ⟨S8192, .i32⟩
  | 104 => ⟨S8192, .i32⟩
  | 105 => ⟨S8192x1, .i32⟩
  | 106 => ⟨S1x8192, .i32⟩
  | 107 => ⟨S8192x8192, .i32⟩
  | 108 => ⟨S8192x8192, .i32⟩
  | 109 => ⟨S8192x8192, .i32⟩
  | 110 => ⟨S_, .i32⟩
  | 111 => ⟨S8192x8192, .i32⟩
  | 112 => ⟨S8192x8192, .i1⟩
  | 113 => ⟨S_, .i32⟩
  | 114 => ⟨S8192x8192, .i32⟩
  | 115 => ⟨S8192x8192, .i1⟩
  | 116 => ⟨S8192x8192, .i1⟩
  | 117 => ⟨S8x8192x2x4x64, .f32⟩
  | 118 => ⟨S8x2x8192x8192x4, .f32⟩
  | 119 => ⟨S8x2x4x8192x8192, .f32⟩
  | 120 => ⟨S_, .f32⟩
  | 121 => ⟨S8x2x4x8192x8192, .f32⟩
  | 122 => ⟨S8x2x4x8192x8192, .f32⟩
  | 123 => ⟨S1x2x4x8192x8192, .f32⟩
  | 124 => ⟨S8x2x4x8192x8192, .f32⟩
  | 125 => ⟨S8x2x4x8192x8192, .f32⟩
  | 126 => ⟨S_, .f32⟩
  | 127 => ⟨S_, .f32⟩
  | _ => ⟨S8x8192x8x64, .f32⟩

abbrev hbmTy0_1 (i : Nat) : BufTy := match i % 128 with
  | 0 => ⟨S8x2x4x8192x8192, .i1⟩
  | 1 => ⟨S8x2x4x8192x8192, .f32⟩
  | 2 => ⟨S8x2x4x8192x8192, .f32⟩
  | 3 => ⟨S1x2x4x1x1, .f32⟩
  | 4 => ⟨S_, .f32⟩
  | 5 => ⟨S8x2x4x8192, .f32⟩
  | 6 => ⟨S8x2x4x8192x1, .f32⟩
  | 7 => ⟨S8x2x4x8192x1, .f32⟩
  | 8 => ⟨S8x2x4x8192x1, .f32⟩
  | 9 => ⟨S8x2x4x8192x8192, .f32⟩
  | 10 => ⟨S8x2x4x8192x8192, .f32⟩
  | 11 => ⟨S8x2x4x8192x8192, .f32⟩
  | 12 => ⟨S_, .f32⟩
  | 13 => ⟨S8x2x4x8192, .f32⟩
  | 14 => ⟨S8x2x4x8192x1, .f32⟩
  | 15 => ⟨S8x2x4x8192x1, .f32⟩
  | 16 => ⟨S8x2x4x8192x1, .f32⟩
  | 17 => ⟨S8x2x4x8192x1, .f32⟩
  | 18 => ⟨S8x2x4x8192x1, .f32⟩
  | 19 => ⟨S8x2x4x8192x8192, .f32⟩
  | 20 => ⟨S8x2x4x8192x8192, .f32⟩
  | 21 => ⟨S8x2x64x4x8192, .f32⟩
  | 22 => ⟨S8x8192x2x4x64, .f32⟩
  | 23 => ⟨S8x8192x4x2x64, .f32⟩
  | 24 => ⟨S65536x512, .f32⟩
  | 25 => ⟨S65536x512, .f32⟩
  | 26 => ⟨S65536x1024, .f32⟩
  | 27 => ⟨S65536x1024, .bf16⟩
  | _ => ⟨S8x8192x8x64, .f32⟩

abbrev hbmTy (i : Nat) : BufTy := match i / 128 with
  | 0 => hbmTy0_0 i
  | 1 => hbmTy0_1 i
  | _ => ⟨S8x8192x8x64, .f32⟩

abbrev bufTy : (tb : Table) → Fin (tcTables nBuf tb) → BufTy
  | .hbm, ⟨i, _⟩ => hbmTy i
  | _, _ => ⟨S8x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_c_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v38 : Ref sig .tc := ⟨.hbm, 64, rfl⟩
abbrev main_cst_8 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_9 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_10 : Ref sig .tc := ⟨.hbm, 79, rfl⟩
abbrev main_v51 : Ref sig .tc := ⟨.hbm, 80, rfl⟩
abbrev main_v52 : Ref sig .tc := ⟨.hbm, 81, rfl⟩
abbrev main_cst_11 : Ref sig .tc := ⟨.hbm, 82, rfl⟩
abbrev main_v53 : Ref sig .tc := ⟨.hbm, 83, rfl⟩
abbrev main_v54 : Ref sig .tc := ⟨.hbm, 84, rfl⟩
abbrev main_cst_12 : Ref sig .tc := ⟨.hbm, 85, rfl⟩
abbrev main_v55 : Ref sig .tc := ⟨.hbm, 86, rfl⟩
abbrev main_v56 : Ref sig .tc := ⟨.hbm, 87, rfl⟩
abbrev main_cst_13 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_c_14 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_15 : Ref sig .tc := ⟨.hbm, 110, rfl⟩
abbrev main_v77 : Ref sig .tc := ⟨.hbm, 111, rfl⟩
abbrev main_v78 : Ref sig .tc := ⟨.hbm, 112, rfl⟩
abbrev main_c_16 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_17 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_18 : Ref sig .tc := ⟨.hbm, 126, rfl⟩
abbrev main_call2_v0 : Ref sig .tc := ⟨.hbm, 127, rfl⟩
abbrev main_call2_v1 : Ref sig .tc := ⟨.hbm, 128, rfl⟩
abbrev main_call2_v2 : Ref sig .tc := ⟨.hbm, 129, rfl⟩
abbrev main_v90 : Ref sig .tc := ⟨.hbm, 130, rfl⟩
abbrev main_v91 : Ref sig .tc := ⟨.hbm, 131, rfl⟩
abbrev main_cst_19 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_20 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩

abbrev nD : Nat := 1
abbrev τ : Topo := Topo.v7x

variable {F : FTy → Type} [FloatOps F]
-- ==== Kernel2.lean ====
abbrev S8x8192x2048 : Shape := ⟨3, ![8, 8192, 2048]⟩
abbrev S8x8192x1024 : Shape := ⟨3, ![8, 8192, 1024]⟩
abbrev S2048 : Shape := ⟨1, ![2048]⟩
abbrev S2048x1024 : Shape := ⟨2, ![2048, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S65536x2048 : Shape := ⟨2, ![65536, 2048]⟩
abbrev S65536x1024 : Shape := ⟨2, ![65536, 1024]⟩
abbrev S1x1024 : Shape := ⟨2, ![1, 1024]⟩
abbrev S1x2816 : Shape := ⟨2, ![1, 2816]⟩
abbrev S1x2048 : Shape := ⟨2, ![1, 2048]⟩
abbrev S512x2048 : Shape := ⟨2, ![512, 2048]⟩
abbrev S512x1024 : Shape := ⟨2, ![512, 1024]⟩
abbrev S8x2816 : Shape := ⟨2, ![8, 2816]⟩
abbrev S256x2048 : Shape := ⟨2, ![256, 2048]⟩
abbrev S256x512 : Shape := ⟨2, ![256, 512]⟩
abbrev S1x512 : Shape := ⟨2, ![1, 512]⟩
abbrev S256 : Shape := ⟨1, ![256]⟩
abbrev S256x1 : Shape := ⟨2, ![256, 1]⟩
abbrev S256x1024 : Shape := ⟨2, ![256, 1024]⟩
abbrev S1024x2816 : Shape := ⟨2, ![1024, 2816]⟩
abbrev S256x2816 : Shape := ⟨2, ![256, 2816]⟩
abbrev S8x1 : Shape := ⟨2, ![8, 1]⟩
abbrev S248x2816 : Shape := ⟨2, ![248, 2816]⟩

abbrev nBuf : Space → Nat
  | .hbm => 22
  | .vmem => 16
  | .smem => 0
  | _ => 0

abbrev bufTy : (tb : Table) → Fin (tcTables nBuf tb) → BufTy
  | .hbm, ⟨0, _⟩ => ⟨S8x8192x2048, .f32⟩
  | .hbm, ⟨1, _⟩ => ⟨S8x8192x2048, .f32⟩
  | .hbm, ⟨2, _⟩ => ⟨S8x8192x1024, .f32⟩
  | .hbm, ⟨3, _⟩ => ⟨S2048, .f32⟩
  | .hbm, ⟨4, _⟩ => ⟨S2048x1024, .f32⟩
  | .hbm, ⟨5, _⟩ => ⟨S1024, .f32⟩
  | .hbm, ⟨6, _⟩ => ⟨S1024x5632, .f32⟩
  | .hbm, ⟨7, _⟩ => ⟨S3x2816, .f32⟩
  | .hbm, ⟨8, _⟩ => ⟨S2816, .f32⟩
  | .hbm, ⟨9, _⟩ => ⟨S2816x1024, .f32⟩
  | .hbm, ⟨10, _⟩ => ⟨S65536x2048, .f32⟩
  | .hbm, ⟨11, _⟩ => ⟨S65536x2048, .bf16⟩
  | .hbm, ⟨12, _⟩ => ⟨S65536x1024, .f32⟩
  | .hbm, ⟨13, _⟩ => ⟨S2048x1024, .bf16⟩
  | .hbm, ⟨14, _⟩ => ⟨S1x1024, .f32⟩
  | .hbm, ⟨15, _⟩ => ⟨S1024x5632, .bf16⟩
  | .hbm, ⟨16, _⟩ => ⟨S1x2816, .f32⟩
  | .hbm, ⟨17, _⟩ => ⟨S2816x1024, .bf16⟩
  | .hbm, ⟨18, _⟩ => ⟨S65536x2048, .f32⟩
  | .hbm, ⟨19, _⟩ => ⟨S65536x2048, .bf16⟩
  | .hbm, ⟨20, _⟩ => ⟨S1x2048, .f32⟩
  | .hbm, ⟨21, _⟩ => ⟨S65536x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S512x1024, .f32⟩
  | .local _ .vmem, ⟨6, _⟩ => ⟨S512x1024, .f32⟩
  | .local _ .vmem, ⟨7, _⟩ => ⟨S2048x1024, .bf16⟩
  | .local _ .vmem, ⟨8, _⟩ => ⟨S1x1024, .f32⟩
  | .local _ .vmem, ⟨9, _⟩ => ⟨S1024x5632, .bf16⟩
  | .local _ .vmem, ⟨10, _⟩ => ⟨S3x2816, .f32⟩
  | .local _ .vmem, ⟨11, _⟩ => ⟨S1x2816, .f32⟩
  | .local _ .vmem, ⟨12, _⟩ => ⟨S2816x1024, .bf16⟩
  | .local _ .vmem, ⟨13, _⟩ => ⟨S512x1024, .f32⟩
  | .local _ .vmem, ⟨14, _⟩ => ⟨S512x1024, .f32⟩
  | .local _ .vmem, ⟨15, _⟩ => ⟨S8x2816, .f32⟩
  | _, _ => ⟨S8x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S8x8192x2048 : Shape := ⟨3, ![8, 8192, 2048]⟩
abbrev S8x8192x1024 : Shape := ⟨3, ![8, 8192, 1024]⟩
abbrev S2048 : Shape := ⟨1, ![2048]⟩
abbrev S2048x1024 : Shape := ⟨2, ![2048, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S8x8192x4x512 : Shape := ⟨4, ![8, 8192, 4, 512]⟩
abbrev S8x8192x4 : Shape := ⟨3, ![8, 8192, 4]⟩
abbrev S8x8192x4x1 : Shape := ⟨4, ![8, 8192, 4, 1]⟩
abbrev S1x1x2048 : Shape := ⟨3, ![1, 1, 2048]⟩
abbrev S8x8192 : Shape := ⟨2, ![8, 8192]⟩
abbrev S8x8192x1 : Shape := ⟨3, ![8, 8192, 1]⟩
abbrev S1x1x1024 : Shape := ⟨3, ![1, 1, 1024]⟩
abbrev S8x8192x5632 : Shape := ⟨3, ![8, 8192, 5632]⟩
abbrev S8x8192x2816 : Shape := ⟨3, ![8, 8192, 2816]⟩
abbrev S8x8194x2816 : Shape := ⟨3, ![8, 8194, 2816]⟩
abbrev S1x2816 : Shape := ⟨2, ![1, 2816]⟩
abbrev S1x1x2816 : Shape := ⟨3, ![1, 1, 2816]⟩
abbrev S65536x1024 : Shape := ⟨2, ![65536, 1024]⟩

abbrev nBuf : Space → Nat
  | .hbm => 101
  | .vmem => 0
  | .smem => 0
  | _ => 0

abbrev bufTy : (tb : Table) → Fin (tcTables nBuf tb) → BufTy
  | .hbm, ⟨0, _⟩ => ⟨S8x8192x2048, .f32⟩
  | .hbm, ⟨1, _⟩ => ⟨S8x8192x2048, .f32⟩
  | .hbm, ⟨2, _⟩ => ⟨S8x8192x1024, .f32⟩
  | .hbm, ⟨3, _⟩ => ⟨S2048, .f32⟩
  | .hbm, ⟨4, _⟩ => ⟨S2048x1024, .f32⟩
  | .hbm, ⟨5, _⟩ => ⟨S1024, .f32⟩
  | .hbm, ⟨6, _⟩ => ⟨S1024x5632, .f32⟩
  | .hbm, ⟨7, _⟩ => ⟨S3x2816, .f32⟩
  | .hbm, ⟨8, _⟩ => ⟨S2816, .f32⟩
  | .hbm, ⟨9, _⟩ => ⟨S2816x1024, .f32⟩
  | .hbm, ⟨10, _⟩ => ⟨S8x8192x2048, .f32⟩
  | .hbm, ⟨11, _⟩ => ⟨S8x8192x2048, .f32⟩
  | .hbm, ⟨12, _⟩ => ⟨S_, .f32⟩
  | .hbm, ⟨13, _⟩ => ⟨S8x8192x2048, .f32⟩
  | .hbm, ⟨14, _⟩ => ⟨S8x8192x2048, .f32⟩
  | .hbm, ⟨15, _⟩ => ⟨S_, .f32⟩
  | .hbm, ⟨16, _⟩ => ⟨S8x8192x2048, .f32⟩
  | .hbm, ⟨17, _⟩ => ⟨S8x8192x2048, .f32⟩
  | .hbm, ⟨18, _⟩ => ⟨S8x8192x2048, .f32⟩
  | .hbm, ⟨19, _⟩ => ⟨S8x8192x2048, .f32⟩
  | .hbm, ⟨20, _⟩ => ⟨S8x8192x4x512, .f32⟩
  | .hbm, ⟨21, _⟩ => ⟨S8x8192x4x512, .f32⟩
  | .hbm, ⟨22, _⟩ => ⟨S_, .f32⟩
  | .hbm, ⟨23, _⟩ => ⟨S8x8192x4, .f32⟩
  | .hbm, ⟨24, _⟩ => ⟨S8x8192x4x1, .f32⟩
  | .hbm, ⟨25, _⟩ => ⟨S_, .f32⟩
  | .hbm, ⟨26, _⟩ => ⟨S8x8192x4x1, .f32⟩
  | .hbm, ⟨27, _⟩ => ⟨S8x8192x4x1, .f32⟩
  | .hbm, ⟨28, _⟩ => ⟨S_, .f32⟩
  | .hbm, ⟨29, _⟩ => ⟨S8x8192x4x1, .f32⟩
  | .hbm, ⟨30, _⟩ => ⟨S8x8192x4x1, .f32⟩
  | .hbm, ⟨31, _⟩ => ⟨S8x8192x4x1, .f32⟩
  | .hbm, ⟨32, _⟩ => ⟨S8x8192x4x512, .f32⟩
  | .hbm, ⟨33, _⟩ => ⟨S8x8192x4x512, .f32⟩
  | .hbm, ⟨34, _⟩ => ⟨S8x8192x2048, .f32⟩
  | .hbm, ⟨35, _⟩ => ⟨S1x1x2048, .f32⟩
  | .hbm, ⟨36, _⟩ => ⟨S8x8192x2048, .f32⟩
  | .hbm, ⟨37, _⟩ => ⟨S8x8192x2048, .f32⟩
  | .hbm, ⟨38, _⟩ => ⟨S8x8192x1024, .f32⟩
  | .hbm, ⟨39, _⟩ => ⟨S8x8192x1024, .f32⟩
  | .hbm, ⟨40, _⟩ => ⟨S8x8192x1024, .f32⟩
  | .hbm, ⟨41, _⟩ => ⟨S_, .f32⟩
  | .hbm, ⟨42, _⟩ => ⟨S8x8192, .f32⟩
  | .hbm, ⟨43, _⟩ => ⟨S8x8192x1, .f32⟩
  | .hbm, ⟨44, _⟩ => ⟨S_, .f32⟩
  | .hbm, ⟨45, _⟩ => ⟨S8x8192x1, .f32⟩
  | .hbm, ⟨46, _⟩ => ⟨S8x8192x1, .f32⟩
  | .hbm, ⟨47, _⟩ => ⟨S_, .f32⟩
  | .hbm, ⟨48, _⟩ => ⟨S8x8192x1, .f32⟩
  | .hbm, ⟨49, _⟩ => ⟨S8x8192x1, .f32⟩
  | .hbm, ⟨50, _⟩ => ⟨S8x8192x1, .f32⟩
  | .hbm, ⟨51, _⟩ => ⟨S8x8192x1024, .f32⟩
  | .hbm, ⟨52, _⟩ => ⟨S8x8192x1024, .f32⟩
  | .hbm, ⟨53, _⟩ => ⟨S1x1x1024, .f32⟩
  | .hbm, ⟨54, _⟩ => ⟨S8x8192x1024, .f32⟩
  | .hbm, ⟨55, _⟩ => ⟨S8x8192x1024, .f32⟩
  | .hbm, ⟨56, _⟩ => ⟨S8x8192x5632, .f32⟩
  | .hbm, ⟨57, _⟩ => ⟨S8x8192x2816, .f32⟩
  | .hbm, ⟨58, _⟩ => ⟨S8x8192x2816, .f32⟩
  | .hbm, ⟨59, _⟩ => ⟨S_, .i32⟩
  | .hbm, ⟨60, _⟩ => ⟨S_, .f32⟩
  | .hbm, ⟨61, _⟩ => ⟨S8x8194x2816, .f32⟩
  | .hbm, ⟨62, _⟩ => ⟨S8x8192x2816, .f32⟩
  | .hbm, ⟨63, _⟩ => ⟨S1x2816, .f32⟩
  | .hbm, ⟨64, _⟩ => ⟨S2816, .f32⟩
  | .hbm, ⟨65, _⟩ => ⟨S1x1x2816, .f32⟩
  | .hbm, ⟨66, _⟩ => ⟨S8x8192x2816, .f32⟩
  | .hbm, ⟨67, _⟩ => ⟨S8x8192x2816, .f32⟩
  | .hbm, ⟨68, _⟩ => ⟨S_, .f32⟩
  | .hbm, ⟨69, _⟩ => ⟨S8x8192x2816, .f32⟩
  | .hbm, ⟨70, _⟩ => ⟨S8x8192x2816, .f32⟩
  | .hbm, ⟨71, _⟩ => ⟨S8x8192x2816, .f32⟩
  | .hbm, ⟨72, _⟩ => ⟨S1x2816, .f32⟩
  | .hbm, ⟨73, _⟩ => ⟨S2816, .f32⟩
  | .hbm, ⟨74, _⟩ => ⟨S1x1x2816, .f32⟩
  | .hbm, ⟨75, _⟩ => ⟨S8x8192x2816, .f32⟩
  | .hbm, ⟨76, _⟩ => ⟨S8x8192x2816, .f32⟩
  | .hbm, ⟨77, _⟩ => ⟨S8x8192x2816, .f32⟩
  | .hbm, ⟨78, _⟩ => ⟨S8x8192x2816, .f32⟩
  | .hbm, ⟨79, _⟩ => ⟨S1x2816, .f32⟩
  | .hbm, ⟨80, _⟩ => ⟨S2816, .f32⟩
  | .hbm, ⟨81, _⟩ => ⟨S1x1x2816, .f32⟩
  | .hbm, ⟨82, _⟩ => ⟨S8x8192x2816, .f32⟩
  | .hbm, ⟨83, _⟩ => ⟨S8x8192x2816, .f32⟩
  | .hbm, ⟨84, _⟩ => ⟨S8x8192x2816, .f32⟩
  | .hbm, ⟨85, _⟩ => ⟨S1x1x2816, .f32⟩
  | .hbm, ⟨86, _⟩ => ⟨S8x8192x2816, .f32⟩
  | .hbm, ⟨87, _⟩ => ⟨S8x8192x2816, .f32⟩
  | .hbm, ⟨88, _⟩ => ⟨S8x8192x2816, .f32⟩
  | .hbm, ⟨89, _⟩ => ⟨S8x8192x2816, .f32⟩
  | .hbm, ⟨90, _⟩ => ⟨S_, .f32⟩
  | .hbm, ⟨91, _⟩ => ⟨S8x8192x2816, .f32⟩
  | .hbm, ⟨92, _⟩ => ⟨S8x8192x2816, .f32⟩
  | .hbm, ⟨93, _⟩ => ⟨S_, .f32⟩
  | .hbm, ⟨94, _⟩ => ⟨S8x8192x2816, .f32⟩
  | .hbm, ⟨95, _⟩ => ⟨S8x8192x2816, .f32⟩
  | .hbm, ⟨96, _⟩ => ⟨S8x8192x2816, .f32⟩
  | .hbm, ⟨97, _⟩ => ⟨S8x8192x2816, .f32⟩
  | .hbm, ⟨98, _⟩ => ⟨S8x8192x1024, .f32⟩
  | .hbm, ⟨99, _⟩ => ⟨S8x8192x1024, .f32⟩
  | .hbm, ⟨100, _⟩ => ⟨S65536x1024, .f32⟩
  | _, _ => ⟨S8x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_cst_0 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_2 : Ref sig .tc := ⟨.hbm, 41, rfl⟩
abbrev main_v20 : Ref sig .tc := ⟨.hbm, 42, rfl⟩
abbrev main_v21 : Ref sig .tc := ⟨.hbm, 43, rfl⟩
abbrev main_cst_3 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c : Ref sig .tc := ⟨.hbm, 59, rfl⟩
abbrev main_call1_v0 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_5 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_call2_v0 : Ref sig .tc := ⟨.hbm, 88, rfl⟩
abbrev main_call2_v1 : Ref sig .tc := ⟨.hbm, 89, rfl⟩
abbrev main_call2_cst : Ref sig .tc := ⟨.hbm, 90, rfl⟩
abbrev main_call2_v2 : Ref sig .tc := ⟨.hbm, 91, rfl⟩
abbrev main_call2_v3 : Ref sig .tc := ⟨.hbm, 92, rfl⟩
abbrev main_call2_cst_0 : Ref sig .tc := ⟨.hbm, 93, rfl⟩
abbrev main_call2_v4 : Ref sig .tc := ⟨.hbm, 94, rfl⟩
abbrev main_call2_v5 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩

abbrev nD : Nat := 1
abbrev τ : Topo := Topo.v7x

variable {F : FTy → Type} [FloatOps F]
-- ==== Kernel3.lean ====
abbrev S8x8192x1024 : Shape := ⟨3, ![8, 8192, 1024]⟩
abbrev S1024x1024 : Shape := ⟨2, ![1024, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S512 : Shape := ⟨1, ![512]⟩
abbrev S512x1024 : Shape := ⟨2, ![512, 1024]⟩
abbrev S_ : Shape := ⟨0, ![]⟩
abbrev S512x1 : Shape := ⟨2, ![512, 1]⟩
abbrev S65536x1024 : Shape := ⟨2, ![65536, 1024]⟩
abbrev S65536x512 : Shape := ⟨2, ![65536, 512]⟩
abbrev S65536x2x4x64 : Shape := ⟨4, ![65536, 2, 4, 64]⟩
abbrev S65536x4x2x64 : Shape := ⟨4, ![65536, 4, 2, 64]⟩
abbrev S1x1024 : Shape := ⟨2, ![1, 1024]⟩
abbrev S1x2816 : Shape := ⟨2, ![1, 2816]⟩
abbrev S8x2816 : Shape := ⟨2, ![8, 2816]⟩
abbrev S256x1024 : Shape := ⟨2, ![256, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S8x1 : Shape := ⟨2, ![8, 1]⟩
abbrev S248x2816 : Shape := ⟨2, ![248, 2816]⟩

abbrev nBuf : Space → Nat
  | .hbm => 34
  | .vmem => 13
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S3x2816, .f32⟩
  | .hbm, ⟨6, _⟩ => ⟨S2816, .f32⟩
  | .hbm, ⟨7, _⟩ => ⟨S2816x1024, .f32⟩
  | .hbm, ⟨8, _⟩ => ⟨S512, .i32⟩
  | .hbm, ⟨9, _⟩ => ⟨S512, .i1⟩
  | .hbm, ⟨10, _⟩ => ⟨S512x1024, .f32⟩
  | .hbm, ⟨11, _⟩ => ⟨S512x1024, .f32⟩
  | .hbm, ⟨12, _⟩ => ⟨S_, .i32⟩
  | .hbm, ⟨13, _⟩ => ⟨S512, .i32⟩
  | .hbm, ⟨14, _⟩ => ⟨S512, .i32⟩
  | .hbm, ⟨15, _⟩ => ⟨S512, .i32⟩
  | .hbm, ⟨16, _⟩ => ⟨S512x1, .i32⟩
  | .hbm, ⟨17, _⟩ => ⟨S512x1024, .f32⟩
  | .hbm, ⟨18, _⟩ => ⟨S1024x1024, .f32⟩
  | .hbm, ⟨19, _⟩ => ⟨S1024x1024, .bf16⟩
  | .hbm, ⟨20, _⟩ => ⟨S65536x1024, .f32⟩
  | .hbm, ⟨21, _⟩ => ⟨S65536x512, .f32⟩
  | .hbm, ⟨22, _⟩ => ⟨S65536x2x4x64, .f32⟩
  | .hbm, ⟨23, _⟩ => ⟨S65536x4x2x64, .f32⟩
  | .hbm, ⟨24, _⟩ => ⟨S65536x512, .f32⟩
  | .hbm, ⟨25, _⟩ => ⟨S65536x512, .f32⟩
  | .hbm, ⟨26, _⟩ => ⟨S65536x1024, .f32⟩
  | .hbm, ⟨27, _⟩ => ⟨S65536x1024, .bf16⟩
  | .hbm, ⟨28, _⟩ => ⟨S65536x1024, .f32⟩
  | .hbm, ⟨29, _⟩ => ⟨S1x1024, .f32⟩
  | .hbm, ⟨30, _⟩ => ⟨S1024x5632, .bf16⟩
  | .hbm, ⟨31, _⟩ => ⟨S1x2816, .f32⟩
  | .hbm, ⟨32, _⟩ => ⟨S2816x1024, .bf16⟩
  | .hbm, ⟨33, _⟩ => ⟨S65536x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1024x5632, .bf16⟩
  | .local _ .vmem, ⟨7, _⟩ => ⟨S3x2816, .f32⟩
  | .local _ .vmem, ⟨8, _⟩ => ⟨S1x2816, .f32⟩
  | .local _ .vmem, ⟨9, _⟩ => ⟨S2816x1024, .bf16⟩
  | .local _ .vmem, ⟨10, _⟩ => ⟨S512x1024, .f32⟩
  | .local _ .vmem, ⟨11, _⟩ => ⟨S512x1024, .f32⟩
  | .local _ .vmem, ⟨12, _⟩ => ⟨S8x2816, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_v0 : Ref sig .tc := ⟨.hbm, 10, rfl⟩
abbrev main_v1 : Ref sig .tc := ⟨.hbm, 11, rfl⟩
abbrev main_c_1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S8x8192x1024 : Shape := ⟨3, ![8, 8192, 1024]⟩
abbrev S1024x1024 : Shape := ⟨2, ![1024, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x5632 : Shape := ⟨3, ![8, 8192, 5632]⟩
abbrev S8x8192x2816 : Shape := ⟨3, ![8, 8192, 2816]⟩
abbrev S8x8194x2816 : Shape := ⟨3, ![8, 8194, 2816]⟩
abbrev S1x2816 : Shape := ⟨2, ![1, 2816]⟩
abbrev S1x1x2816 : Shape := ⟨3, ![1, 1, 2816]⟩
abbrev S65536x1024 : Shape := ⟨2, ![65536, 1024]⟩

abbrev nBuf : Space → Nat
  | .hbm => 71
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S3x2816, .f32⟩
  | .hbm, ⟨6, _⟩ => ⟨S2816, .f32⟩
  | .hbm, ⟨7, _⟩ => ⟨S2816x1024, .f32⟩
  | .hbm, ⟨8, _⟩ => ⟨S8x8192x1024, .f32⟩
  | .hbm, ⟨9, _⟩ => ⟨S8x8192x1024, .f32⟩
  | .hbm, ⟨10, _⟩ => ⟨S8x8192x1024, .f32⟩
  | .hbm, ⟨11, _⟩ => ⟨S_, .f32⟩
  | .hbm, ⟨12, _⟩ => ⟨S8x8192, .f32⟩
  | .hbm, ⟨13, _⟩ => ⟨S8x8192x1, .f32⟩
  | .hbm, ⟨14, _⟩ => ⟨S_, .f32⟩
  | .hbm, ⟨15, _⟩ => ⟨S8x8192x1, .f32⟩
  | .hbm, ⟨16, _⟩ => ⟨S8x8192x1, .f32⟩
  | .hbm, ⟨17, _⟩ => ⟨S_, .f32⟩
  | .hbm, ⟨18, _⟩ => ⟨S8x8192x1, .f32⟩
  | .hbm, ⟨19, _⟩ => ⟨S8x8192x1, .f32⟩
  | .hbm, ⟨20, _⟩ => ⟨S8x8192x1, .f32⟩
  | .hbm, ⟨21, _⟩ => ⟨S8x8192x1024, .f32⟩
  | .hbm, ⟨22, _⟩ => ⟨S8x8192x1024, .f32⟩
  | .hbm, ⟨23, _⟩ => ⟨S1x1x1024, .f32⟩
  | .hbm, ⟨24, _⟩ => ⟨S8x8192x1024, .f32⟩
  | .hbm, ⟨25, _⟩ => ⟨S8x8192x1024, .f32⟩
  | .hbm, ⟨26, _⟩ => ⟨S8x8192x5632, .f32⟩
  | .hbm, ⟨27, _⟩ => ⟨S8x8192x2816, .f32⟩
  | .hbm, ⟨28, _⟩ => ⟨S8x8192x2816, .f32⟩
  | .hbm, ⟨29, _⟩ => ⟨S_, .i32⟩
  | .hbm, ⟨30, _⟩ => ⟨S_, .f32⟩
  | .hbm, ⟨31, _⟩ => ⟨S8x8194x2816, .f32⟩
  | .hbm, ⟨32, _⟩ => ⟨S8x8192x2816, .f32⟩
  | .hbm, ⟨33, _⟩ => ⟨S1x2816, .f32⟩
  | .hbm, ⟨34, _⟩ => ⟨S2816, .f32⟩
  | .hbm, ⟨35, _⟩ => ⟨S1x1x2816, .f32⟩
  | .hbm, ⟨36, _⟩ => ⟨S8x8192x2816, .f32⟩
  | .hbm, ⟨37, _⟩ => ⟨S8x8192x2816, .f32⟩
  | .hbm, ⟨38, _⟩ => ⟨S_, .f32⟩
  | .hbm, ⟨39, _⟩ => ⟨S8x8192x2816, .f32⟩
  | .hbm, ⟨40, _⟩ => ⟨S8x8192x2816, .f32⟩
  | .hbm, ⟨41, _⟩ => ⟨S8x8192x2816, .f32⟩
  | .hbm, ⟨42, _⟩ => ⟨S1x2816, .f32⟩
  | .hbm, ⟨43, _⟩ => ⟨S2816, .f32⟩
  | .hbm, ⟨44, _⟩ => ⟨S1x1x2816, .f32⟩
  | .hbm, ⟨45, _⟩ => ⟨S8x8192x2816, .f32⟩
  | .hbm, ⟨46, _⟩ => ⟨S8x8192x2816, .f32⟩
  | .hbm, ⟨47, _⟩ => ⟨S8x8192x2816, .f32⟩
  | .hbm, ⟨48, _⟩ => ⟨S8x8192x2816, .f32⟩
  | .hbm, ⟨49, _⟩ => ⟨S1x2816, .f32⟩
  | .hbm, ⟨50, _⟩ => ⟨S2816, .f32⟩
  | .hbm, ⟨51, _⟩ => ⟨S1x1x2816, .f32⟩
  | .hbm, ⟨52, _⟩ => ⟨S8x8192x2816, .f32⟩
  | .hbm, ⟨53, _⟩ => ⟨S8x8192x2816, .f32⟩
  | .hbm, ⟨54, _⟩ => ⟨S8x8192x2816, .f32⟩
  | .hbm, ⟨55, _⟩ => ⟨S1x1x2816, .f32⟩
  | .hbm, ⟨56, _⟩ => ⟨S8x8192x2816, .f32⟩
  | .hbm, ⟨57, _⟩ => ⟨S8x8192x2816, .f32⟩
  | .hbm, ⟨58, _⟩ => ⟨S8x8192x2816, .f32⟩
  | .hbm, ⟨59, _⟩ => ⟨S8x8192x2816, .f32⟩
  | .hbm, ⟨60, _⟩ => ⟨S_, .f32⟩
  | .hbm, ⟨61, _⟩ => ⟨S8x8192x2816, .f32⟩
  | .hbm, ⟨62, _⟩ => ⟨S8x8192x2816, .f32⟩
  | .hbm, ⟨63, _⟩ => ⟨S_, .f32⟩
  | .hbm, ⟨64, _⟩ => ⟨S8x8192x2816, .f32⟩
  | .hbm, ⟨65, _⟩ => ⟨S8x8192x2816, .f32⟩
  | .hbm, ⟨66, _⟩ => ⟨S8x8192x2816, .f32⟩
  | .hbm, ⟨67, _⟩ => ⟨S8x8192x2816, .f32⟩
  | .hbm, ⟨68, _⟩ => ⟨S8x8192x1024, .f32⟩
  | .hbm, ⟨69, _⟩ => ⟨S8x8192x1024, .f32⟩
  | .hbm, ⟨70, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c : Ref sig .tc := ⟨.hbm, 29, rfl⟩
abbrev main_call0_v0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩

abbrev nD : Nat := 1
abbrev τ : Topo := Topo.v7x

variable {F : FTy → Type} [FloatOps F]
-- ==== Proof.Read.lean ====
module

public import Idealize.ShloMosaic.Lib.Pipeline.ValueKit
public import Idealize.ShloMosaic.Lib.Pointwise

/-! Arrays read at natural-number coordinates: an entry inside the array is itself, and outside there is zero. So two
    readings of one array agree as soon as their coordinates do, which is arithmetic. -/

@[expose] public section
noncomputable section
namespace Cert.Read
open Idealize.ShloMosaic

/-- The entry of a vector at a natural number. -/
def rd1 {n0 : ℕ} (X : (⟨1, ![n0]⟩ : Shape).Idx → EReal) (a : ℕ) : EReal :=
  if h : a < n0 then X (ix1 ⟨a, h⟩) else 0

/-- The entry of a matrix at two natural numbers. -/
def rd2 {n0 n1 : ℕ} (X : (⟨2, ![n0, n1]⟩ : Shape).Idx → EReal) (a b : ℕ) : EReal :=
  if h : a < n0 ∧ b < n1 then X (ix2 ⟨a, h.1⟩ ⟨b, h.2⟩) else 0

/-- The entry of a four-dimensional array at four natural numbers. -/
def rd4 {n0 n1 n2 n3 : ℕ} (X : (⟨4, ![n0, n1, n2, n3]⟩ : Shape).Idx → EReal) (a b c d : ℕ) : EReal :=
  if h : (a < n0 ∧ b < n1) ∧ c < n2 ∧ d < n3 then X (ix4 ⟨a, h.1.1⟩ ⟨b, h.1.2⟩ ⟨c, h.2.1⟩ ⟨d, h.2.2⟩) else 0

/-- An entry of a vector, read at its coordinate. -/
theorem rd1_of {n0 : ℕ} (X : (⟨1, ![n0]⟩ : Shape).Idx → EReal) (i : (⟨1, ![n0]⟩ : Shape).Idx) (a : ℕ)
    (ha : (i 0 : ℕ) = a) : X i = rd1 X a := by
  subst ha
  have h0 : (i 0 : ℕ) < n0 := (i 0).2
  rw [rd1, dif_pos h0]
  exact congrArg X (eq_ix1 i)

/-- An entry of a matrix, read at its coordinates. -/
theorem rd2_of {n0 n1 : ℕ} (X : (⟨2, ![n0, n1]⟩ : Shape).Idx → EReal) (i : (⟨2, ![n0, n1]⟩ : Shape).Idx) (a b : ℕ)
    (ha : (i 0 : ℕ) = a) (hb : (i 1 : ℕ) = b) : X i = rd2 X a b := by
  subst ha hb
  have h0 : (i 0 : ℕ) < n0 := (i 0).2
  have h1 : (i 1 : ℕ) < n1 := (i 1).2
  rw [rd2, dif_pos ⟨h0, h1⟩]
  exact congrArg X (eq_ix2 i)

/-- An entry of a four-dimensional array, read at its coordinates. -/
theorem rd4_of {n0 n1 n2 n3 : ℕ} (X : (⟨4, ![n0, n1, n2, n3]⟩ : Shape).Idx → EReal)
    (i : (⟨4, ![n0, n1, n2, n3]⟩ : Shape).Idx) (a b c d : ℕ)
    (ha : (i 0 : ℕ) = a) (hb : (i 1 : ℕ) = b) (hc : (i 2 : ℕ) = c) (hd : (i 3 : ℕ) = d) : X i = rd4 X a b c d := by
  subst ha hb hc hd
  have h0 : (i 0 : ℕ) < n0 := (i 0).2
  have h1 : (i 1 : ℕ) < n1 := (i 1).2
  have h2 : (i 2 : ℕ) < n2 := (i 2).2
  have h3 : (i 3 : ℕ) < n3 := (i 3).2
  rw [rd4, dif_pos ⟨⟨h0, h1⟩, h2, h3⟩]
  exact congrArg X (eq_ix4 i)

/-- Two matrices one above the other, the first `n` rows high, read at natural numbers. -/
def over {n0 n1 m0 m1 : ℕ} (X : (⟨2, ![n0, n1]⟩ : Shape).Idx → EReal) (Y : (⟨2, ![m0, m1]⟩ : Shape).Idx → EReal)
    (a b : ℕ) : EReal :=
  if a < n0 then rd2 X a b else rd2 Y (a - n0) b

end Cert.Read
-- ==== Proof.Heads.lean ====
module

public import proofs.«01_k».proof.Proof.Gen.KernelIdeal.Value
public import proofs.«01_k».proof.Proof.Read

/-! What one step of the attention kernel computes from its blocks, entry by entry: the vector operations of a group of
    heads, named once, and their values at an index. -/

@[expose] public section
set_option maxRecDepth 16384
noncomputable section
namespace Cert.KernelIdeal.Att
open Idealize.ShloMosaic Idealize.ShloMosaic.TcCoe Idealize.SL.Sem Cert.KernelIdeal Cert.KernelIdeal.Gen Cert.Read

/-- Attention of one query over its band: scores `s` (already in powers of two), values `v`. -/
def attn {n : ℕ} (s v : Fin n → EReal) : EReal :=
  (∑ a, Ideal.exp2 (s a - Finset.univ.sup s) * v a) * Ideal.div 1 (∑ a, Ideal.exp2 (s a - Finset.univ.sup s))

/-- The same with one more score, the sink, that has no value. -/
def attnSink {n : ℕ} (s v : Fin n → EReal) (k : EReal) : EReal :=
  (∑ a, Ideal.exp2 (s a - max (Finset.univ.sup s) k) * v a)
    * Ideal.div 1 ((∑ a, Ideal.exp2 (s a - max (Finset.univ.sup s) k)) + Ideal.exp2 (k - max (Finset.univ.sup s) k))

/-- Two heads' queries, one above the other, each with the other head's lanes zeroed. -/
def twoHeads (q : Vec Ideal S128x128 .bf16) : FVec Ideal S256x128 .bf16 :=
  concatenate S256x128 0
    [⟨S128x128, mulf (shapeCast S128x128 q shapeCasts_S128x128_S128x128) (broadcastTo S128x128 (k0_pay3 (F := Ideal)) broadcasts_S1x128_S128x128)⟩,
     ⟨S128x128, mulf (shapeCast S128x128 q shapeCasts_S128x128_S128x128) (broadcastTo S128x128 (k0_pay4 (F := Ideal)) broadcasts_S1x128_S128x128)⟩]
    concatenates_S128x128_S128x128_S256x128_d0

/-- Comparing two small numbers as words. -/
theorem slt_word (a n : ℕ) (ha : a < 2 ^ 31) (hn : n < 2 ^ 31) :
    IntOp.cmpi .slt (BitVec.ofNat 32 a) (BitVec.ofNat 32 n) = if a < n then 1#1 else 0#1 := by
  have h : (BitVec.ofNat 32 a).slt (BitVec.ofNat 32 n) = decide (a < n) := by
    rw [BitVec.slt, BitVec.toInt_ofNat', BitVec.toInt_ofNat', Int.bmod_eq_of_le, Int.bmod_eq_of_le] <;>
      first | omega | (simp; omega) | simp
  by_cases hlt : a < n <;> simp [IntOp.cmpi, h, hlt]

/-- Of head `e` of the pair, only its own 64 lanes are left. -/
theorem twoHeads_apply (q : Vec Ideal S128x128 .bf16) (e : Fin 2) (a : Fin 128) (d : Fin 128) :
    twoHeads q (ix2 ⟨128 * e + a, by omega⟩ d) = if (d : ℕ) / 64 = e then q (ix2 a d) else 0 := by
  have hd := slt_word d 64 (by omega) (by omega)
  by_cases h : (d : ℕ) < 64
  · have h0 : (d : ℕ) / 64 = 0 := by omega
    rw [if_pos h] at hd
    fin_cases e <;> pointwise [twoHeads, k0_pay3, k0_pay4, k0_pay2] <;> rw [hd] <;>
      simp [h0, FloatOps.sitofp, IntOp.xori]
  · have h1 : (d : ℕ) / 64 = 1 := by omega
    rw [if_neg h] at hd
    fin_cases e <;> pointwise [twoHeads, k0_pay3, k0_pay4, k0_pay2] <;> rw [hd] <;>
      simp [h1, FloatOps.sitofp, IntOp.xori]

/-- A head's scores: the rows of the head, and its bias. -/
def scores (o : ℕ) (h : S256x640.Slices ![o, 0] S128x640) (q : Vec Ideal S128x128 .bf16) (k : FVec Ideal S640x128 .bf16)
    (b : Vec Ideal S1x1x128x640 .f32) : FVec Ideal S128x640 .f32 :=
  addf (extractStridedSlice S128x640 ![o, 0]
    (matmul dot_S256x128_S640x128_S256x640_1_1_0_0_n_n none (twoHeads q) k (constant S256x640 .f32 0x00000000#32)) h)
    (shapeCast S128x640 b shapeCasts_S1x1x128x640_S128x640)

/-- A sum over 128 lanes of which only the 64 lanes of head `e` count. -/
theorem sum_half (e : Fin 2) (f g : Fin 128 → EReal) :
    (∑ d : Fin 128, (if (d : ℕ) / 64 = e then f d else 0) * g d) =
      ∑ d : Fin 64, f ⟨64 * e + d, by omega⟩ * g ⟨64 * e + d, by omega⟩ := by
  rw [Fin.sum_univ_two_halves 64 64 rfl]
  fin_cases e
  · have h : ∀ d : Fin 64, (64 + (d : ℕ)) / 64 = 1 := fun d => by omega
    have h' : ∀ d : Fin 64, (d : ℕ) / 64 = 0 := fun d => by omega
    simp [h, h']
  · have h : ∀ d : Fin 64, (64 + (d : ℕ)) / 64 = 1 := fun d => by omega
    have h' : ∀ d : Fin 64, (d : ℕ) / 64 = 0 := fun d => by omega
    simp [h, h']

/-- A head's score of a query and a key: the product over the head's 64 lanes, and the bias. -/
theorem scores_apply (o : ℕ) (h) (q : Vec Ideal S128x128 .bf16) (k : FVec Ideal S640x128 .bf16)
    (b : Vec Ideal S1x1x128x640 .f32) (e : Fin 2) (ho : o = 128 * e) (r : Fin 128) (κ : Fin 640) :
    scores o h q k b (ix2 r κ) =
      (∑ d : Fin 64, q (ix2 r ⟨64 * e + d, by omega⟩) * k (ix2 κ ⟨64 * e + d, by omega⟩)) + b (ix4 0 0 r κ) := by
  subst ho
  rw [← sum_half e (fun d => q (ix2 r d)) (fun d => k (ix2 κ d))]
  pointwise [scores]
  simp only [twoHeads_apply]

/-- The weights of a row before they are divided by their sum. -/
def weights (s : FVec Ideal S128x640 .f32) : FVec Ideal S128x640 .f32 :=
  exp2 (subf s (broadcastTo S128x640 (shapeCast S128x1 (multiReduction .maximumf [1] S128 s 0xFF800000#32
    reduces_S128x640_S128 (.inl rfl) rfl) shapeCasts_S128_S128x1) broadcasts_S128x1_S128x640))

/-- One over the sum of a row's weights. -/
def invSum (s : FVec Ideal S128x640 .f32) : FVec Ideal S128x1 .f32 :=
  divf (broadcast S128x1 (Scalar.ofBits (F := Ideal) .f32 0x3F800000#32)) (shapeCast S128x1 (multiReduction .add [1] S128 (weights s)
    0x00000000#32 reduces_S128x640_S128 (.inl rfl) rfl) shapeCasts_S128_S128x1)

/-- The word of minus infinity. -/
theorem ofBits_bot : Ideal.ofBits .f32 0xFF800000#32 = ⊥ := by
  simp [Ideal.ofBits, Ideal.ieee]

theorem weights_apply (s : FVec Ideal S128x640 .f32) (r : Fin 128) (κ : Fin 640) :
    weights s (ix2 r κ) = Ideal.exp2 (s (ix2 r κ) - Finset.univ.sup fun κ' : Fin 640 => s (ix2 r κ')) := by
  pointwise [weights]
  rw [ofBits_bot]
  rfl

theorem invSum_apply (s : FVec Ideal S128x640 .f32) (r : Fin 128) :
    invSum s (ix2 r 0) = Ideal.div 1 (∑ κ : Fin 640, weights s (ix2 r κ)) := by
  pointwise [invSum]

/-- The products of four heads' weights with the values of all four, one head above the other. -/
def quadOut (s0 s1 s2 s3 : FVec Ideal S128x640 .f32) (v : FVec Ideal S640x256 .bf16) : FVec Ideal S512x256 .f32 :=
  matmul dot_S512x640_S640x256_S512x256_1_0_0_1_n_n none
    (concatenate S512x640 0 [⟨S128x640, truncf .bf16 (weights s0) bitsLt_bf16_f32⟩, ⟨S128x640, truncf .bf16 (weights s1) bitsLt_bf16_f32⟩,
      ⟨S128x640, truncf .bf16 (weights s2) bitsLt_bf16_f32⟩, ⟨S128x640, truncf .bf16 (weights s3) bitsLt_bf16_f32⟩]
      concatenates_S128x640_S128x640_S128x640_S128x640_S512x640_d0) v (constant S512x256 .f32 0x00000000#32)

theorem quadOut_apply (s0 s1 s2 s3 : FVec Ideal S128x640 .f32) (v : FVec Ideal S640x256 .bf16) (h : Fin 4) (r : Fin 128)
    (b : Fin 256) :
    quadOut s0 s1 s2 s3 v (ix2 ⟨128 * h + r, by omega⟩ b) =
      ∑ κ : Fin 640, weights (![s0, s1, s2, s3] h) (ix2 r κ) * v (ix2 κ b) := by
  fin_cases h <;> pointwise [quadOut] <;> refine Finset.sum_congr rfl fun κ _ => ?_ <;> congr 1 <;>
    simp (disch := omega) only [dif_neg, dif_pos] <;> congr 3 <;> omega

/-- Lanes below `n` of 256. -/
def below (n : BitVec 32) : IVec S128x256 1 :=
  broadcastTo S128x256 (shapeCast S1x256 (cmpi .slt (iota .tc S1x256 32 [1] iota_S1x256_d1_w32) (broadcast S1x256 n))
    shapeCasts_S1x256_S1x256) broadcasts_S1x256_S128x256

/-- What a step stores of four heads: from each head's product the head's own 64 lanes, divided by the row's sum. -/
def quad (s0 s1 s2 s3 : FVec Ideal S128x640 .f32) (v : FVec Ideal S640x256 .bf16) : FVec Ideal S128x256 .bf16 :=
  truncf .bf16 (select (below 64#32)
    (mulf (extractStridedSlice S128x256 ![0, 0] (quadOut s0 s1 s2 s3 v) slices_S512x256_o0_0_S128x256)
      (broadcastTo S128x256 (invSum s0) broadcasts_S128x1_S128x256))
    (select (below 128#32)
      (mulf (extractStridedSlice S128x256 ![128, 0] (quadOut s0 s1 s2 s3 v) slices_S512x256_o128_0_S128x256)
        (broadcastTo S128x256 (invSum s1) broadcasts_S128x1_S128x256))
      (select (below 192#32)
        (mulf (extractStridedSlice S128x256 ![256, 0] (quadOut s0 s1 s2 s3 v) slices_S512x256_o256_0_S128x256)
          (broadcastTo S128x256 (invSum s2) broadcasts_S128x1_S128x256))
        (mulf (extractStridedSlice S128x256 ![384, 0] (quadOut s0 s1 s2 s3 v) slices_S512x256_o384_0_S128x256)
          (broadcastTo S128x256 (invSum s3) broadcasts_S128x1_S128x256))))) bitsLt_bf16_f32

theorem below_apply (n : ℕ) (hn : n < 2 ^ 31) (r : Fin 128) (b : Fin 256) :
    below (BitVec.ofNat 32 n) (ix2 r b) = if (b : ℕ) < n then 1#1 else 0#1 := by
  rw [← slt_word b n (by omega) hn]
  pointwise [below]

/-- The entry of four heads: the attention of the head that the lane belongs to. -/
theorem quad_apply (s0 s1 s2 s3 : FVec Ideal S128x640 .f32) (v : FVec Ideal S640x256 .bf16) (r : Fin 128) (b : Fin 256) :
    quad s0 s1 s2 s3 v (ix2 r b) =
      attn (fun κ => ![s0, s1, s2, s3] ⟨b / 64, by omega⟩ (ix2 r κ)) (fun κ => v (ix2 κ b)) := by
  have h64 := below_apply 64 (by omega) r b
  have h128 := below_apply 128 (by omega) r b
  have h192 := below_apply 192 (by omega) r b
  have key : ∀ h : Fin 4, (⟨b / 64, by omega⟩ : Fin 4) = h →
      quadOut s0 s1 s2 s3 v (ix2 ⟨128 * h + r, by omega⟩ b) * invSum (![s0, s1, s2, s3] h) (ix2 r 0) =
        attn (fun κ => ![s0, s1, s2, s3] ⟨b / 64, by omega⟩ (ix2 r κ)) (fun κ => v (ix2 κ b)) := by
    intro h e
    rw [e, quadOut_apply, invSum_apply, attn]
    simp only [weights_apply]
  pointwise [quad]
  rw [h64, h128, h192]
  by_cases c0 : (b : ℕ) < 64
  · rw [if_pos c0, ← key 0 (Fin.ext (by simp; omega))]; simp [Scalar.select]
  by_cases c1 : (b : ℕ) < 128
  · rw [if_neg c0, if_pos c1, ← key 1 (Fin.ext (by simp; omega))]; simp [Scalar.select]
  by_cases c2 : (b : ℕ) < 192
  · rw [if_neg c0, if_neg c1, if_pos c2, ← key 2 (Fin.ext (by simp; omega))]; simp [Scalar.select]
  · rw [if_neg c0, if_neg c1, if_neg c2, ← key 3 (Fin.ext (by simp; omega))]; simp [Scalar.select]

/-! ### The heads with a sink -/

/-- A head's scores over the shorter band. -/
def scoresB (o : ℕ) (h : S256x256.Slices ![o, 0] S128x256) (q : Vec Ideal S128x128 .bf16) (k : FVec Ideal S256x128 .bf16)
    (b : Vec Ideal S1x1x128x256 .f32) : FVec Ideal S128x256 .f32 :=
  addf (extractStridedSlice S128x256 ![o, 0]
    (matmul dot_S256x128_S256x128_S256x256_1_1_0_0_n_n none (twoHeads q) k (constant S256x256 .f32 0x00000000#32)) h)
    (shapeCast S128x256 b shapeCasts_S1x1x128x256_S128x256)

theorem scoresB_apply (o : ℕ) (h) (q : Vec Ideal S128x128 .bf16) (k : FVec Ideal S256x128 .bf16)
    (b : Vec Ideal S1x1x128x256 .f32) (e : Fin 2) (ho : o = 128 * e) (r : Fin 128) (κ : Fin 256) :
    scoresB o h q k b (ix2 r κ) =
      (∑ d : Fin 64, q (ix2 r ⟨64 * e + d, by omega⟩) * k (ix2 κ ⟨64 * e + d, by omega⟩)) + b (ix4 0 0 r κ) := by
  subst ho
  rw [← sum_half e (fun d => q (ix2 r d)) (fun d => k (ix2 κ d))]
  pointwise [scoresB]
  simp only [twoHeads_apply]

/-- The largest of a row's scores and the sink. -/
def top (s : FVec Ideal S128x256 .f32) (k : EReal) : FVec Ideal S128x1 .f32 :=
  maximumf (shapeCast S128x1 (multiReduction .maximumf [1] S128 s 0xFF800000#32
    reduces_S128x256_S128 (.inl rfl) rfl) shapeCasts_S128_S128x1) (broadcast S128x1 k)

/-- The weights of a row before they are divided by their sum, the sink's weight left out. -/
def weightsB (s : FVec Ideal S128x256 .f32) (k : EReal) : FVec Ideal S128x256 .f32 :=
  exp2 (subf s (broadcastTo S128x256 (top s k) broadcasts_S128x1_S128x256))

/-- One over the sum of a row's weights and the sink's. -/
def invSumB (s : FVec Ideal S128x256 .f32) (k : EReal) : FVec Ideal S128x1 .f32 :=
  divf (broadcast S128x1 (Scalar.ofBits (F := Ideal) .f32 0x3F800000#32))
    (addf (shapeCast S128x1 (multiReduction .add [1] S128 (weightsB s k)
      0x00000000#32 reduces_S128x256_S128 (.inl rfl) rfl) shapeCasts_S128_S128x1) (exp2 (subf (broadcast (α := Ideal .f32) S128x1 k) (top s k))))

theorem top_apply (s : FVec Ideal S128x256 .f32) (k : EReal) (r : Fin 128) :
    top s k (ix2 r 0) = max (Finset.univ.sup fun κ' : Fin 256 => s (ix2 r κ')) k := by
  pointwise [top]
  rw [ofBits_bot]
  rfl

theorem weightsB_apply (s : FVec Ideal S128x256 .f32) (k : EReal) (r : Fin 128) (κ : Fin 256) :
    weightsB s k (ix2 r κ) = Ideal.exp2 (s (ix2 r κ) - max (Finset.univ.sup fun κ' : Fin 256 => s (ix2 r κ')) k) := by
  rw [← top_apply]
  pointwise [weightsB]
  rfl

theorem invSumB_apply (s : FVec Ideal S128x256 .f32) (k : EReal) (r : Fin 128) :
    invSumB s k (ix2 r 0) = Ideal.div 1 ((∑ κ : Fin 256, weightsB s k (ix2 r κ))
      + Ideal.exp2 (k - max (Finset.univ.sup fun κ' : Fin 256 => s (ix2 r κ')) k)) := by
  rw [← top_apply]
  pointwise [invSumB]
  rfl

/-- The products of eight heads' weights with the values, one head above the other. -/
def octOut (s0 s1 s2 s3 s4 s5 s6 s7 : FVec Ideal S128x256 .f32) (k0 k1 k2 k3 k4 k5 k6 k7 : EReal)
    (v : FVec Ideal S256x128 .bf16) : FVec Ideal S1024x128 .f32 :=
  matmul dot_S1024x256_S256x128_S1024x128_1_0_0_1_n_n none
    (concatenate S1024x256 0 [⟨S128x256, truncf .bf16 (weightsB s0 k0) bitsLt_bf16_f32⟩, ⟨S128x256, truncf .bf16 (weightsB s1 k1) bitsLt_bf16_f32⟩,
      ⟨S128x256, truncf .bf16 (weightsB s2 k2) bitsLt_bf16_f32⟩, ⟨S128x256, truncf .bf16 (weightsB s3 k3) bitsLt_bf16_f32⟩,
      ⟨S128x256, truncf .bf16 (weightsB s4 k4) bitsLt_bf16_f32⟩, ⟨S128x256, truncf .bf16 (weightsB s5 k5) bitsLt_bf16_f32⟩,
      ⟨S128x256, truncf .bf16 (weightsB s6 k6) bitsLt_bf16_f32⟩, ⟨S128x256, truncf .bf16 (weightsB s7 k7) bitsLt_bf16_f32⟩]
      concatenates_S128x256_S128x256_S128x256_S128x256_S128x256_S128x256_S128x256_S128x256_S1024x256_d0) v (constant S1024x128 .f32 0x00000000#32)

theorem octOut_apply (s0 s1 s2 s3 s4 s5 s6 s7 : FVec Ideal S128x256 .f32) (k0 k1 k2 k3 k4 k5 k6 k7 : EReal)
    (v : FVec Ideal S256x128 .bf16) (h : Fin 8) (r : Fin 128) (b : Fin 128) :
    octOut s0 s1 s2 s3 s4 s5 s6 s7 k0 k1 k2 k3 k4 k5 k6 k7 v (ix2 ⟨128 * h + r, by omega⟩ b) =
      ∑ κ : Fin 256, weightsB (![s0, s1, s2, s3, s4, s5, s6, s7] h) (![k0, k1, k2, k3, k4, k5, k6, k7] h) (ix2 r κ) * v (ix2 κ b) := by
  fin_cases h <;> pointwise [octOut] <;> refine Finset.sum_congr rfl fun κ _ => ?_ <;> congr 1 <;>
    simp (disch := omega) only [dif_neg, dif_pos] <;> congr 3 <;> omega

/-- What a step stores of two heads: from each head's product the head's own 64 lanes, divided by the row's sum. -/
def pair (o0 o1 : ℕ) (h0 : S1024x128.Slices ![o0, 0] S128x128) (h1 : S1024x128.Slices ![o1, 0] S128x128)
    (out : FVec Ideal S1024x128 .f32) (i0 i1 : FVec Ideal S128x1 .f32) : FVec Ideal S128x128 .bf16 :=
  truncf .bf16 (select (broadcastTo S128x128 (shapeCast S1x128 k0_pay2 shapeCasts_S1x128_S1x128) broadcasts_S1x128_S128x128)
    (mulf (extractStridedSlice S128x128 ![o0, 0] out h0) (broadcastTo S128x128 i0 broadcasts_S128x1_S128x128))
    (mulf (extractStridedSlice S128x128 ![o1, 0] out h1) (broadcastTo S128x128 i1 broadcasts_S128x1_S128x128))) bitsLt_bf16_f32

/-- The entry of two heads: the attention, with its sink, of the head that the lane belongs to. -/
theorem pair_apply (s0 s1 s2 s3 s4 s5 s6 s7 : FVec Ideal S128x256 .f32) (k0 k1 k2 k3 k4 k5 k6 k7 : EReal)
    (v : FVec Ideal S256x128 .bf16) (o0 o1 : ℕ) (h0) (h1) (j : Fin 4) (e0 : o0 = 256 * j) (e1 : o1 = 256 * j + 128)
    (t0 t1 : FVec Ideal S128x256 .f32) (l0 l1 : EReal)
    (ht0 : t0 = ![s0, s1, s2, s3, s4, s5, s6, s7] ⟨2 * j, by omega⟩) (ht1 : t1 = ![s0, s1, s2, s3, s4, s5, s6, s7] ⟨2 * j + 1, by omega⟩)
    (hl0 : l0 = ![k0, k1, k2, k3, k4, k5, k6, k7] ⟨2 * j, by omega⟩) (hl1 : l1 = ![k0, k1, k2, k3, k4, k5, k6, k7] ⟨2 * j + 1, by omega⟩)
    (r : Fin 128) (b : Fin 128) :
    pair o0 o1 h0 h1 (octOut s0 s1 s2 s3 s4 s5 s6 s7 k0 k1 k2 k3 k4 k5 k6 k7 v) (invSumB t0 l0) (invSumB t1 l1) (ix2 r b) =
      attnSink (fun κ => ![t0, t1] ⟨b / 64, by omega⟩ (ix2 r κ)) (fun κ => v (ix2 κ b)) (![l0, l1] ⟨b / 64, by omega⟩) := by
  subst e0 e1
  have key : ∀ (h : Fin 8) (t : FVec Ideal S128x256 .f32) (l : EReal) (ht : t = ![s0, s1, s2, s3, s4, s5, s6, s7] h)
      (hl : l = ![k0, k1, k2, k3, k4, k5, k6, k7] h) (i : S1024x128.Idx) (hi : i = ix2 ⟨128 * h + r, by omega⟩ b),
      octOut s0 s1 s2 s3 s4 s5 s6 s7 k0 k1 k2 k3 k4 k5 k6 k7 v i * invSumB t l (ix2 r 0) =
        attnSink (fun κ => t (ix2 r κ)) (fun κ => v (ix2 κ b)) l := by
    intro h t l ht hl i hi
    rw [hi, octOut_apply, invSumB_apply, attnSink, ← ht, ← hl]
    simp only [weightsB_apply]
  have hm := slt_word b 64 (by omega) (by omega)
  pointwise [pair, k0_pay2]
  rw [hm]
  by_cases c0 : (b : ℕ) < 64
  · have e : (⟨b / 64, by omega⟩ : Fin 2) = 0 := Fin.ext (by simp; omega)
    rw [if_pos c0, e]
    exact key ⟨2 * j, by omega⟩ t0 l0 ht0 hl0 _ (congrArg (fun a => ix2 a b) (Fin.ext (by simp; omega)))
  · have e : (⟨b / 64, by omega⟩ : Fin 2) = 1 := Fin.ext (by simp; omega)
    rw [if_neg c0, e]
    exact key ⟨2 * j + 1, by omega⟩ t1 l1 ht1 hl1 _ (congrArg (fun a => ix2 a b) (Fin.ext (by simp; omega)))

end Cert.KernelIdeal.Att
-- ==== Proof.Pieces.lean ====
module

public import proofs.«01_k».proof.Proof.Heads

/-! What one step of the attention kernel stores: each stored tile as a function of the blocks that the step has, read at
    natural-number coordinates. -/

@[expose] public section
set_option maxRecDepth 16384
noncomputable section
namespace Cert.KernelIdeal.Att
open Idealize.ShloMosaic Idealize.ShloMosaic.TcCoe Idealize.SL.Sem Cert.KernelIdeal Cert.KernelIdeal.Gen Cert.Read

/-- A rectangle of a matrix lies inside it. -/
theorem inb2 {n0 n1 : ℕ} (a b u v : ℕ) (h0 : a + u ≤ n0) (h1 : b + v ≤ n1) :
    ∀ x : Fin 2, (![a, b] : Fin 2 → ℕ) x + (![u, v] : Fin 2 → ℕ) x ≤ (⟨2, ![n0, n1]⟩ : Shape).size x := by
  intro x; fin_cases x <;> simpa

/-- Rows `a` to `a + u - 1` of a matrix. -/
theorem rows2 {n0 n1 : ℕ} (a u : ℕ) (h0 : a + u ≤ n0) :
    (⟨2, ![n0, n1]⟩ : Shape).Slices ![a, 0] ⟨2, ![u, n1]⟩ :=
  ⟨rfl, inb2 a 0 u n1 h0 (by omega)⟩

/-- A rectangle of a four-dimensional array that moves along its second axis only. -/
theorem inb4 {n1 u v : ℕ} (a : ℕ) (h : a + 1 ≤ n1) :
    ∀ x : Fin 4, (![0, a, 0, 0] : Fin 4 → ℕ) x + (![1, 1, u, v] : Fin 4 → ℕ) x ≤ (⟨4, ![1, n1, u, v]⟩ : Shape).size x := by
  intro x; fin_cases x <;> simp <;> omega

/-- An entry of a rectangle of a matrix. -/
theorem ld2 {n0 n1 : ℕ} {u v : ℕ} (X : (⟨2, ![n0, n1]⟩ : Shape).Idx → EReal) (a b : ℕ) (inb) (i : Fin u) (j : Fin v) :
    View.ld (Val := Elt Ideal) (e' := .bf16) X (Rect.unit (s := ⟨2, ![n0, n1]⟩) ![a, b] ![u, v] inb) (ix2 i j) = rd2 X (a + i) (b + j) :=
  rd2_of X _ _ _ (Rect.idx_unit_val ..) (Rect.idx_unit_val ..)

/-- An entry of one plane of a four-dimensional array. -/
theorem ld4 {n1 u v : ℕ} (X : (⟨4, ![1, n1, u, v]⟩ : Shape).Idx → EReal) (a : ℕ) (inb) (i : Fin u) (j : Fin v) :
    View.ld (Val := Elt Ideal) (e' := .f32) X (Rect.unit (s := ⟨4, ![1, n1, u, v]⟩) ![0, a, 0, 0] ![1, 1, u, v] inb) (ix4 0 0 i j) = rd4 X 0 a i j :=
  (rd4_of X _ _ _ _ _ (by simp) (by simp) (by simp) (by simp))

/-- The keys of a band: rows `o` to `o + 639` of two blocks one above the other, 128 lanes of them. -/
def keys (X Y : Vec Ideal S512x512 .bf16) (o c : ℕ) (ho : o ≤ 384) (hc : c ≤ 384) : FVec Ideal S640x128 .bf16 :=
  extractStridedSlice S640x128 ![o, 0]
    (concatenate S1024x128 0
      [⟨S512x128, shapeCast S512x128 (View.ld X (Rect.unit ![0, c] ![512, 128] (inb2 0 c 512 128 (by omega) (by omega)))) shapeCasts_S512x128_S512x128⟩,
       ⟨S512x128, shapeCast S512x128 (View.ld Y (Rect.unit ![0, c] ![512, 128] (inb2 0 c 512 128 (by omega) (by omega)))) shapeCasts_S512x128_S512x128⟩]
      concatenates_S512x128_S512x128_S1024x128_d0) (rows2 o 640 (by omega))

/-- The values of a band, 256 lanes of them. -/
def vals (X Y : Vec Ideal S512x512 .bf16) (o c : ℕ) (ho : o ≤ 384) (hc : c ≤ 256) : FVec Ideal S640x256 .bf16 :=
  extractStridedSlice S640x256 ![o, 0]
    (concatenate S1024x256 0
      [⟨S512x256, shapeCast S512x256 (View.ld X (Rect.unit ![0, c] ![512, 256] (inb2 0 c 512 256 (by omega) (by omega)))) shapeCasts_S512x256_S512x256⟩,
       ⟨S512x256, shapeCast S512x256 (View.ld Y (Rect.unit ![0, c] ![512, 256] (inb2 0 c 512 256 (by omega) (by omega)))) shapeCasts_S512x256_S512x256⟩]
      concatenates_S512x256_S512x256_S1024x256_d0) (rows2 o 640 (by omega))

theorem keys_apply (X Y : Vec Ideal S512x512 .bf16) (o c : ℕ) (ho hc) (κ : Fin 640) (d : Fin 128) :
    keys X Y o c ho hc (ix2 κ d) = over X Y (o + κ) (c + d) := by
  pointwise [keys]
  rw [over]
  by_cases h : o + (κ : ℕ) < 512
  · rw [dif_pos h, if_pos h]; exact rd2_of X _ _ _ rfl rfl
  · rw [dif_neg h, if_neg h]; exact rd2_of Y _ _ _ rfl rfl

theorem vals_apply (X Y : Vec Ideal S512x512 .bf16) (o c : ℕ) (ho hc) (κ : Fin 640) (d : Fin 256) :
    vals X Y o c ho hc (ix2 κ d) = over X Y (o + κ) (c + d) := by
  pointwise [vals]
  rw [over]
  by_cases h : o + (κ : ℕ) < 512
  · rw [dif_pos h, if_pos h]; exact rd2_of X _ _ _ rfl rfl
  · rw [dif_neg h, if_neg h]; exact rd2_of Y _ _ _ rfl rfl

/-- The scores of head `n` of a group of four. -/
def sA (X1 X2 X3 : Vec Ideal S512x512 .bf16) (B : Vec Ideal S1x8x128x640 .f32) (o g n : ℕ) (ho : o ≤ 384) (hg : g < 2) (hn : n < 4) :
    FVec Ideal S128x640 .f32 :=
  scores (128 * (n % 2)) (rows2 _ 128 (by omega))
    (View.ld X1 (Rect.unit ![o, 256 * g + 128 * (n / 2)] ![128, 128] (inb2 _ _ 128 128 (by omega) (by omega))))
    (keys X2 X3 o (256 * g + 128 * (n / 2)) ho (by omega))
    (View.ld B (Rect.unit ![0, 4 * g + n, 0, 0] ![1, 1, 128, 640] (inb4 (4 * g + n) (by omega))))

theorem sA_apply (X1 X2 X3 : Vec Ideal S512x512 .bf16) (B : Vec Ideal S1x8x128x640 .f32) (o g n : ℕ) (ho hg hn) (r : Fin 128) (κ : Fin 640) :
    sA X1 X2 X3 B o g n ho hg hn (ix2 r κ) =
      (∑ d : Fin 64, rd2 X1 (o + r) (64 * (4 * g + n) + d) * over X2 X3 (o + κ) (64 * (4 * g + n) + d)) + rd4 B 0 (4 * g + n) r κ := by
  rw [sA, scores_apply (128 * (n % 2)) _ _ _ _ ⟨n % 2, by omega⟩ rfl, ld4]
  congr 1
  refine Finset.sum_congr rfl fun d _ => ?_
  rw [keys_apply, ld2]
  congr 2 <;> simp <;> omega

/-- The tile of four heads that a step stores: each lane is its head's attention over the band. -/
theorem quad_piece (X1 X2 X3 X4 X5 : Vec Ideal S512x512 .bf16) (B : Vec Ideal S1x8x128x640 .f32) (o g : ℕ) (ho : o ≤ 384) (hg : g < 2)
    (z : S128x256.Idx) :
    quad (sA X1 X2 X3 B o g 0 ho hg (by omega)) (sA X1 X2 X3 B o g 1 ho hg (by omega)) (sA X1 X2 X3 B o g 2 ho hg (by omega))
        (sA X1 X2 X3 B o g 3 ho hg (by omega)) (vals X4 X5 o (256 * g) ho (by omega)) z =
      attn (fun κ : Fin 640 => (∑ d : Fin 64, rd2 X1 (o + z 0) (64 * (4 * g + z 1 / 64) + d)
          * over X2 X3 (o + κ) (64 * (4 * g + z 1 / 64) + d)) + rd4 B 0 (4 * g + z 1 / 64) (z 0) κ)
        (fun κ => over X4 X5 (o + κ) (256 * g + z 1)) := by
  idx_vars z
  have key : ∀ (h : Fin 4) (κ : Fin 640),
      ![sA X1 X2 X3 B o g 0 ho hg (by omega), sA X1 X2 X3 B o g 1 ho hg (by omega), sA X1 X2 X3 B o g 2 ho hg (by omega),
        sA X1 X2 X3 B o g 3 ho hg (by omega)] h (ix2 z0 κ) =
      (∑ d : Fin 64, rd2 X1 (o + z0) (64 * (4 * g + h) + d) * over X2 X3 (o + κ) (64 * (4 * g + h) + d)) + rd4 B 0 (4 * g + h) z0 κ := by
    intro h κ
    fin_cases h <;> exact sA_apply X1 X2 X3 B o g _ ho hg (by decide) z0 κ
  rw [quad_apply]
  exact congrArg₂ attn (funext fun κ => key _ κ) (funext fun κ => vals_apply X4 X5 o (256 * g) ho _ κ z1)

/-- The scores of the `n`-th of eight heads with a sink (two by two: head `n / 2` of either group of four). -/
def sB (X6 : Vec Ideal S512x512 .bf16) (k : FVec Ideal S256x128 .bf16) (B : Vec Ideal S1x8x128x256 .f32) (o n : ℕ) (ho : o ≤ 384) (hn : n < 8) :
    FVec Ideal S128x256 .f32 :=
  scoresB (128 * (n % 2)) (rows2 _ 128 (by omega))
    (View.ld X6 (Rect.unit ![o, 128 * (n / 2)] ![128, 128] (inb2 _ _ 128 128 (by omega) (by omega)))) k
    (View.ld B (Rect.unit ![0, n / 2 + 4 * (n % 2), 0, 0] ![1, 1, 128, 256] (inb4 (n / 2 + 4 * (n % 2)) (by omega))))

/-- The sink of the `n`-th of eight heads. -/
def kB (X0 : Vec Ideal S8 .f32) (n : ℕ) (hn : n < 8) : EReal :=
  View.ld (Val := Elt Ideal) (e' := .f32) X0 (Rect.unit (s := S8) ![n / 2 + 4 * (n % 2)] ![1] (by intro x; fin_cases x; simp; omega)) (Shape.Idx.first (show 0 < (⟨1, ![1]⟩ : Shape).numel by decide))

theorem sB_apply (X6 : Vec Ideal S512x512 .bf16) (k : FVec Ideal S256x128 .bf16) (B : Vec Ideal S1x8x128x256 .f32) (o n : ℕ) (ho hn)
    (K : ℕ → ℕ → EReal) (hk : ∀ (κ : Fin 256) (d : Fin 128), k (ix2 κ d) = K κ d) (r : Fin 128) (κ : Fin 256) :
    sB X6 k B o n ho hn (ix2 r κ) =
      (∑ d : Fin 64, rd2 X6 (o + r) (64 * n + d) * K κ (64 * (n % 2) + d)) + rd4 B 0 (n / 2 + 4 * (n % 2)) r κ := by
  rw [sB, scoresB_apply (128 * (n % 2)) _ _ _ _ ⟨n % 2, by omega⟩ rfl, ld4]
  congr 1
  refine Finset.sum_congr rfl fun d _ => ?_
  rw [hk, ld2]
  congr 2
  simp; omega

theorem kB_apply (X0 : Vec Ideal S8 .f32) (n : ℕ) (hn : n < 8) : kB X0 n hn = rd1 X0 (n / 2 + 4 * (n % 2)) :=
  rd1_of X0 _ _ ((Rect.idx_unit_val ..).trans (by simp))

/-- The tile of two heads with a sink that a step stores: each lane is its head's attention over the shorter band. -/
theorem pair_piece (X0 : Vec Ideal S8 .f32) (X6 : Vec Ideal S512x512 .bf16) (k v : FVec Ideal S256x128 .bf16) (B : Vec Ideal S1x8x128x256 .f32)
    (o j : ℕ) (ho : o ≤ 384) (hj : j < 4)
    (K : ℕ → ℕ → EReal) (hk : ∀ (κ : Fin 256) (d : Fin 128), k (ix2 κ d) = K κ d)
    (W : ℕ → ℕ → EReal) (hv : ∀ (κ : Fin 256) (d : Fin 128), v (ix2 κ d) = W κ d) (z : S128x128.Idx) :
    pair (256 * j) (256 * j + 128) (rows2 _ 128 (by omega)) (rows2 _ 128 (by omega))
        (octOut (sB X6 k B o 0 ho (by omega)) (sB X6 k B o 1 ho (by omega)) (sB X6 k B o 2 ho (by omega)) (sB X6 k B o 3 ho (by omega))
          (sB X6 k B o 4 ho (by omega)) (sB X6 k B o 5 ho (by omega)) (sB X6 k B o 6 ho (by omega)) (sB X6 k B o 7 ho (by omega))
          (kB X0 0 (by omega)) (kB X0 1 (by omega)) (kB X0 2 (by omega)) (kB X0 3 (by omega))
          (kB X0 4 (by omega)) (kB X0 5 (by omega)) (kB X0 6 (by omega)) (kB X0 7 (by omega)) v)
        (invSumB (sB X6 k B o (2 * j) ho (by omega)) (kB X0 (2 * j) (by omega)))
        (invSumB (sB X6 k B o (2 * j + 1) ho (by omega)) (kB X0 (2 * j + 1) (by omega))) z =
      attnSink (fun κ : Fin 256 => (∑ d : Fin 64, rd2 X6 (o + z 0) (128 * j + 64 * (z 1 / 64) + d) * K κ (64 * (z 1 / 64) + d))
          + rd4 B 0 (j + 4 * (z 1 / 64)) (z 0) κ)
        (fun κ => W κ (z 1)) (rd1 X0 (j + 4 * (z 1 / 64))) := by
  idx_vars z
  have q0 : 2 * j / 2 = j := by omega
  have q1 : (2 * j + 1) / 2 = j := by omega
  have m0 : 2 * j % 2 = 0 := by omega
  have m1 : (2 * j + 1) % 2 = 1 := by omega
  have d0 : 64 * (2 * j) = 128 * j + 64 * 0 := by omega
  have d1 : 64 * (2 * j + 1) = 128 * j + 64 * 1 := by omega
  rw [pair_apply _ _ _ _ _ _ _ _ _ _ _ _ _ _ _ _ v _ _ _ _ ⟨j, hj⟩ rfl rfl]
  · have key : ∀ (h : Fin 2) (κ : Fin 256),
        ![sB X6 k B o (2 * j) ho (by omega), sB X6 k B o (2 * j + 1) ho (by omega)] h (ix2 z0 κ) =
        (∑ d : Fin 64, rd2 X6 (o + z0) (128 * j + 64 * h + d) * K κ (64 * h + d)) + rd4 B 0 (j + 4 * h) z0 κ := by
      intro h κ
      fin_cases h
      · refine (sB_apply X6 k B o (2 * j) ho (by omega) K hk z0 κ).trans ?_
        simp only [q0, m0, d0]
      · refine (sB_apply X6 k B o (2 * j + 1) ho (by omega) K hk z0 κ).trans ?_
        simp only [q1, m1, d1]
    have key' : ∀ h : Fin 2, ![kB X0 (2 * j) (by omega), kB X0 (2 * j + 1) (by omega)] h = rd1 X0 (j + 4 * h) := by
      intro h
      fin_cases h
      · refine (kB_apply X0 (2 * j) (by omega)).trans ?_
        simp only [q0, m0]
      · refine (kB_apply X0 (2 * j + 1) (by omega)).trans ?_
        simp only [q1, m1]
    rw [key']
    exact congrArg₂ (fun a b => attnSink a b _) (funext fun κ => key _ κ) (funext fun κ => hv κ z1)
  all_goals interval_cases j <;> rfl

end Cert.KernelIdeal.Att
-- ==== Proof.Block.lean ====
module

public import proofs.«01_k».proof.Proof.Pieces

/-! The block that one step of the attention kernel writes, as a function of the blocks that the step reads. -/

@[expose] public section
set_option maxRecDepth 16384
noncomputable section
namespace Cert.KernelIdeal.Att
open Idealize.ShloMosaic Idealize.ShloMosaic.TcCoe Idealize.SL.Sem Cert.KernelIdeal Cert.KernelIdeal.Gen Cert.Read
variable (m : (ℓ : Loc nD τ sig) → Buf (Elt Ideal) ℓ)

/-- The bias block of mixer A that the rows `128 * sub` to `128 * sub + 127` of a step take. -/
def biasA (c : Dev nD) (t : Fin cfg0.N) : ℕ → Vec Ideal S1x8x128x640 .f32
  | 0 => iblk m c 11 t
  | 1 => iblk m c 12 t
  | 2 => iblk m c 13 t
  | _ => iblk m c 14 t

/-- The bias block of mixer B that those rows take. -/
def biasB (c : Dev nD) (t : Fin cfg0.N) : ℕ → Vec Ideal S1x8x128x256 .f32
  | 0 => iblk m c 15 t
  | 1 => iblk m c 16 t
  | 2 => iblk m c 17 t
  | _ => iblk m c 18 t

/-- The step's entry in row `a` and lane `b < 512`: mixer A. -/
def entryA (c : Dev nD) (t : Fin cfg0.N) (a b : ℕ) : EReal :=
  attn (fun κ : Fin 640 => (∑ d : Fin 64, rd2 (X0_1 m c t) a (64 * (b / 64) + d)
      * over (X0_2 m c t) (X0_3 m c t) (128 * (a / 128) + κ) (64 * (b / 64) + d)) + rd4 (biasA m c t (a / 128)) 0 (b / 64) (a % 128) κ)
    (fun κ => over (X0_4 m c t) (X0_5 m c t) (128 * (a / 128) + κ) b)

/-- The step's entry in row `a` and lane `512 + b`: mixer B. -/
def entryB (c : Dev nD) (t : Fin cfg0.N) (a b : ℕ) : EReal :=
  attnSink (fun κ : Fin 256 => (∑ d : Fin 64, rd2 (X0_6 m c t) a (64 * (b / 64) + d)
      * over (iblk m c 7 t) (iblk m c 8 t) (384 + 128 * (a / 128) + κ) (64 * (b / 64 % 2) + d))
      + rd4 (biasB m c t (a / 128)) 0 (b / 128 + 4 * (b / 64 % 2)) (a % 128) κ)
    (fun κ => over (iblk m c 9 t) (iblk m c 10 t) (384 + 128 * (a / 128) + κ) (b % 128))
    (rd1 (iblk m c 0 t) (b / 128 + 4 * (b / 64 % 2)))

/-- The step's entry in row `a` and lane `b`. -/
def entry (c : Dev nD) (t : Fin cfg0.N) (a b : ℕ) : EReal :=
  if b < 512 then entryA m c t a b else entryB m c t a (b - 512)

/-- The tile of heads `4 * g` to `4 * g + 3` of mixer A and rows `128 * sub` to `128 * sub + 127`. -/
theorem quad_entry (c : Dev nD) (t : Fin cfg0.N) (sub g : ℕ) (hs : sub < 4) (hg : g < 2) (y : S512x1024.Idx) (z : S128x256.Idx)
    (h0 : (y 0 : ℕ) = 128 * sub + z 0) (h1 : (y 1 : ℕ) = 256 * g + z 1) :
    quad (sA (X0_1 m c t) (X0_2 m c t) (X0_3 m c t) (biasA m c t sub) (128 * sub) g 0 (by omega) hg (by omega))
        (sA (X0_1 m c t) (X0_2 m c t) (X0_3 m c t) (biasA m c t sub) (128 * sub) g 1 (by omega) hg (by omega))
        (sA (X0_1 m c t) (X0_2 m c t) (X0_3 m c t) (biasA m c t sub) (128 * sub) g 2 (by omega) hg (by omega))
        (sA (X0_1 m c t) (X0_2 m c t) (X0_3 m c t) (biasA m c t sub) (128 * sub) g 3 (by omega) hg (by omega))
        (vals (X0_4 m c t) (X0_5 m c t) (128 * sub) (256 * g) (by omega) (by omega)) z =
      entry m c t (y 0) (y 1) := by
  have z0 : (z 0 : ℕ) < 128 := (z 0).2
  have z1 : (z 1 : ℕ) < 256 := (z 1).2
  have e0 : (y 0 : ℕ) / 128 = sub := by omega
  have e1 : (y 0 : ℕ) % 128 = z 0 := by omega
  have e2 : (y 1 : ℕ) / 64 = 4 * g + z 1 / 64 := by omega
  rw [entry, if_pos (by omega), entryA, e0, e1, e2, h0, h1]
  exact quad_piece ..

/-- The rows of the shorter band that the first rows of a step take: the last 128 of the block before, the first 128 of its own. -/
def bandFirst (X Y : Vec Ideal S512x128 .bf16) : FVec Ideal S256x128 .bf16 :=
  concatenate S256x128 0
    [⟨S128x128, shapeCast S128x128 (View.ld X (Rect.unit ![384, 0] ![128, 128] (inb2 384 0 128 128 (by omega) (by omega)))) shapeCasts_S128x128_S128x128⟩,
     ⟨S128x128, shapeCast S128x128 (View.ld Y (Rect.unit ![0, 0] ![128, 128] (inb2 0 0 128 128 (by omega) (by omega)))) shapeCasts_S128x128_S128x128⟩]
    concatenates_S128x128_S128x128_S256x128_d0

/-- The rows of the shorter band that later rows of a step take: 256 of its own block. -/
def bandLater (Y : Vec Ideal S512x128 .bf16) (o : ℕ) (ho : o ≤ 256) : FVec Ideal S256x128 .bf16 :=
  shapeCast S256x128 (View.ld Y (Rect.unit ![o, 0] ![256, 128] (inb2 o 0 256 128 (by omega) (by omega)))) shapeCasts_S256x128_S256x128

theorem bandFirst_apply (X Y : Vec Ideal S512x128 .bf16) (κ : Fin 256) (d : Fin 128) :
    bandFirst X Y (ix2 κ d) = over X Y (384 + 128 * 0 + κ) d := by
  pointwise [bandFirst]
  rw [over]
  by_cases h : (κ : ℕ) < 128
  · rw [dif_pos h, if_pos (by omega)]; exact rd2_of X _ _ _ (by simp) (by simp)
  · rw [dif_neg h]
    exact (rd2_of Y _ (κ - 128) d rfl rfl).trans (by rw [if_neg (by omega)]; congr 1; omega)

theorem bandLater_apply (X Y : Vec Ideal S512x128 .bf16) (n : ℕ) (hn : n < 3) (κ : Fin 256) (d : Fin 128) :
    bandLater Y (128 * n) (by omega) (ix2 κ d) = over X Y (384 + 128 * (n + 1) + κ) d := by
  pointwise [bandLater]
  rw [over, if_neg (by omega)]
  exact rd2_of Y _ _ _ (by simp; omega) (by simp)

/-- The tile of the `j`-th two heads of mixer B and rows `128 * sub` to `128 * sub + 127`. -/
theorem pair_entry (c : Dev nD) (t : Fin cfg0.N) (sub j : ℕ) (hs : sub < 4) (hj : j < 4) (y : S512x1024.Idx) (z : S128x128.Idx)
    (h0 : (y 0 : ℕ) = 128 * sub + z 0) (h1 : (y 1 : ℕ) = 512 + 128 * j + z 1) (k v : FVec Ideal S256x128 .bf16)
    (hk : ∀ (κ : Fin 256) (d : Fin 128), k (ix2 κ d) = over (iblk m c 7 t) (iblk m c 8 t) (384 + 128 * sub + κ) d)
    (hv : ∀ (κ : Fin 256) (d : Fin 128), v (ix2 κ d) = over (iblk m c 9 t) (iblk m c 10 t) (384 + 128 * sub + κ) d) :
    pair (256 * j) (256 * j + 128) (rows2 _ 128 (by omega)) (rows2 _ 128 (by omega))
        (octOut (sB (X0_6 m c t) k (biasB m c t sub) (128 * sub) 0 (by omega) (by omega)) (sB (X0_6 m c t) k (biasB m c t sub) (128 * sub) 1 (by omega) (by omega))
          (sB (X0_6 m c t) k (biasB m c t sub) (128 * sub) 2 (by omega) (by omega)) (sB (X0_6 m c t) k (biasB m c t sub) (128 * sub) 3 (by omega) (by omega))
          (sB (X0_6 m c t) k (biasB m c t sub) (128 * sub) 4 (by omega) (by omega)) (sB (X0_6 m c t) k (biasB m c t sub) (128 * sub) 5 (by omega) (by omega))
          (sB (X0_6 m c t) k (biasB m c t sub) (128 * sub) 6 (by omega) (by omega)) (sB (X0_6 m c t) k (biasB m c t sub) (128 * sub) 7 (by omega) (by omega))
          (kB (iblk m c 0 t) 0 (by omega)) (kB (iblk m c 0 t) 1 (by omega)) (kB (iblk m c 0 t) 2 (by omega)) (kB (iblk m c 0 t) 3 (by omega))
          (kB (iblk m c 0 t) 4 (by omega)) (kB (iblk m c 0 t) 5 (by omega)) (kB (iblk m c 0 t) 6 (by omega)) (kB (iblk m c 0 t) 7 (by omega)) v)
        (invSumB (sB (X0_6 m c t) k (biasB m c t sub) (128 * sub) (2 * j) (by omega) (by omega)) (kB (iblk m c 0 t) (2 * j) (by omega)))
        (invSumB (sB (X0_6 m c t) k (biasB m c t sub) (128 * sub) (2 * j + 1) (by omega) (by omega)) (kB (iblk m c 0 t) (2 * j + 1) (by omega))) z =
      entry m c t (y 0) (y 1) := by
  have z0 : (z 0 : ℕ) < 128 := (z 0).2
  have z1 : (z 1 : ℕ) < 128 := (z 1).2
  have e0 : (y 0 : ℕ) / 128 = sub := by omega
  have e1 : (y 0 : ℕ) % 128 = z 0 := by omega
  have e2 : ((y 1 : ℕ) - 512) / 128 = j := by omega
  have e3 : ((y 1 : ℕ) - 512) / 64 % 2 = z 1 / 64 := by omega
  have e4 : 64 * (((y 1 : ℕ) - 512) / 64) = 128 * j + 64 * (z 1 / 64) := by omega
  have e5 : ((y 1 : ℕ) - 512) % 128 = z 1 := by omega
  rw [entry, if_neg (by omega), entryB, e0, e1, e2, e3, e4, e5, h0]
  exact pair_piece (iblk m c 0 t) (X0_6 m c t) k v (biasB m c t sub) (128 * sub) j (by omega) hj
    (fun a d => over (iblk m c 7 t) (iblk m c 8 t) (384 + 128 * sub + a) d) hk
    (fun a d => over (iblk m c 9 t) (iblk m c 10 t) (384 + 128 * sub + a) d) hv z

set_option maxHeartbeats 1000000 in
/-- The block that a step writes, entry by entry. -/
theorem block_apply (c : Dev nD) (t : Fin cfg0.N) (y : S512x1024.Idx) : outsAt0 m c t y = entry m c t (y 0) (y 1) := by
  have first7 := bandFirst_apply (iblk m c 7 t) (iblk m c 8 t)
  have first9 := bandFirst_apply (iblk m c 9 t) (iblk m c 10 t)
  have later7 := bandLater_apply (iblk m c 7 t) (iblk m c 8 t)
  have later9 := bandLater_apply (iblk m c 9 t) (iblk m c 10 t)
  unfold outsAt0
  frame_out
  canon_tiles z h using View.cover_of_tiledBy _ ![128, 128] (by sl_kernel_rfl) y
  all_goals unfold_payloads
  case piece23 => exact quad_entry m c t 0 0 (by omega) (by omega) y z (by omega) (by omega)
  case piece22 => exact quad_entry m c t 0 1 (by omega) (by omega) y z (by omega) (by omega)
  case piece21 =>
    exact pair_entry m c t 0 0 (by omega) (by omega) y z (by omega) (by omega)
      (bandFirst (iblk m c 7 t) (iblk m c 8 t))
      (bandFirst (iblk m c 9 t) (iblk m c 10 t)) first7 first9
  case piece20 =>
    exact pair_entry m c t 0 1 (by omega) (by omega) y z (by omega) (by omega)
      (bandFirst (iblk m c 7 t) (iblk m c 8 t))
      (bandFirst (iblk m c 9 t) (iblk m c 10 t)) first7 first9
  case piece19 =>
    exact pair_entry m c t 0 2 (by omega) (by omega) y z (by omega) (by omega)
      (bandFirst (iblk m c 7 t) (iblk m c 8 t))
      (bandFirst (iblk m c 9 t) (iblk m c 10 t)) first7 first9
  case piece18 =>
    exact pair_entry m c t 0 3 (by omega) (by omega) y z (by omega) (by omega)
      (bandFirst (iblk m c 7 t) (iblk m c 8 t))
      (bandFirst (iblk m c 9 t) (iblk m c 10 t)) first7 first9
  case piece17 => exact quad_entry m c t 1 0 (by omega) (by omega) y z (by omega) (by omega)
  case piece16 => exact quad_entry m c t 1 1 (by omega) (by omega) y z (by omega) (by omega)
  case piece15 =>
    exact pair_entry m c t 1 0 (by omega) (by omega) y z (by omega) (by omega)
      (bandLater (iblk m c 8 t) (128 * 0) (by omega))
      (bandLater (iblk m c 10 t) (128 * 0) (by omega)) (later7 0 (by omega)) (later9 0 (by omega))
  case piece14 =>
    exact pair_entry m c t 1 1 (by omega) (by omega) y z (by omega) (by omega)
      (bandLater (iblk m c 8 t) (128 * 0) (by omega))
      (bandLater (iblk m c 10 t) (128 * 0) (by omega)) (later7 0 (by omega)) (later9 0 (by omega))
  case piece13 =>
    exact pair_entry m c t 1 2 (by omega) (by omega) y z (by omega) (by omega)
      (bandLater (iblk m c 8 t) (128 * 0) (by omega))
      (bandLater (iblk m c 10 t) (128 * 0) (by omega)) (later7 0 (by omega)) (later9 0 (by omega))
  case piece12 =>
    exact pair_entry m c t 1 3 (by omega) (by omega) y z (by omega) (by omega)
      (bandLater (iblk m c 8 t) (128 * 0) (by omega))
      (bandLater (iblk m c 10 t) (128 * 0) (by omega)) (later7 0 (by omega)) (later9 0 (by omega))
  case piece11 => exact quad_entry m c t 2 0 (by omega) (by omega) y z (by omega) (by omega)
  case piece10 => exact quad_entry m c t 2 1 (by omega) (by omega) y z (by omega) (by omega)
  case piece9 =>
    exact pair_entry m c t 2 0 (by omega) (by omega) y z (by omega) (by omega)
      (bandLater (iblk m c 8 t) (128 * 1) (by omega))
      (bandLater (iblk m c 10 t) (128 * 1) (by omega)) (later7 1 (by omega)) (later9 1 (by omega))
  case piece8 =>
    exact pair_entry m c t 2 1 (by omega) (by omega) y z (by omega) (by omega)
      (bandLater (iblk m c 8 t) (128 * 1) (by omega))
      (bandLater (iblk m c 10 t) (128 * 1) (by omega)) (later7 1 (by omega)) (later9 1 (by omega))
  case piece7 =>
    exact pair_entry m c t 2 2 (by omega) (by omega) y z (by omega) (by omega)
      (bandLater (iblk m c 8 t) (128 * 1) (by omega))
      (bandLater (iblk m c 10 t) (128 * 1) (by omega)) (later7 1 (by omega)) (later9 1 (by omega))
  case piece6 =>
    exact pair_entry m c t 2 3 (by omega) (by omega) y z (by omega) (by omega)
      (bandLater (iblk m c 8 t) (128 * 1) (by omega))
      (bandLater (iblk m c 10 t) (128 * 1) (by omega)) (later7 1 (by omega)) (later9 1 (by omega))
  case piece5 => exact quad_entry m c t 3 0 (by omega) (by omega) y z (by omega) (by omega)
  case piece4 => exact quad_entry m c t 3 1 (by omega) (by omega) y z (by omega) (by omega)
  case piece3 =>
    exact pair_entry m c t 3 0 (by omega) (by omega) y z (by omega) (by omega)
      (bandLater (iblk m c 8 t) (128 * 2) (by omega))
      (bandLater (iblk m c 10 t) (128 * 2) (by omega)) (later7 2 (by omega)) (later9 2 (by omega))
  case piece2 =>
    exact pair_entry m c t 3 1 (by omega) (by omega) y z (by omega) (by omega)
      (bandLater (iblk m c 8 t) (128 * 2) (by omega))
      (bandLater (iblk m c 10 t) (128 * 2) (by omega)) (later7 2 (by omega)) (later9 2 (by omega))
  case piece1 =>
    exact pair_entry m c t 3 2 (by omega) (by omega) y z (by omega) (by omega)
      (bandLater (iblk m c 8 t) (128 * 2) (by omega))
      (bandLater (iblk m c 10 t) (128 * 2) (by omega)) (later7 2 (by omega)) (later9 2 (by omega))
  case piece0 =>
    exact pair_entry m c t 3 3 (by omega) (by omega) y z (by omega) (by omega)
      (bandLater (iblk m c 8 t) (128 * 2) (by omega))
      (bandLater (iblk m c 10 t) (128 * 2) (by omega)) (later7 2 (by omega)) (later9 2 (by omega))

end Cert.KernelIdeal.Att
-- ==== Proof.Rows.lean ====
module

public import proofs.«01_k».proof.Proof.Block

/-! Where the blocks of a step lie in the arrays: the step's block rows, the block row before, and the bias of its kind. -/

@[expose] public section
set_option maxRecDepth 16384
noncomputable section
namespace Cert.KernelIdeal.Att
open Idealize.ShloMosaic Idealize.ShloMosaic.TcCoe Idealize.SL.Sem Cert.KernelIdeal Cert.KernelIdeal.Gen Cert.Read
variable (m : (ℓ : Loc nD τ sig) → Buf (Elt Ideal) ℓ)

/-- The block row before block row `t` of the same sequence, or `t` itself where a sequence begins. -/
def prev (t : ℕ) : ℕ := if t % 16 = 0 then t else t - 1

/-- The index maps of the windows on the packed queries, keys and values. -/
theorem idx_qkv : ∀ t : Fin cfg0.N,
    win0_1.index t = ![t.val, 0] ∧ win0_2.index t = ![prev t.val, 1] ∧ win0_3.index t = ![t.val, 1] ∧ win0_4.index t = ![prev t.val, 3]
      ∧ win0_5.index t = ![t.val, 3] ∧ win0_6.index t = ![t.val, 2] ∧ win0_7.index t = ![prev t.val, 16] ∧ win0_8.index t = ![t.val, 16]
      ∧ win0_9.index t = ![prev t.val, 17] ∧ win0_10.index t = ![t.val, 17] ∧ win0_19.index t = ![t.val, 0] :=
  (by decide +kernel : ∀ t : Fin grid0.N, _)

/-- The index maps of the windows on the biases. -/
theorem idx_bias : ∀ t : Fin cfg0.N,
    win0_11.index t = ![min (4 * (t.val % 16) + 0) 4, 0, 0, 0] ∧ win0_12.index t = ![min (4 * (t.val % 16) + 1) 4, 0, 0, 0]
      ∧ win0_13.index t = ![min (4 * (t.val % 16) + 2) 4, 0, 0, 0] ∧ win0_14.index t = ![min (4 * (t.val % 16) + 3) 4, 0, 0, 0]
      ∧ win0_15.index t = ![min (4 * (t.val % 16) + 0) 1, 0, 0, 0] ∧ win0_16.index t = ![min (4 * (t.val % 16) + 1) 1, 0, 0, 0]
      ∧ win0_17.index t = ![min (4 * (t.val % 16) + 2) 1, 0, 0, 0] ∧ win0_18.index t = ![min (4 * (t.val % 16) + 3) 1, 0, 0, 0] :=
  (by decide +kernel : ∀ t : Fin grid0.N, _)

/-- The packed queries, keys and values of the launch, read at a row and a lane. -/
def qkv (c : Dev nD) (a b : ℕ) : EReal := rd2 (n0 := 65536) (n1 := 2304) (V m c main_v16) a b

/-- A block's row in its array, the block's number times its height first. -/
theorem row_at (t r a : ℕ) : t * 512 + r = 512 * t + r := by rw [Nat.mul_comm]

set_option maxHeartbeats 2000000 in
/-- The wide blocks of a step: own queries, keys and values of mixer A before and own, queries of mixer B. -/
theorem wide (c : Dev nD) (t : Fin cfg0.N) :
    (∀ j : S512x512.Idx, X0_1 m c t j = qkv m c (512 * t.val + (j 0 : ℕ)) (0 + j 1))
    ∧ (∀ j : S512x512.Idx, X0_2 m c t j = qkv m c (512 * prev t.val + (j 0 : ℕ)) (512 + j 1))
    ∧ (∀ j : S512x512.Idx, X0_3 m c t j = qkv m c (512 * t.val + (j 0 : ℕ)) (512 + j 1))
    ∧ (∀ j : S512x512.Idx, X0_4 m c t j = qkv m c (512 * prev t.val + (j 0 : ℕ)) (1536 + j 1))
    ∧ (∀ j : S512x512.Idx, X0_5 m c t j = qkv m c (512 * t.val + (j 0 : ℕ)) (1536 + j 1))
    ∧ (∀ j : S512x512.Idx, X0_6 m c t j = qkv m c (512 * t.val + (j 0 : ℕ)) (1024 + j 1)) := by
  obtain ⟨h1, h2, h3, h4, h5, h6, -⟩ := idx_qkv t
  refine ⟨fun j => (dif_pos (moved0_1 t j)).trans ?_, fun j => (dif_pos (moved0_2 t j)).trans ?_, fun j => (dif_pos (moved0_3 t j)).trans ?_,
    fun j => (dif_pos (moved0_4 t j)).trans ?_, fun j => (dif_pos (moved0_5 t j)).trans ?_, fun j => (dif_pos (moved0_6 t j)).trans ?_⟩
  all_goals refine rd2_of (n0 := 65536) (n1 := 2304) (V m c main_v16) _ _ _ ?_ ?_
  all_goals blk_simp [h1, h2, h3, h4, h5, h6]
  all_goals exact row_at _ _ 0

set_option maxHeartbeats 2000000 in
/-- The narrow blocks of a step: keys and values of mixer B, before and own. -/
theorem narrow (c : Dev nD) (t : Fin cfg0.N) :
    (∀ j : S512x128.Idx, iblk m c 7 t j = qkv m c (512 * prev t.val + (j 0 : ℕ)) (2048 + j 1))
    ∧ (∀ j : S512x128.Idx, iblk m c 8 t j = qkv m c (512 * t.val + (j 0 : ℕ)) (2048 + j 1))
    ∧ (∀ j : S512x128.Idx, iblk m c 9 t j = qkv m c (512 * prev t.val + (j 0 : ℕ)) (2176 + j 1))
    ∧ (∀ j : S512x128.Idx, iblk m c 10 t j = qkv m c (512 * t.val + (j 0 : ℕ)) (2176 + j 1)) := by
  obtain ⟨-, -, -, -, -, -, h7, h8, h9, h10, -⟩ := idx_qkv t
  refine ⟨fun j => ?_, fun j => ?_, fun j => ?_, fun j => ?_⟩
  all_goals refine rd2_of (n0 := 65536) (n1 := 2304) (V m c main_v16) _ _ _ ?_ ?_
  all_goals blk_simp [h7, h8, h9, h10]
  all_goals exact row_at _ _ 0

set_option maxHeartbeats 2000000 in
/-- The bias blocks of mixer A. -/
theorem biasA_apply (c : Dev nD) (t : Fin cfg0.N) (n : ℕ) (hn : n < 4) (j : S1x8x128x640.Idx) :
    biasA m c t n j = rd4 (n0 := 5) (n1 := 8) (n2 := 128) (n3 := 640) (V m c main_v71) (min (4 * (t.val % 16) + n) 4) (j 1) (j 2) (j 3) := by
  obtain ⟨h0, h1, h2, h3, -⟩ := idx_bias t
  have j0 : (j 0 : ℕ) < 1 := (j 0).2
  interval_cases n
  all_goals refine rd4_of (n0 := 5) (n1 := 8) (n2 := 128) (n3 := 640) (V m c main_v71) _ _ _ _ _ ?_ ?_ ?_ ?_
  all_goals blk_simp [h0, h1, h2, h3]

set_option maxHeartbeats 2000000 in
/-- The bias blocks of mixer B. -/
theorem biasB_apply (c : Dev nD) (t : Fin cfg0.N) (n : ℕ) (hn : n < 4) (j : S1x8x128x256.Idx) :
    biasB m c t n j = rd4 (n0 := 2) (n1 := 8) (n2 := 128) (n3 := 256) (V m c main_v125) (min (4 * (t.val % 16) + n) 1) (j 1) (j 2) (j 3) := by
  obtain ⟨-, -, -, -, h0, h1, h2, h3⟩ := idx_bias t
  have j0 : (j 0 : ℕ) < 1 := (j 0).2
  interval_cases n
  all_goals refine rd4_of (n0 := 2) (n1 := 8) (n2 := 128) (n3 := 256) (V m c main_v125) _ _ _ _ _ ?_ ?_ ?_ ?_
  all_goals blk_simp [h0, h1, h2, h3]

/-- The sinks. -/
theorem sink_apply (c : Dev nD) (t : Fin cfg0.N) (n : ℕ) : rd1 (n0 := 8) (iblk m c 0 t) n = rd1 (n0 := 8) (V m c main_v129) n := by
  refine congrArg (fun X => rd1 (n0 := 8) X n) (funext fun j => ?_)
  have h : ∀ t : Fin cfg0.N, win0_0.index t = ![0] := (by decide +kernel : ∀ t : Fin grid0.N, _)
  blk_ext [iblk, h t]

/-- Two matrices one above the other whose entries are given by functions. -/
theorem over_congr {n0 n1 m0 : ℕ} (X : (⟨2, ![n0, n1]⟩ : Shape).Idx → EReal) (Y : (⟨2, ![m0, n1]⟩ : Shape).Idx → EReal) (f g : ℕ → ℕ → EReal)
    (hX : ∀ j, X j = f (j 0) (j 1)) (hY : ∀ j, Y j = g (j 0) (j 1)) (a b : ℕ) (ha : a < n0 + m0) (hb : b < n1) :
    over X Y a b = if a < n0 then f a b else g (a - n0) b := by
  unfold over rd2
  split_ifs <;> first | exact hX _ | exact hY _ | omega

/-- A matrix whose entries are given by a function. -/
theorem rd2_congr {n0 n1 : ℕ} (X : (⟨2, ![n0, n1]⟩ : Shape).Idx → EReal) (f : ℕ → ℕ → EReal)
    (hX : ∀ j, X j = f (j 0) (j 1)) (a b : ℕ) (ha : a < n0) (hb : b < n1) : rd2 X a b = f a b := by
  rw [rd2, dif_pos ⟨ha, hb⟩]
  exact hX _

/-- The row of the packed array at place `x` of a step's band, which is the block row before and its own. -/
def row (t x : ℕ) : ℕ := if x < 512 then 512 * prev t + x else 512 * t + (x - 512)

/-- A band's entry: the block before's, then the own block's. -/
theorem band_row {n1 : ℕ} (c : Dev nD) (t : ℕ) (X Y : (⟨2, ![512, n1]⟩ : Shape).Idx → EReal) (o : ℕ)
    (hX : ∀ j, X j = qkv m c (512 * prev t + (j 0 : ℕ)) (o + j 1)) (hY : ∀ j, Y j = qkv m c (512 * t + (j 0 : ℕ)) (o + j 1))
    (a b : ℕ) (ha : a < 1024) (hb : b < n1) : over X Y a b = qkv m c (row t a) (o + b) := by
  refine (over_congr X Y (fun x y => qkv m c (512 * prev t + x) (o + y)) (fun x y => qkv m c (512 * t + x) (o + y)) hX hY a b ha hb).trans ?_
  unfold row
  by_cases h : a < 512
  · rw [if_pos h, if_pos h]
  · rw [if_neg h, if_neg h]

/-- Mixer A's bias block at naturals. -/
theorem biasA_rd (c : Dev nD) (t : Fin cfg0.N) (n : ℕ) (hn : n < 4) (h r k : ℕ) (hh : h < 8) (hr : r < 128) (hk : k < 640) :
    rd4 (biasA m c t n) 0 h r k
      = rd4 (n0 := 5) (n1 := 8) (n2 := 128) (n3 := 640) (V m c main_v71) (min (4 * (t.val % 16) + n) 4) h r k := by
  rw [rd4, dif_pos ⟨⟨by omega, hh⟩, hr, hk⟩]
  exact biasA_apply m c t n hn _

/-- Mixer B's bias block at naturals. -/
theorem biasB_rd (c : Dev nD) (t : Fin cfg0.N) (n : ℕ) (hn : n < 4) (h r k : ℕ) (hh : h < 8) (hr : r < 128) (hk : k < 256) :
    rd4 (biasB m c t n) 0 h r k
      = rd4 (n0 := 2) (n1 := 8) (n2 := 128) (n3 := 256) (V m c main_v125) (min (4 * (t.val % 16) + n) 1) h r k := by
  rw [rd4, dif_pos ⟨⟨by omega, hh⟩, hr, hk⟩]
  exact biasB_apply m c t n hn _

/-- Mixer A's entry over the packed array. -/
theorem entryA_eq (c : Dev nD) (t : Fin cfg0.N) (a b : ℕ) (ha : a < 512) (hb : b < 512) :
    entryA m c t a b = attn (fun κ : Fin 640 => (∑ d : Fin 64, qkv m c (512 * t.val + a) (64 * (b / 64) + d)
      * qkv m c (row t.val (128 * (a / 128) + κ)) (512 + (64 * (b / 64) + d)))
        + rd4 (n0 := 5) (n1 := 8) (n2 := 128) (n3 := 640) (V m c main_v71) (min (4 * (t.val % 16) + a / 128) 4) (b / 64) (a % 128) κ)
      (fun κ => qkv m c (row t.val (128 * (a / 128) + κ)) (1536 + b)) := by
  obtain ⟨h1, h2, h3, h4, h5, -⟩ := wide m c t
  refine congrArg₂ attn (funext fun κ => congrArg₂ (· + ·) (Finset.sum_congr rfl fun d _ => congrArg₂ (· * ·) ?_ ?_) ?_) (funext fun κ => ?_)
  · refine (rd2_congr (X0_1 m c t) (fun x y => qkv m c (512 * t.val + x) (0 + y)) h1 _ _ ha (by omega)).trans ?_
    exact congrArg (qkv m c _) (Nat.zero_add _)
  · exact band_row m c t.val (X0_2 m c t) (X0_3 m c t) 512 h2 h3 _ _ (by omega) (by omega)
  · exact biasA_rd m c t _ (by omega) _ _ _ (by omega) (by omega) κ.2
  · exact band_row m c t.val (X0_4 m c t) (X0_5 m c t) 1536 h4 h5 _ _ (by omega) hb

/-- Mixer B's entry over the packed array. -/
theorem entryB_eq (c : Dev nD) (t : Fin cfg0.N) (a b : ℕ) (ha : a < 512) (hb : b < 512) :
    entryB m c t a b = attnSink (fun κ : Fin 256 => (∑ d : Fin 64, qkv m c (512 * t.val + a) (1024 + (64 * (b / 64) + d))
      * qkv m c (row t.val (384 + 128 * (a / 128) + κ)) (2048 + (64 * (b / 64 % 2) + d)))
        + rd4 (n0 := 2) (n1 := 8) (n2 := 128) (n3 := 256) (V m c main_v125) (min (4 * (t.val % 16) + a / 128) 1)
            (b / 128 + 4 * (b / 64 % 2)) (a % 128) κ)
      (fun κ => qkv m c (row t.val (384 + 128 * (a / 128) + κ)) (2176 + b % 128))
      (rd1 (n0 := 8) (V m c main_v129) (b / 128 + 4 * (b / 64 % 2))) := by
  obtain ⟨-, -, -, -, -, h6⟩ := wide m c t
  obtain ⟨h7, h8, h9, h10⟩ := narrow m c t
  rw [← sink_apply m c t]
  refine congrArg₂ (fun s v => attnSink s v _) (funext fun κ => congrArg₂ (· + ·) (Finset.sum_congr rfl fun d _ => congrArg₂ (· * ·) ?_ ?_) ?_)
    (funext fun κ => ?_)
  · exact rd2_congr (X0_6 m c t) (fun x y => qkv m c (512 * t.val + x) (1024 + y)) h6 _ _ ha (by omega)
  · exact band_row m c t.val (iblk m c 7 t) (iblk m c 8 t) 2048 h7 h8 _ _ (by omega) (by omega)
  · exact biasB_rd m c t _ (by omega) _ _ _ (by omega) (by omega) κ.2
  · exact band_row m c t.val (iblk m c 9 t) (iblk m c 10 t) 2176 h9 h10 _ _ (by omega) (by omega)

/-- The array the kernel leaves, in closed form. -/
def resultAt (c : Dev nD) (i : S65536x1024.Idx) : EReal :=
  entry m c ⟨(i 0 : ℕ) / 512, by have : (i 0 : ℕ) < 65536 := (i 0).2; show _ < 128; omega⟩ ((i 0 : ℕ) % 512) (i 1)

/-- The closed form at an index known by its step and its place in the step's block. -/
theorem resultAt_of (c : Dev nD) (t : Fin cfg0.N) (a b : ℕ) (ha : a < 512) (i : S65536x1024.Idx) (h0 : (i 0 : ℕ) = 512 * t.val + a)
    (h1 : (i 1 : ℕ) = b) : resultAt m c i = entry m c t a b := by
  subst h1
  unfold resultAt
  have e1 : (⟨(i 0 : ℕ) / 512, by have : (i 0 : ℕ) < 65536 := (i 0).2; show _ < 128; omega⟩ : Fin cfg0.N) = t := Fin.ext (by show (i 0 : ℕ) / 512 = _; omega)
  have e2 : (i 0 : ℕ) % 512 = a := by omega
  rw [e1, e2]

/-- The kernel's result is the closed form: the entry of the step whose block row holds the row. -/
theorem result_apply (c : Dev nD) : (dats m 0 c).arrAt 19 cfg0.N = resultAt m c := by
  refine (dats m 0 c).arrAt_eq_of_covers 19 (resultAt m c) (by decide +kernel) fun t hf y => ?_
  have h := (idx_qkv t).2.2.2.2.2.2.2.2.2.2
  have hy : (y 0 : ℕ) < 512 := (y 0).2
  rw [after0_19]
  refine (block_apply m c t y).trans (resultAt_of m c t _ _ hy _ ?_ ?_).symm
  · blk_simp [h]
    exact row_at _ _ 0
  · blk_simp [h]

end Cert.KernelIdeal.Att
-- ==== Proof.Soft.lean ====
/- The mathematics of one row of attention over the extended reals: a softmax computed over a window of keys, in powers
   of two and with scores multiplied by a constant, is the softmax over all keys in powers of `e`. Nothing here is about a
   program. -/
module

public import Idealize.ShloMosaic.PureOps.Ideal
public import Mathlib.Data.EReal.Operations
public import Mathlib.Algebra.BigOperators.Fin

@[expose] public section

noncomputable section

open Idealize.ShloMosaic

namespace Cert.Soft

open scoped BigOperators

/-- A nonnegative real factor comes out of a finite sum of extended reals. -/
theorem sum_mul_real {ι : Type} (s : Finset ι) (f : ι → EReal) (c : ℝ) (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (by exact_mod_cast hc) (EReal.coe_ne_top c)]

/-- A product of a row scaled by a nonnegative real with another row is the scaled product. -/
theorem dot_scaled {ι : Type} [Fintype ι] (q k : ι → EReal) (c : ℝ) (hc : 0 ≤ c) :
    ∑ d, q d * (c : EReal) * k d = (∑ d, q d * k d) * (c : EReal) := by
  rw [← sum_mul_real _ _ c hc]
  exact Finset.sum_congr rfl fun d _ => by rw [mul_assoc, mul_comm (c : EReal), mul_assoc]

/-- The logarithm of `e` to base two. -/
def ell : ℝ := 1 / Real.log 2

theorem ell_pos : 0 < ell := by
  unfold ell; exact one_div_pos.mpr (Real.log_pos (by norm_num))

/-- A power of two at `log₂ e` times an argument is the exponential of the argument. -/
theorem exp2_ell (x : EReal) : Ideal.exp2 (x * (ell : EReal)) = Ideal.exp x := by
  induction x with
  | bot => rw [EReal.bot_mul_coe_of_pos ell_pos]; rfl
  | top => rw [EReal.top_mul_coe_of_pos ell_pos]; rfl
  | coe r =>
    rw [← EReal.coe_mul]
    show ((Real.rpow 2 (r * ell) : ℝ) : EReal) = (Real.exp r : EReal)
    congr 1
    have h : Real.log 2 ≠ 0 := (Real.log_pos (by norm_num)).ne'
    show (2 : ℝ) ^ (r * ell) = Real.exp r
    rw [Real.rpow_def_of_pos (by norm_num)]
    congr 1
    unfold ell
    field_simp

/-- A common positive real factor comes out of a difference whose second term is real. -/
theorem sub_mul_ell (x : EReal) (m : ℝ) : x * (ell : EReal) - (m : EReal) * (ell : EReal) = (x - m) * (ell : EReal) := by
  induction x with
  | bot => rw [EReal.bot_mul_coe_of_pos ell_pos, EReal.bot_sub, EReal.bot_sub, EReal.bot_mul_coe_of_pos ell_pos]
  | top =>
    rw [EReal.top_mul_coe_of_pos ell_pos, ← EReal.coe_mul, EReal.top_sub_coe, EReal.top_sub_coe,
      EReal.top_mul_coe_of_pos ell_pos]
  | coe r => norm_cast; ring

/-- A sum over all keys whose terms vanish where the score is `-∞` is the sum over the window's admitted positions. -/
theorem sum_window {J ι : Type} [Fintype J] [Fintype ι] (g : J → EReal) (h : ι → EReal) (x : J → EReal) (ok : ι → Prop)
    (φ : ι → J) (hinj : ∀ a b, ok a → ok b → φ a = φ b → a = b) (hsurj : ∀ j, x j ≠ ⊥ → ∃ a, ok a ∧ φ a = j)
    (hg : ∀ j, x j = ⊥ → g j = 0) (hok : ∀ a, ok a → h a = g (φ a)) (hno : ∀ a, ¬ ok a → h a = 0) :
    ∑ a, h a = ∑ j, g j := by
  classical
  refine Finset.sum_bij_ne_zero (fun a _ _ => φ a) (fun _ _ _ => Finset.mem_univ _) ?_ ?_ ?_
  · intro a _ ha b _ hb hab
    exact hinj a b (by_contra fun n => ha (hno a n)) (by_contra fun n => hb (hno b n)) hab
  · intro j _ hj
    obtain ⟨a, ha, haj⟩ := hsurj j fun n => hj (hg j n)
    exact ⟨a, Finset.mem_univ _, by rw [hok a ha, haj]; exact hj, haj⟩
  · intro a _ ha
    exact hok a (by_contra fun n => ha (hno a n))

/-- The exponential of an extended real below `+∞` is a nonnegative real, positive off `-∞`. -/
theorem exp_real (y : EReal) (hy : y ≠ ⊤) : ∃ r : ℝ, 0 ≤ r ∧ (y ≠ ⊥ → 0 < r) ∧ Ideal.exp y = (r : EReal) := by
  induction y with
  | bot => exact ⟨0, le_rfl, fun h => absurd rfl h, rfl⟩
  | top => exact absurd rfl hy
  | coe r => exact ⟨Real.exp r, (Real.exp_pos r).le, fun _ => Real.exp_pos r, rfl⟩

theorem sub_real_ne_top {x : EReal} (hx : x ≠ ⊤) (m : ℝ) : x - (m : EReal) ≠ ⊤ := by
  induction x with
  | bot => rw [EReal.bot_sub]; exact bot_ne_top
  | top => exact absurd rfl hx
  | coe r => rw [← EReal.coe_sub]; exact EReal.coe_ne_top _

theorem sub_real_ne_bot {x : EReal} (hx : x ≠ ⊥) (m : ℝ) : x - (m : EReal) ≠ ⊥ := by
  induction x with
  | bot => exact absurd rfl hx
  | top => rw [EReal.top_sub_coe]; exact top_ne_bot
  | coe r => rw [← EReal.coe_sub]; exact EReal.coe_ne_bot _

/-- The largest score of the window is the largest score of all keys, scaled. -/
theorem sup_window {J ι : Type} [Fintype J] [Fintype ι] (x : J → EReal) (w : ι → EReal) (ok : ι → Prop)
    (φ : ι → J) (hsurj : ∀ j, x j ≠ ⊥ → ∃ a, ok a ∧ φ a = j)
    (hok : ∀ a, ok a → w a = x (φ a) * (ell : EReal)) (hno : ∀ a, ¬ ok a → w a = ⊥) (hne : ∃ j, x j ≠ ⊥) :
    Finset.univ.sup w = Finset.univ.sup x * (ell : EReal) := by
  have hmono : ∀ a b : EReal, a ≤ b → a * (ell : EReal) ≤ b * (ell : EReal) := fun a b h =>
    mul_le_mul_of_nonneg_right h (by exact_mod_cast ell_pos.le)
  apply le_antisymm
  · refine Finset.sup_le fun a _ => ?_
    by_cases h : ok a
    · rw [hok a h]; exact hmono _ _ (Finset.le_sup (Finset.mem_univ _))
    · rw [hno a h]; exact bot_le
  · obtain ⟨j0, hj0⟩ := hne
    obtain ⟨j, _, hj⟩ := Finset.exists_mem_eq_sup Finset.univ ⟨j0, Finset.mem_univ _⟩ x
    have hjb : x j ≠ ⊥ := fun h => hj0 (le_bot_iff.mp (h ▸ hj ▸ Finset.le_sup (f := x) (Finset.mem_univ j0)))
    obtain ⟨a, ha, haj⟩ := hsurj j hjb
    rw [hj, ← haj, ← hok a ha]
    exact Finset.le_sup (Finset.mem_univ a)

/-- One row of attention with a sink: the window's softmax in powers of two, normalised after the product with the values,
    is the softmax over all keys, provided that the row's largest score is a real number. -/
theorem softmax_window {J ι : Type} [Fintype J] [Fintype ι] (x v : J → EReal) (w u : ι → EReal) (snk : EReal)
    (ok : ι → Prop) (φ : ι → J) (hinj : ∀ a b, ok a → ok b → φ a = φ b → a = b)
    (hsurj : ∀ j, x j ≠ ⊥ → ∃ a, ok a ∧ φ a = j)
    (hok : ∀ a, ok a → w a = x (φ a) * (ell : EReal)) (hno : ∀ a, ¬ ok a → w a = ⊥)
    (hu : ∀ a, ok a → u a = v (φ a)) (hne : ∃ j, x j ≠ ⊥) (hnt : ∀ j, x j ≠ ⊤) (hs : snk ≠ ⊤) :
    (∑ a, Ideal.exp2 (w a - max (Finset.univ.sup w) (snk * (ell : EReal))) * u a)
        * Ideal.div 1 (∑ a, Ideal.exp2 (w a - max (Finset.univ.sup w) (snk * (ell : EReal)))
            + Ideal.exp2 (snk * (ell : EReal) - max (Finset.univ.sup w) (snk * (ell : EReal))))
      = ∑ j, Ideal.div (Ideal.exp (x j - max (Finset.univ.sup x) snk))
          (∑ j, Ideal.exp (x j - max (Finset.univ.sup x) snk) + Ideal.exp (snk - max (Finset.univ.sup x) snk)) * v j := by
  have hsup := sup_window x w ok φ hsurj hok hno hne
  have hmax : max (Finset.univ.sup w) (snk * (ell : EReal)) = max (Finset.univ.sup x) snk * (ell : EReal) := by
    rw [hsup]
    have hmono : Monotone fun a : EReal => a * (ell : EReal) := fun a b h =>
      mul_le_mul_of_nonneg_right h (by exact_mod_cast ell_pos.le)
    exact (hmono.map_max).symm
  obtain ⟨j0, hj0⟩ := hne
  obtain ⟨j1, _, hj1⟩ := Finset.exists_mem_eq_sup Finset.univ ⟨j0, Finset.mem_univ _⟩ x
  have hmr : ∃ m : ℝ, max (Finset.univ.sup x) snk = (m : EReal) := by
    refine ⟨(max (Finset.univ.sup x) snk).toReal, (EReal.coe_toReal ?_ ?_).symm⟩
    · rcases max_choice (Finset.univ.sup x) snk with h | h <;> rw [h]
      · rw [hj1]; exact hnt j1
      · exact hs
    · intro h
      have : x j0 ≤ ⊥ := h ▸ le_trans (Finset.le_sup (f := x) (Finset.mem_univ j0)) (le_max_left _ _)
      exact hj0 (le_bot_iff.mp this)
  obtain ⟨m, hm⟩ := hmr
  rw [hmax, hm]
  have hE : ∀ y : EReal, Ideal.exp2 (y * (ell : EReal) - (m : EReal) * (ell : EReal)) = Ideal.exp (y - m) := fun y => by
    rw [sub_mul_ell, exp2_ell]
  have hEok : ∀ a, ok a → Ideal.exp2 (w a - (m : EReal) * (ell : EReal)) = Ideal.exp (x (φ a) - m) := fun a ha => by
    rw [hok a ha, hE]
  have hEno : ∀ a, ¬ ok a → Ideal.exp2 (w a - (m : EReal) * (ell : EReal)) = 0 := fun a ha => by
    rw [hno a ha, EReal.bot_sub]; rfl
  have hx0 : ∀ j, x j = ⊥ → Ideal.exp (x j - m) = 0 := fun j hj => by rw [hj, EReal.bot_sub]; rfl
  rw [hE snk]
  have hl : ∑ a, Ideal.exp2 (w a - (m : EReal) * (ell : EReal)) = ∑ j, Ideal.exp (x j - m) :=
    sum_window _ _ x ok φ hinj hsurj hx0 hEok hEno
  have ho : ∑ a, Ideal.exp2 (w a - (m : EReal) * (ell : EReal)) * u a = ∑ j, Ideal.exp (x j - m) * v j :=
    sum_window _ _ x ok φ hinj hsurj (fun j hj => by rw [hx0 j hj, zero_mul])
      (fun a ha => by rw [hEok a ha, hu a ha]) (fun a ha => by rw [hEno a ha, zero_mul])
  rw [hl, ho]
  choose r hr0 hrp hre using fun j => exp_real (x j - m) (sub_real_ne_top (hnt j) m)
  obtain ⟨s, hs0, _, hse⟩ := exp_real (snk - m) (sub_real_ne_top hs m)
  have hsum : ∑ j, Ideal.exp (x j - m) + Ideal.exp (snk - m) = ((∑ j, r j + s : ℝ) : EReal) := by
    rw [hse, EReal.coe_add]
    congr 1
    rw [Finset.sum_congr rfl fun j _ => hre j]
    exact (map_sum (⟨⟨fun t : ℝ => (t : EReal), rfl⟩, fun _ _ => rfl⟩ : ℝ →+ EReal) r Finset.univ).symm
  have hpos : 0 < ∑ j, r j + s := by
    have : 0 < ∑ j, r j := Finset.sum_pos' (fun j _ => hr0 j) ⟨j0, Finset.mem_univ _, hrp j0 (sub_real_ne_bot hj0 m)⟩
    linarith
  rw [hsum]
  generalize ∑ j, r j + s = l at hpos
  have hl0 : (l : EReal) ≠ 0 := by exact_mod_cast hpos.ne'
  have hdiv : ∀ y : EReal, Ideal.div y (l : EReal) = y * ((l⁻¹ : ℝ) : EReal) := fun y => by
    unfold Ideal.div; rw [if_neg hl0, EReal.coe_inv]
  rw [hdiv, one_mul, ← sum_mul_real _ _ _ (inv_nonneg.mpr hpos.le)]
  exact Finset.sum_congr rfl fun j _ => by rw [hdiv, mul_assoc, mul_comm (v j), mul_assoc]

/-- The same without a sink. -/
theorem softmax_window_plain {J ι : Type} [Fintype J] [Fintype ι] (x v : J → EReal) (w u : ι → EReal)
    (ok : ι → Prop) (φ : ι → J) (hinj : ∀ a b, ok a → ok b → φ a = φ b → a = b)
    (hsurj : ∀ j, x j ≠ ⊥ → ∃ a, ok a ∧ φ a = j)
    (hok : ∀ a, ok a → w a = x (φ a) * (ell : EReal)) (hno : ∀ a, ¬ ok a → w a = ⊥)
    (hu : ∀ a, ok a → u a = v (φ a)) (hne : ∃ j, x j ≠ ⊥) (hnt : ∀ j, x j ≠ ⊤) :
    (∑ a, Ideal.exp2 (w a - Finset.univ.sup w) * u a) * Ideal.div 1 (∑ a, Ideal.exp2 (w a - Finset.univ.sup w))
      = ∑ j, Ideal.div (Ideal.exp (x j - Finset.univ.sup x)) (∑ j, Ideal.exp (x j - Finset.univ.sup x)) * v j := by
  have h := softmax_window x v w u ⊥ ok φ hinj hsurj hok hno hu hne hnt bot_ne_top
  have hb : (⊥ : EReal) * (ell : EReal) = ⊥ := EReal.bot_mul_coe_of_pos ell_pos
  have h0 : Ideal.exp2 ⊥ = 0 := rfl
  have h1 : Ideal.exp ⊥ = 0 := rfl
  simpa only [hb, max_bot_right, EReal.bot_sub, h0, h1, add_zero] using h

end Cert.Soft

end
-- ==== Proof.Words.lean ====
module

public import Idealize.ShloMosaic.Lib.Pointwise
public import Idealize.ShloMosaic.PureOps

/-! Index words: what the integer operations on positions and chunks say of the numbers. -/

@[expose] public section
noncomputable section
namespace Cert.Words
open Idealize.ShloMosaic

/-- A small number's word, read signed, is the number. -/
theorem toInt_small (n : ℕ) (h : n < 2 ^ 31) : (BitVec.ofNat 32 n).toInt = n := by
  rw [BitVec.toInt_ofNat', Int.bmod_eq_of_le] <;> omega

/-- A small difference, read signed. -/
theorem toInt_sub (a b : ℕ) (ha : a < 2 ^ 20) (hb : b < 2 ^ 20) : (BitVec.ofNat 32 a - BitVec.ofNat 32 b).toInt = (a : ℤ) - b := by
  rw [BitVec.toInt_sub, toInt_small a (by omega), toInt_small b (by omega), Int.bmod_eq_of_le] <;> omega

/-- The quotient of a position by the length of a chunk. -/
theorem div_chunk (n : ℕ) (h : n < 2 ^ 20) : IntOp.divsi .host (BitVec.ofNat 32 n) 64#32 = BitVec.ofNat 32 (n / 64) := by
  have h64 : (64#32).toInt = 64 := by decide
  have hc : ¬ IntOp.SDivCorner (BitVec.ofNat 32 n) 64#32 := by
    unfold IntOp.SDivCorner
    simp
  unfold IntOp.divsi
  rw [if_neg hc]
  refine BitVec.eq_of_toInt_eq ?_
  rw [BitVec.toInt_sdiv, toInt_small n (by omega), h64, toInt_small (n / 64) (by omega), Int.tdiv_eq_ediv_of_nonneg (by omega),
    Int.bmod_eq_of_le] <;> omega

/-- The test that one number is at least another and at most so much larger. -/
theorem between (a b c : ℕ) (ha : a < 2 ^ 20) (hb : b < 2 ^ 20) (hc : c < 2 ^ 20) :
    IntOp.andi (IntOp.cmpi .sge (IntOp.subi (BitVec.ofNat 32 a) (BitVec.ofNat 32 b)) 0#32)
      (IntOp.cmpi .sle (IntOp.subi (BitVec.ofNat 32 a) (BitVec.ofNat 32 b)) (BitVec.ofNat 32 c))
      = if b ≤ a ∧ a ≤ b + c then 1#1 else 0#1 := by
  have e := toInt_sub a b ha hb
  have e1 : (BitVec.sle 0#32 (BitVec.ofNat 32 a - BitVec.ofNat 32 b)) = decide (b ≤ a) := by
    rw [BitVec.sle, e]; simp
  have e2 : (BitVec.sle (BitVec.ofNat 32 a - BitVec.ofNat 32 b) (BitVec.ofNat 32 c)) = decide (a ≤ b + c) := by
    rw [BitVec.sle, e, toInt_small c (by omega)]; congr 1; apply propext; omega
  by_cases h1 : b ≤ a <;> by_cases h2 : a ≤ b + c <;> simp [IntOp.andi, IntOp.cmpi, IntOp.subi, e1, e2, h1, h2]

/-- The test that a number is at least another. -/
theorem sge_word (a c : ℕ) (ha : a < 2 ^ 20) (hc : c < 2 ^ 20) :
    IntOp.cmpi .sge (BitVec.ofNat 32 a) (BitVec.ofNat 32 c) = if c ≤ a then 1#1 else 0#1 := by
  have e1 : (BitVec.sle (BitVec.ofNat 32 c) (BitVec.ofNat 32 a)) = decide (c ≤ a) := by
    rw [BitVec.sle, toInt_small c (by omega), toInt_small a (by omega)]; simp
  by_cases h1 : c ≤ a <;> simp [IntOp.cmpi, e1, h1]

/-- The larger of two words, read signed. -/
theorem toInt_max (x y : BitVec 32) : (IntOp.maxsi x y).toInt = max x.toInt y.toInt := by
  unfold IntOp.maxsi
  rw [BitVec.slt]
  by_cases h : y.toInt < x.toInt
  · rw [if_pos (by simpa using h)]; omega
  · rw [if_neg (by simpa using h)]; omega

/-- The smaller of two words, read signed. -/
theorem toInt_min (x y : BitVec 32) : (IntOp.minsi x y).toInt = min x.toInt y.toInt := by
  unfold IntOp.minsi
  rw [BitVec.slt]
  by_cases h : x.toInt < y.toInt
  · rw [if_pos (by simpa using h)]; omega
  · rw [if_neg (by simpa using h)]; omega

/-- The row of the table at a distance: the distance held between -256 and 256, from zero up. -/
theorem clip_word (q k : ℕ) (hq : q < 2 ^ 20) (hk : k < 2 ^ 20) :
    IntOp.addi (IntOp.minsi 256#32 (IntOp.maxsi 4294967040#32 (IntOp.subi (BitVec.ofNat 32 q) (BitVec.ofNat 32 k)))) 256#32
      = BitVec.ofNat 32 (min (q + 256 - k) 512) := by
  have e := toInt_sub q k hq hk
  have h1 : (256#32).toInt = 256 := by decide
  have h2 : (4294967040#32).toInt = -256 := by decide
  refine BitVec.eq_of_toInt_eq ?_
  rw [toInt_small _ (by omega), IntOp.addi, BitVec.toInt_add, toInt_min, toInt_max, IntOp.subi, e, h1, h2, Int.bmod_eq_of_le] <;> omega

/-- The magnitude of a small word. -/
theorem toInt_abs (x : BitVec 32) (z : ℤ) (h : x.toInt = z) (hz : -2 ^ 30 < z ∧ z < 2 ^ 30) : (IntOp.absi x).toInt = |z| := by
  unfold IntOp.absi
  rw [BitVec.msb_eq_toInt, h]
  by_cases h0 : z < 0
  · rw [if_pos (by simpa using h0), BitVec.toInt_neg, h, abs_of_neg h0, Int.bmod_eq_of_le] <;> omega
  · rw [if_neg (by simpa using h0), h, abs_of_nonneg (by omega)]

/-- The magnitude of a distance. -/
theorem abs_word (q k : ℕ) (hq : q < 2 ^ 20) (hk : k < 2 ^ 20) :
    (IntOp.absi (IntOp.subi (BitVec.ofNat 32 q) (BitVec.ofNat 32 k))).toInt = |(q : ℤ) - k| :=
  toInt_abs _ _ (toInt_sub q k hq hk) (by omega)

/-- The magnitude of a distance from 128 before. -/
theorem abs_word_add (q k : ℕ) (hq : q < 2 ^ 20) (hk : k < 2 ^ 20) :
    (IntOp.absi (IntOp.addi (IntOp.subi (BitVec.ofNat 32 q) (BitVec.ofNat 32 k)) 128#32)).toInt = |(q : ℤ) - k + 128| := by
  refine toInt_abs _ _ ?_ (by omega)
  have h1 : (128#32).toInt = 128 := by decide
  rw [IntOp.addi, BitVec.toInt_add, IntOp.subi, toInt_sub q k hq hk, h1, Int.bmod_eq_of_le] <;> omega

/-- A head's slope: two to the power of minus eight eighths of its number from one. -/
def headSlope (h : ℕ) : EReal :=
  Ideal.pow (Ideal.ofBits .f32 1073741824#32) (Ideal.div (Ideal.ofBits .f32 3238002688#32 *
    (1 + FloatOps.sitofp (F := Ideal) FTy.f32 (BitVec.ofNat 32 h))) (Ideal.ofBits .f32 1090519040#32))

/-- The word of two. -/
theorem ofBits_two : Ideal.ofBits FTy.f32 1073741824#32 = ((2 : ℝ) : EReal) := by
  simp [Ideal.ofBits, Ideal.ieee]
  norm_num
  rw [← EReal.coe_mul]
  norm_num

/-- The word of minus eight. -/
theorem ofBits_neg_eight : Ideal.ofBits FTy.f32 3238002688#32 = ((-8 : ℝ) : EReal) := by
  simp [Ideal.ofBits, Ideal.ieee]
  norm_num
  rw [← EReal.coe_mul]
  norm_num

/-- The word of eight. -/
theorem ofBits_eight : Ideal.ofBits FTy.f32 1090519040#32 = ((8 : ℝ) : EReal) := by
  simp [Ideal.ofBits, Ideal.ieee]
  norm_num
  rw [← EReal.coe_mul]
  norm_num

/-- A slope is a real number. -/
theorem slope_real (h : ℕ) : ∃ r : ℝ, headSlope h = r := by
  have e : FloatOps.sitofp (F := Ideal) FTy.f32 (BitVec.ofNat 32 h) = (((BitVec.ofNat 32 h).toInt : ℝ) : EReal) := rfl
  rw [headSlope, e, ofBits_two, ofBits_neg_eight, ofBits_eight, ← EReal.coe_one, ← EReal.coe_add, ← EReal.coe_mul, Ideal.div,
    if_neg (by norm_num), ← EReal.coe_inv, ← EReal.coe_mul]
  exact ⟨_, rfl⟩

/-- A distance's magnitude as a number. -/
theorem sitofp_abs (q k : ℕ) (hq : q < 2 ^ 20) (hk : k < 2 ^ 20) :
    FloatOps.sitofp (F := Ideal) FTy.f32 (IntOp.absi (IntOp.subi (BitVec.ofNat 32 q) (BitVec.ofNat 32 k))) = (((|(q : ℤ) - k| : ℤ) : ℝ) : EReal) :=
  congrArg (fun z : ℤ => ((z : ℝ) : EReal)) (abs_word q k hq hk)

/-- A distance's magnitude from 128 before as a number. -/
theorem sitofp_abs_add (q k : ℕ) (hq : q < 2 ^ 20) (hk : k < 2 ^ 20) :
    FloatOps.sitofp (F := Ideal) FTy.f32 (IntOp.absi (IntOp.addi (IntOp.subi (BitVec.ofNat 32 q) (BitVec.ofNat 32 k)) 128#32))
      = (((|(q : ℤ) - k + 128| : ℤ) : ℝ) : EReal) :=
  congrArg (fun z : ℤ => ((z : ℝ) : EReal)) (abs_word_add q k hq hk)

end Cert.Words
-- ==== Proof.Host.lean ====
module

public import proofs.«01_k».proof.Proof.Rows
public import proofs.«01_k».proof.Proof.Soft
public import proofs.«01_k».proof.Proof.Words
public import Idealize.ShloMosaic.Lib.StableHlo.ReadAt

/-! What the host leaves for the launch: the packed queries, keys and values, and the two biases with their masks. -/

@[expose] public section
set_option maxRecDepth 16384
noncomputable section
namespace Cert.KernelIdeal.Att
open Idealize.ShloMosaic Idealize.ShloMosaic.TcCoe Idealize.SL.Sem Cert.KernelIdeal Cert.KernelIdeal.Gen Cert.Read Cert.Words Cert.Soft
open scoped BigOperators
variable (m : (ℓ : Loc nD τ sig) → Buf (Elt Ideal) ℓ)

/-- Argument 0: mixer A's queries. -/
def aQA (c : Dev nD) : FVec Ideal S8x8192x8x64 .f32 := m ((c.tc : Thread nD τ).loc main_arg0)

/-- Argument 1: mixer A's keys. -/
def aKA (c : Dev nD) : FVec Ideal S8x8192x8x64 .f32 := m ((c.tc : Thread nD τ).loc main_arg1)

/-- Argument 2: mixer A's values. -/
def aVA (c : Dev nD) : FVec Ideal S8x8192x8x64 .f32 := m ((c.tc : Thread nD τ).loc main_arg2)

/-- Argument 3: mixer B's queries. -/
def aQB (c : Dev nD) : FVec Ideal S8x8192x8x64 .f32 := m ((c.tc : Thread nD τ).loc main_arg3)

/-- Argument 4: mixer B's keys. -/
def aKB (c : Dev nD) : FVec Ideal S8x8192x2x64 .f32 := m ((c.tc : Thread nD τ).loc main_arg4)

/-- Argument 5: mixer B's values. -/
def aVB (c : Dev nD) : FVec Ideal S8x8192x2x64 .f32 := m ((c.tc : Thread nD τ).loc main_arg5)

/-- Argument 6: the table of relative positions. -/
def aTab (c : Dev nD) : FVec Ideal S8x513 .f32 := m ((c.tc : Thread nD τ).loc main_arg6)

/-- Argument 7: the sinks. -/
def aSnk (c : Dev nD) : FVec Ideal S8 .f32 := m ((c.tc : Thread nD τ).loc main_arg7)

/-- An entry of a four-dimensional array by its coordinates. -/
theorem at4 {α : Type} {n0 n1 n2 n3 : ℕ} (X : (⟨4, ![n0, n1, n2, n3]⟩ : Shape).Idx → α) (a a' : Fin n0) (b b' : Fin n1) (c c' : Fin n2)
    (d d' : Fin n3) (ha : (a : ℕ) = a') (hb : (b : ℕ) = b') (hc : (c : ℕ) = c') (hd : (d : ℕ) = d') : X (ix4 a b c d) = X (ix4 a' b' c' d') := by
  rw [Fin.ext ha, Fin.ext hb, Fin.ext hc, Fin.ext hd]

/-- The reciprocal of the logarithm of two. -/
theorem div_log : Ideal.div 1 (Ideal.log (Ideal.ofBits .f32 1073741824#32)) = (ell : EReal) := by
  have h : (0 : ℝ) < Real.log 2 := Real.log_pos (by norm_num)
  have e : Ideal.log ((2 : ℝ) : EReal) = (Real.log 2 : EReal) := by
    show (if _ then _ else _) = _
    rw [if_neg (by norm_num)]
  rw [ofBits_two, e, Ideal.div, if_neg (by exact_mod_cast h.ne'), ← EReal.coe_inv, one_mul, ell, one_div]

/-- The scale of the queries. -/
theorem scale : Ideal.ofBits .f32 1040187392#32 * Ideal.div 1 (Ideal.log (Ideal.ofBits .f32 1073741824#32)) = ((1 / 8 * ell : ℝ) : EReal) := by
  have e : Ideal.ofBits FTy.f32 1040187392#32 = ((1 / 8 : ℝ) : EReal) := by
    simp [Ideal.ofBits, Ideal.ieee]
    norm_num
    rw [← EReal.coe_mul]
    norm_num
  rw [div_log, e, ← EReal.coe_mul]

set_option maxHeartbeats 4000000 in
/-- The sinks, scaled. -/
theorem sink_at (c : Dev nD) (h : ℕ) (hh : h < 8) :
    rd1 (n0 := 8) (V m c main_v129) h = rd1 (n0 := 8) (aSnk m c) h * (ell : EReal) := by
  rw [rd1, dif_pos hh, rd1, dif_pos hh, ← div_log]
  unfold V
  after_reads_at
  rfl

set_option maxHeartbeats 4000000 in
/-- The packed queries of mixer A. -/
theorem qkv_qa (c : Dev nD) (b h : Fin 8) (q : Fin 8192) (d : Fin 64) :
    qkv m c (8192 * b + q) (64 * (h : ℕ) + d) = aQA m c (ix4 b q h d) * ((1 / 8 * ell : ℝ) : EReal) := by
  rw [qkv, rd2, dif_pos ⟨by omega, by omega⟩]
  rw [← scale]
  unfold V
  after_reads_at
  rw [dif_pos (show 64 * (h : ℕ) + d < 512 by omega)]
  after_reads_at
  refine congrArg (· * _) ?_
  exact at4 _ _ _ _ _ _ _ _ _ (by first | rfl | (show (8192 * (b : ℕ) + q) / 8192 = b; omega)) (by first | rfl | (show (8192 * (b : ℕ) + q) % 8192 = q; omega))
    (by first | rfl | (show (64 * (h : ℕ) + d) / 64 = h; omega)) (by first | rfl | (show (64 * (h : ℕ) + d) % 64 = d; omega))

set_option maxHeartbeats 4000000 in
/-- The packed keys of mixer A. -/
theorem qkv_ka (c : Dev nD) (b h : Fin 8) (q : Fin 8192) (d : Fin 64) :
    qkv m c (8192 * b + q) (512 + (64 * (h : ℕ) + d)) = aKA m c (ix4 b q h d) := by
  rw [qkv, rd2, dif_pos ⟨by omega, by omega⟩]
  unfold V
  after_reads_at
  rw [dif_pos (show 64 * (h : ℕ) + d < 512 by omega)]
  after_reads_at
  exact at4 _ _ _ _ _ _ _ _ _ (by first | rfl | (show (8192 * (b : ℕ) + q) / 8192 = b; omega)) (by first | rfl | (show (8192 * (b : ℕ) + q) % 8192 = q; omega))
    (by first | rfl | (show (64 * (h : ℕ) + d) / 64 = h; omega)) (by first | rfl | (show (64 * (h : ℕ) + d) % 64 = d; omega))

set_option maxHeartbeats 4000000 in
/-- The packed queries of mixer B. -/
theorem qkv_qb (c : Dev nD) (b : Fin 8) (g : Fin 2) (h : Fin 4) (q : Fin 8192) (d : Fin 64) :
    qkv m c (8192 * b + q) (1024 + (128 * (h : ℕ) + 64 * g + d)) = aQB m c (ix4 b q ⟨g * 4 + h, by omega⟩ d) * ((1 / 8 * ell : ℝ) : EReal) := by
  rw [qkv, rd2, dif_pos ⟨by omega, by omega⟩]
  rw [← scale]
  unfold V
  after_reads_at
  rw [dif_neg (show ¬ 1024 + (128 * (h : ℕ) + 64 * g + d) < 512 by omega)]
  rw [dif_neg (show ¬ 1024 + (128 * (h : ℕ) + 64 * g + d) - 512 < 512 by omega)]
  rw [dif_pos (show 1024 + (128 * (h : ℕ) + 64 * g + d) - 512 - 512 < 512 by omega)]
  after_reads_at
  refine congrArg (· * _) ?_
  exact at4 _ _ _ _ _ _ _ _ _ (by first | rfl | (show (8192 * (b : ℕ) + q) / 8192 = b; omega)) (by first | rfl | (show (8192 * (b : ℕ) + q) % 8192 = q; omega))
    (by first | rfl | (show (1024 + (128 * (h : ℕ) + 64 * g + d) - 512 - 512) / 64 % 2 * 4 + (1024 + (128 * (h : ℕ) + 64 * g + d) - 512 - 512) / 128 = (g : ℕ) * 4 + h; omega)) (by first | rfl | (show (1024 + (128 * (h : ℕ) + 64 * g + d) - 512 - 512) % 64 = d; omega))

set_option maxHeartbeats 4000000 in
/-- The packed values of mixer A. -/
theorem qkv_va (c : Dev nD) (b h : Fin 8) (q : Fin 8192) (d : Fin 64) :
    qkv m c (8192 * b + q) (1536 + (64 * (h : ℕ) + d)) = aVA m c (ix4 b q h d) := by
  rw [qkv, rd2, dif_pos ⟨by omega, by omega⟩]
  unfold V
  after_reads_at
  rw [dif_neg (show ¬ 1536 + (64 * (h : ℕ) + d) < 512 by omega)]
  rw [dif_neg (show ¬ 1536 + (64 * (h : ℕ) + d) - 512 < 512 by omega)]
  rw [dif_neg (show ¬ 1536 + (64 * (h : ℕ) + d) - 512 - 512 < 512 by omega)]
  rw [dif_pos (show 1536 + (64 * (h : ℕ) + d) - 512 - 512 - 512 < 512 by omega)]
  after_reads_at
  exact at4 _ _ _ _ _ _ _ _ _ (by first | rfl | (show (8192 * (b : ℕ) + q) / 8192 = b; omega)) (by first | rfl | (show (8192 * (b : ℕ) + q) % 8192 = q; omega))
    (by first | rfl | (show (1536 + (64 * (h : ℕ) + d) - 512 - 512 - 512) / 64 = h; omega)) (by first | rfl | (show (1536 + (64 * (h : ℕ) + d) - 512 - 512 - 512) % 64 = d; omega))

set_option maxHeartbeats 4000000 in
/-- The packed keys of mixer B. -/
theorem qkv_kb (c : Dev nD) (b : Fin 8) (g : Fin 2) (q : Fin 8192) (d : Fin 64) :
    qkv m c (8192 * b + q) (2048 + (64 * (g : ℕ) + d)) = aKB m c (ix4 b q g d) := by
  rw [qkv, rd2, dif_pos ⟨by omega, by omega⟩]
  unfold V
  after_reads_at
  rw [dif_neg (show ¬ 2048 + (64 * (g : ℕ) + d) < 512 by omega)]
  rw [dif_neg (show ¬ 2048 + (64 * (g : ℕ) + d) - 512 < 512 by omega)]
  rw [dif_neg (show ¬ 2048 + (64 * (g : ℕ) + d) - 512 - 512 < 512 by omega)]
  rw [dif_neg (show ¬ 2048 + (64 * (g : ℕ) + d) - 512 - 512 - 512 < 512 by omega)]
  rw [dif_pos (show 2048 + (64 * (g : ℕ) + d) - 512 - 512 - 512 - 512 < 128 by omega)]
  after_reads_at
  exact at4 _ _ _ _ _ _ _ _ _ (by first | rfl | (show (8192 * (b : ℕ) + q) / 8192 = b; omega)) (by first | rfl | (show (8192 * (b : ℕ) + q) % 8192 = q; omega))
    (by first | rfl | (show (2048 + (64 * (g : ℕ) + d) - 512 - 512 - 512 - 512) / 64 = g; omega)) (by first | rfl | (show (2048 + (64 * (g : ℕ) + d) - 512 - 512 - 512 - 512) % 64 = d; omega))

set_option maxHeartbeats 4000000 in
/-- The packed values of mixer B. -/
theorem qkv_vb (c : Dev nD) (b : Fin 8) (g : Fin 2) (q : Fin 8192) (d : Fin 64) :
    qkv m c (8192 * b + q) (2176 + (64 * (g : ℕ) + d)) = aVB m c (ix4 b q g d) := by
  rw [qkv, rd2, dif_pos ⟨by omega, by omega⟩]
  unfold V
  after_reads_at
  rw [dif_neg (show ¬ 2176 + (64 * (g : ℕ) + d) < 512 by omega)]
  rw [dif_neg (show ¬ 2176 + (64 * (g : ℕ) + d) - 512 < 512 by omega)]
  rw [dif_neg (show ¬ 2176 + (64 * (g : ℕ) + d) - 512 - 512 < 512 by omega)]
  rw [dif_neg (show ¬ 2176 + (64 * (g : ℕ) + d) - 512 - 512 - 512 < 512 by omega)]
  rw [dif_neg (show ¬ 2176 + (64 * (g : ℕ) + d) - 512 - 512 - 512 - 512 < 128 by omega)]
  after_reads_at
  exact at4 _ _ _ _ _ _ _ _ _ (by first | rfl | (show (8192 * (b : ℕ) + q) / 8192 = b; omega)) (by first | rfl | (show (8192 * (b : ℕ) + q) % 8192 = q; omega))
    (by first | rfl | (show (2176 + (64 * (g : ℕ) + d) - 512 - 512 - 512 - 512 - 128) / 64 = g; omega)) (by first | rfl | (show (2176 + (64 * (g : ℕ) + d) - 512 - 512 - 512 - 512 - 128) % 64 = d; omega))

end Cert.KernelIdeal.Att
-- ==== Proof.Bias.lean ====
module

public import proofs.«01_k».proof.Proof.Host

/-! The biases the host leaves for the launch, and their masks. -/

@[expose] public section
set_option maxRecDepth 16384
noncomputable section
namespace Cert.KernelIdeal.Att
open Idealize.ShloMosaic Idealize.ShloMosaic.TcCoe Idealize.SL.Sem Cert.KernelIdeal Cert.KernelIdeal.Gen Cert.Read Cert.Words Cert.Soft
open scoped BigOperators
variable (m : (ℓ : Loc nD τ sig) → Buf (Elt Ideal) ℓ)

/-- A choice under a band and a further condition, each a bit. -/
theorem select_chain (P Q : Prop) [Decidable P] [Decidable Q] (b z : BitVec 1) (x x' y y' : EReal) (hb : b = if P then 1#1 else 0#1) (hz : z = if Q then 1#1 else 0#1)
    (hx : P ∧ Q → x = x') (hy : y = y') : Scalar.select (IntOp.andi b z) x y = if P ∧ Q then x' else y' := by
  subst hb hz hy
  by_cases hP : P <;> by_cases hQ : Q
  · rw [if_pos hP, if_pos hQ, if_pos ⟨hP, hQ⟩]
    exact hx ⟨hP, hQ⟩
  · rw [if_pos hP, if_neg hQ, if_neg (show ¬ (P ∧ Q) from fun h => hQ h.2)]
    rfl
  · rw [if_neg hP, if_pos hQ, if_neg (show ¬ (P ∧ Q) from fun h => hP h.1)]
    rfl
  · rw [if_neg hP, if_neg hQ, if_neg (show ¬ (P ∧ Q) from fun h => hP h.1)]
    rfl

/-- A choice whose two sides are the same value. -/
theorem dite_both {α : Type} (c : Prop) [Decidable c] (x : c → α) (y : ¬ c → α) (z : α) (hx : ∀ h, x h = z) (hy : ∀ h, y h = z) :
    dite c x y = z := by
  by_cases h : c
  · rw [dif_pos h]; exact hx h
  · rw [dif_neg h]; exact hy h

/-- An entry of a matrix by its coordinates. -/
theorem at2 {α : Type} {n0 n1 : ℕ} (X : (⟨2, ![n0, n1]⟩ : Shape).Idx → α) (a a' : Fin n0) (b b' : Fin n1)
    (ha : (a : ℕ) = a') (hb : (b : ℕ) = b') : X (ix2 a b) = X (ix2 a' b') := by
  rw [Fin.ext ha, Fin.ext hb]

set_option maxHeartbeats 4000000 in
/-- Mixer A's bias with its mask. -/
theorem biasA_idx (c : Dev nD) (i : S5x8x128x640.Idx) :
    V m c main_v71 i = if (((i 2 : ℕ) / 64 ≤ (i 3 : ℕ) / 64 ∧ (i 3 : ℕ) / 64 ≤ (i 2 : ℕ) / 64 + 8) ∧ 512 ≤ (i 3 : ℕ) + 128 * (i 0 : ℕ)) then
      aTab m c (ix2 (i 1) ⟨min ((i 2 : ℕ) + 768 - (i 3 : ℕ)) 512, by omega⟩) * (ell : EReal) else ⊥ := by
  have h0 : (i 0 : ℕ) < 5 := (i 0).2
  have h2 : (i 2 : ℕ) < 128 := (i 2).2
  have h3 : (i 3 : ℕ) < 640 := (i 3).2
  unfold V
  after_reads_at
  refine select_chain _ _ _ _ _ _ _ _ ?_ ?_ (fun hPQ => ?_) ofBits_bot
  · rw [div_chunk _ (by omega), div_chunk _ (by omega), between _ _ 8 (by omega) (by omega) (by omega)]
  · by_cases e0 : (i 0 : ℕ) < 1
    · rw [dif_pos e0]
      after_reads_at
      rw [sge_word _ _ (by omega) (by omega)]
      exact if_congr (by omega) rfl rfl
    rw [dif_neg e0]
    by_cases e1 : (i 0 : ℕ) - 1 < 1
    · rw [dif_pos e1]
      after_reads_at
      rw [sge_word _ _ (by omega) (by omega)]
      exact if_congr (by omega) rfl rfl
    rw [dif_neg e1]
    by_cases e2 : (i 0 : ℕ) - 1 - 1 < 1
    · rw [dif_pos e2]
      after_reads_at
      rw [sge_word _ _ (by omega) (by omega)]
      exact if_congr (by omega) rfl rfl
    rw [dif_neg e2]
    by_cases e3 : (i 0 : ℕ) - 1 - 1 - 1 < 1
    · rw [dif_pos e3]
      after_reads_at
      rw [sge_word _ _ (by omega) (by omega)]
      exact if_congr (by omega) rfl rfl
    rw [dif_neg e3]
    after_reads_at
    rw [sge_word _ _ (by omega) (by omega)]
    exact if_congr (by omega) rfl rfl
  · refine congrArg₂ (· * ·) ?_ div_log
    have hm : ((i 2 : ℕ) * 767 + (127 + (i 3 : ℕ))) % 768 = 127 + (i 3 : ℕ) - (i 2 : ℕ) := by omega
    rw [dif_pos (show ((i 2 : ℕ) * 767 + (127 + (i 3 : ℕ))) % 768 < 767 by omega)]
    have hr : ∀ X : Fin 767, ((if (1 : Fin 2) ∈ [(1 : Fin 2)] then X.rev else X : Fin 767) : ℕ) = 766 - X := fun X => by
      rw [if_pos (by decide), Fin.val_rev]
      omega
    have hk : ∀ X : Fin 8, (if (0 : Fin 2) ∈ [(1 : Fin 2)] then X.rev else X : Fin 8) = X := fun X => if_neg (by decide)
    refine dite_both _ _ _ _ (fun hc => ?_) (fun hc => ?_)
    · beta_reduce
      have hc' := (hr _).symm.trans_lt hc
      simp only at hc'
      after_reads_at
      refine at2 (aTab m c) _ _ _ _ (congrArg Fin.val (hk _)) ?_
      refine (congrArg (129 + ·) (hr _)).trans ?_
      simp only
      omega
    · beta_reduce
      have hc' := (hr _).symm.trans_ge (not_lt.1 hc)
      simp only at hc'
      after_reads_at
      refine at2 (aTab m c) _ _ _ _ (congrArg Fin.val (hk _)) ?_
      show 512 = min _ _
      omega

set_option maxHeartbeats 4000000 in
/-- Mixer B's bias with its mask. -/
theorem biasB_idx (c : Dev nD) (i : S2x8x128x256.Idx) :
    V m c main_v125 i = if (((i 2 : ℕ) / 64 ≤ (i 3 : ℕ) / 64 ∧ (i 3 : ℕ) / 64 ≤ (i 2 : ℕ) / 64 + 2) ∧ 128 ≤ (i 3 : ℕ) + 128 * (i 0 : ℕ)) then
      -headSlope (i 1) * (((|((i 2 : ℕ) : ℤ) - ((i 3 : ℕ) : ℤ) + 128| : ℤ) : ℝ) : EReal) * (ell : EReal) else ⊥ := by
  have h0 : (i 0 : ℕ) < 2 := (i 0).2
  have h2 : (i 2 : ℕ) < 128 := (i 2).2
  have h3 : (i 3 : ℕ) < 256 := (i 3).2
  unfold V
  after_reads_at
  refine select_chain _ _ _ _ _ _ _ _ ?_ ?_ (fun _ => congrArg₂ (· * ·) (congrArg₂ (· * ·) rfl (sitofp_abs_add _ _ (by omega) (by omega))) div_log) ofBits_bot
  · rw [div_chunk _ (by omega), div_chunk _ (by omega), between _ _ 2 (by omega) (by omega) (by omega)]
  by_cases e0 : (i 0 : ℕ) < 1
  · rw [dif_pos e0]
    after_reads_at
    rw [sge_word _ _ (by omega) (by omega)]
    exact if_congr (by omega) rfl rfl
  · rw [dif_neg e0]
    after_reads_at
    rw [sge_word _ _ (by omega) (by omega)]
    exact if_congr (by omega) rfl rfl

/-- Mixer A's bias at a row and a lane. -/
theorem biasA_at (c : Dev nD) (n h r κ : ℕ) (hn : n < 5) (hh : h < 8) (hr : r < 128) (hκ : κ < 640) :
    rd4 (n0 := 5) (n1 := 8) (n2 := 128) (n3 := 640) (V m c main_v71) n h r κ
      = if (r / 64 ≤ κ / 64 ∧ κ / 64 ≤ r / 64 + 8) ∧ 512 ≤ κ + 128 * n then
          aTab m c (ix2 ⟨h, hh⟩ ⟨min (r + 768 - κ) 512, by omega⟩) * (ell : EReal) else ⊥ := by
  rw [rd4, dif_pos ⟨⟨hn, hh⟩, hr, hκ⟩]
  exact biasA_idx m c _

/-- Mixer B's bias at a row and a lane. -/
theorem biasB_at (c : Dev nD) (n h r κ : ℕ) (hn : n < 2) (hh : h < 8) (hr : r < 128) (hκ : κ < 256) :
    rd4 (n0 := 2) (n1 := 8) (n2 := 128) (n3 := 256) (V m c main_v125) n h r κ
      = if (r / 64 ≤ κ / 64 ∧ κ / 64 ≤ r / 64 + 2) ∧ 128 ≤ κ + 128 * n then
          -headSlope h * (((|(r : ℤ) - (κ : ℤ) + 128| : ℤ) : ℝ) : EReal) * (ell : EReal) else ⊥ := by
  rw [rd4, dif_pos ⟨⟨hn, hh⟩, hr, hκ⟩]
  exact biasB_idx m c _

end Cert.KernelIdeal.Att
-- ==== Proof.Ref.lean ====
module

public import proofs.«01_k».proof.Proof.Soft
public import proofs.«01_k».proof.Proof.Read
public import proofs.«01_k».proof.Proof.Gen.ReferenceIdeal.Run
public import Idealize.ShloMosaic.Lib.Pointwise

/-! What the reference computes, entry by entry: each mixer's scores over all keys, their softmax, and the values summed. -/

@[expose] public section
set_option maxRecDepth 16384
noncomputable section
namespace Cert.ReferenceIdeal.Att
open Idealize.ShloMosaic Idealize.ShloMosaic.TcCoe Idealize.SL.Sem Cert.ReferenceIdeal Cert.ReferenceIdeal.Gen Cert.ReferenceIdeal.Value Cert.Read

/-- The chunk of every position. -/
def chunks : IVec S8192 32 :=
  Host.divsi (iotaInDim S8192 32 0) (broadcastInDim S8192 ![] bcast_S_S8192 (constantI S_ 32 64#32))

/-- The chunk of the query. -/
def chunkQ : IVec S8192x8192 32 :=
  broadcastInDim S8192x8192 ![0, 1] bcast_S8192x1_S8192x8192_0_1 (broadcastInDim S8192x1 ![0] bcast_S8192_S8192x1_0 chunks)

/-- The chunk of the key. -/
def chunkK : IVec S8192x8192 32 :=
  broadcastInDim S8192x8192 ![0, 1] bcast_S1x8192_S8192x8192_0_1 (broadcastInDim S1x8192 ![1] bcast_S8192_S1x8192_1 chunks)

/-- The position of the query. -/
def posQ : IVec S8192x8192 32 :=
  broadcastInDim S8192x8192 ![0, 1] bcast_S8192x1_S8192x8192_0_1 (broadcastInDim S8192x1 ![0] bcast_S8192_S8192x1_0 (iotaInDim S8192 32 0))

/-- The position of the key. -/
def posK : IVec S8192x8192 32 :=
  broadcastInDim S8192x8192 ![0, 1] bcast_S1x8192_S8192x8192_0_1 (broadcastInDim S1x8192 ![1] bcast_S8192_S1x8192_1 (iotaInDim S8192 32 0))

/-- The row of the table: the clipped distance, from zero up. -/
def relIdx : IVec S8192x8192 32 :=
  addi (minsi (broadcastInDim S8192x8192 ![] bcast_S_S8192x8192 (id (constantI S_ 32 256#32))) (maxsi
    (broadcastInDim S8192x8192 ![] bcast_S_S8192x8192 (id (constantI S_ 32 4294967040#32))) (subi posQ posK)))
    (broadcastInDim S8192x8192 ![] bcast_S_S8192x8192 (constantI S_ 32 256#32))

/-- Mixer A's scores, -inf where the query does not see the key. -/
def scoresA (qa ka : FVec Ideal S8x8192x8x64 .f32) (tab : FVec Ideal S8x513 .f32) : FVec Ideal S8x8x1x8192x8192 .f32 :=
  select (broadcastInDim S8x8x1x8192x8192 ![3, 4] bcast_S8192x8192_S8x8x1x8192x8192_3_4 (andi (cmpi .sge (subi chunkQ chunkK)
    (broadcastInDim S8192x8192 ![] bcast_S_S8192x8192 (constantI S_ 32 0#32))) (cmpi .sle (subi chunkQ chunkK)
    (broadcastInDim S8192x8192 ![] bcast_S_S8192x8192 (constantI S_ 32 8#32))))) (addf (mulf (transpose S8x8x1x8192x8192 [0, 1, 4, 3, 2]
    (Host.dotGeneral (φ₁ := .f32) (φ₂ := .f32) dot_S8x8192x8x64_S8x8192x8x1x64_S8x8x8192x8192x1_3_4_1_13_02_02 none ka
    (shapeCast _ qa shapeCasts_S8x8192x8x64_S8x8192x8x1x64)) transposes_S8x8x8192x8192x1_S8x8x1x8192x8192_0_1_4_3_2)
    (broadcastInDim S8x8x1x8192x8192 ![] bcast_S_S8x8x1x8192x8192 (constant S_ .f32 0x3E000000#32)))
    (broadcastInDim S8x8x1x8192x8192 ![0, 1, 2, 3, 4] bcast_S1x8x1x8192x8192_S8x8x1x8192x8192_0_1_2_3_4
    (broadcastInDim S1x8x1x8192x8192 ![1, 2, 3, 4] bcast_S8x1x8192x8192_S1x8x1x8192x8192_1_2_3_4
    (broadcastInDim S8x1x8192x8192 ![0, 2, 3] bcast_S8x8192x8192_S8x1x8192x8192_0_2_3
    (Host.gather gather_S8x513_S8192x8192x1_S8x8192x8192_0_1_n_n_1_2_81 tab (broadcastInDim S8192x8192x1 ![0, 1] bcast_S8192x8192_S8192x8192x1_0_1
    (select (cmpi .slt relIdx (broadcastInDim S8192x8192 ![] bcast_S_S8192x8192 (constantI S_ 32 0#32))) (addi relIdx
    (broadcastInDim S8192x8192 ![] bcast_S_S8192x8192 (constantI S_ 32 513#32))) relIdx)))))))
    (broadcastInDim S8x8x1x8192x8192 ![] bcast_S_S8x8x1x8192x8192 (id (constant S_ .f32 0xFF800000#32)))

/-- Mixer B's scores, -inf where the query does not see the key. -/
def scoresB (qb : FVec Ideal S8x8192x8x64 .f32) (kb : FVec Ideal S8x8192x2x64 .f32) : FVec Ideal S8x2x4x8192x8192 .f32 :=
  select (broadcastInDim S8x2x4x8192x8192 ![3, 4] bcast_S8192x8192_S8x2x4x8192x8192_3_4 (andi (cmpi .sge (subi chunkQ chunkK)
    (broadcastInDim S8192x8192 ![] bcast_S_S8192x8192 (constantI S_ 32 0#32))) (cmpi .sle (subi chunkQ chunkK)
    (broadcastInDim S8192x8192 ![] bcast_S_S8192x8192 (constantI S_ 32 2#32))))) (addf (mulf (transpose S8x2x4x8192x8192 [0, 1, 4, 3, 2]
    (Host.dotGeneral (φ₁ := .f32) (φ₂ := .f32) dot_S8x8192x2x64_S8x8192x2x4x64_S8x2x8192x8192x4_3_4_1_13_02_02 none kb
    (shapeCast _ qb shapeCasts_S8x8192x8x64_S8x8192x2x4x64)) transposes_S8x2x8192x8192x4_S8x2x4x8192x8192_0_1_4_3_2)
    (broadcastInDim S8x2x4x8192x8192 ![] bcast_S_S8x2x4x8192x8192 (constant S_ .f32 0x3E000000#32)))
    (broadcastInDim S8x2x4x8192x8192 ![0, 1, 2, 3, 4] bcast_S1x2x4x8192x8192_S8x2x4x8192x8192_0_1_2_3_4
    (broadcastInDim S1x2x4x8192x8192 ![1, 2, 3, 4] bcast_S2x4x8192x8192_S1x2x4x8192x8192_1_2_3_4 (shapeCast _ (mulf
    (broadcastInDim S8x8192x8192 ![0, 1, 2] bcast_S8x1x1_S8x8192x8192_0_1_2 (Host.negf (broadcastInDim S8x1x1 ![0] bcast_S8_S8x1x1_0 (Host.powf
    (broadcastInDim S8 ![] bcast_S_S8 (constant S_ .f32 0x40000000#32)) (Host.divf (mulf (broadcastInDim S8 ![] bcast_S_S8
    (constant S_ .f32 0xC1000000#32)) (addf (broadcastInDim S8 ![] bcast_S_S8 (constant S_ .f32 0x3F800000#32)) (sitofp .f32
    (iotaInDim S8 32 0)))) (broadcastInDim S8 ![] bcast_S_S8 (constant S_ .f32 0x41000000#32)))))))
    (broadcastInDim S8x8192x8192 ![0, 1, 2] bcast_S1x8192x8192_S8x8192x8192_0_1_2
    (broadcastInDim S1x8192x8192 ![1, 2] bcast_S8192x8192_S1x8192x8192_1_2 (sitofp .f32 (absi
    (subi posQ posK)))))) shapeCasts_S8x8192x8192_S2x4x8192x8192)))) (broadcastInDim S8x2x4x8192x8192 ![] bcast_S_S8x2x4x8192x8192 (id
    (constant S_ .f32 0xFF800000#32)))

/-- The largest score of every query. -/
def topA (s : FVec Ideal S8x8x1x8192x8192 .f32) : FVec Ideal S8x8x1x8192x1 .f32 :=
  broadcastInDim S8x8x1x8192x1 ![0, 1, 2, 3] bcast_S8x8x1x8192_S8x8x1x8192x1_0_1_2_3 (Host.reduce FloatOps.maximumf s
    (constant S_ .f32 0xFF800000#32) reducesTo_S8x8x1x8192x8192_S8x8x1x8192_d4 h_S_)

/-- The softmax of the scores over the keys, `t` the largest of a query's scores. -/
def soft (t : FVec Ideal S8x8x1x8192x1 .f32) (s : FVec Ideal S8x8x1x8192x8192 .f32) : FVec Ideal S8x8x1x8192x8192 .f32 :=
  Host.divf (Host.exp (subf s (broadcastInDim S8x8x1x8192x8192 ![0, 1, 2, 3, 4] bcast_S8x8x1x8192x1_S8x8x1x8192x8192_0_1_2_3_4 t)))
    (broadcastInDim S8x8x1x8192x8192 ![0, 1, 2, 3, 4] bcast_S8x8x1x8192x1_S8x8x1x8192x8192_0_1_2_3_4
    (broadcastInDim S8x8x1x8192x1 ![0, 1, 2, 3] bcast_S8x8x1x8192_S8x8x1x8192x1_0_1_2_3 (Host.reduceAdd (Host.exp (subf s
    (broadcastInDim S8x8x1x8192x8192 ![0, 1, 2, 3, 4] bcast_S8x8x1x8192x1_S8x8x1x8192x8192_0_1_2_3_4 t)))
    (constant S_ .f32 0x00000000#32) reducesTo_S8x8x1x8192x8192_S8x8x1x8192_d4 h_S_)))

/-- A head's sink, at every query. -/
def sinkAt (k : FVec Ideal S8 .f32) : FVec Ideal S8x2x4x8192x1 .f32 :=
  broadcastInDim S8x2x4x8192x1 ![0, 1, 2, 3, 4] bcast_S1x2x4x1x1_S8x2x4x8192x1_0_1_2_3_4
    (broadcastInDim S1x2x4x1x1 ![1, 2] bcast_S2x4_S1x2x4x1x1_1_2 (shapeCast _ k shapeCasts_S8_S2x4))

/-- The largest score of every query of mixer B. -/
def rowMaxB (s : FVec Ideal S8x2x4x8192x8192 .f32) : FVec Ideal S8x2x4x8192x1 .f32 :=
  broadcastInDim S8x2x4x8192x1 ![0, 1, 2, 3] bcast_S8x2x4x8192_S8x2x4x8192x1_0_1_2_3 (Host.reduce FloatOps.maximumf s
    (constant S_ .f32 0xFF800000#32) reducesTo_S8x2x4x8192x8192_S8x2x4x8192_d4 h_S_)

/-- The largest of a query's scores and its sink. -/
def topB (k : FVec Ideal S8 .f32) (s : FVec Ideal S8x2x4x8192x8192 .f32) : FVec Ideal S8x2x4x8192x1 .f32 :=
  maximumf (rowMaxB s) (sinkAt k)

/-- The softmax of the scores over the keys and the sink `k`, `t` the largest of a query's scores and its sink. -/
def softSink (t k : FVec Ideal S8x2x4x8192x1 .f32) (s : FVec Ideal S8x2x4x8192x8192 .f32) : FVec Ideal S8x2x4x8192x8192 .f32 :=
  Host.divf (Host.exp (subf s (broadcastInDim S8x2x4x8192x8192 ![0, 1, 2, 3, 4] bcast_S8x2x4x8192x1_S8x2x4x8192x8192_0_1_2_3_4 t)))
    (broadcastInDim S8x2x4x8192x8192 ![0, 1, 2, 3, 4] bcast_S8x2x4x8192x1_S8x2x4x8192x8192_0_1_2_3_4 (addf
    (broadcastInDim S8x2x4x8192x1 ![0, 1, 2, 3] bcast_S8x2x4x8192_S8x2x4x8192x1_0_1_2_3 (Host.reduceAdd (Host.exp (subf s
    (broadcastInDim S8x2x4x8192x8192 ![0, 1, 2, 3, 4] bcast_S8x2x4x8192x1_S8x2x4x8192x8192_0_1_2_3_4 t)))
    (constant S_ .f32 0x00000000#32) reducesTo_S8x2x4x8192x8192_S8x2x4x8192_d4 h_S_)) (Host.exp (subf k t))))

/-- Both mixers' outputs side by side, a function of the arguments. -/
def attend (qa ka va qb : FVec Ideal S8x8192x8x64 .f32) (kb vb : FVec Ideal S8x8192x2x64 .f32) (tab : FVec Ideal S8x513 .f32)
    (snk : FVec Ideal S8 .f32) : FVec Ideal S65536x1024 .bf16 :=
  truncf .bf16 (concatenate S65536x1024 1 [⟨S65536x512, (shapeCast _ (transpose S8x8192x8x1x64 [0, 4, 1, 3, 2] (Host.dotGeneral (φ₁ := .f32)
    (φ₂ := .f32) dot_S8x8192x8x64_S8x8x1x8192x8192_S8x8x64x1x8192_1_4_3_23_02_01 none va (soft (topA (scoresA qa ka tab))
    (scoresA qa ka tab))) transposes_S8x8x64x1x8192_S8x8192x8x1x64_0_4_1_3_2) shapeCasts_S8x8192x8x1x64_S65536x512)⟩, ⟨S65536x512, (shapeCast _
    (transpose S8x8192x4x2x64 [0, 1, 3, 2, 4] (transpose S8x8192x2x4x64 [0, 4, 1, 3, 2] (Host.dotGeneral (φ₁ := .f32)
    (φ₂ := .f32) dot_S8x8192x2x64_S8x2x4x8192x8192_S8x2x64x4x8192_1_4_3_23_02_01 none vb (softSink (topB snk (scoresB qb kb)) (sinkAt snk)
    (scoresB qb kb))) transposes_S8x2x64x4x8192_S8x8192x2x4x64_0_4_1_3_2) transposes_S8x8192x2x4x64_S8x8192x4x2x64_0_1_3_2_4)
    shapeCasts_S8x8192x4x2x64_S65536x512)⟩] concatenates_S65536x512_S65536x512_S65536x1024_d1) bitsLt_bf16_f32

set_option maxHeartbeats 1000000 in
/-- The reference's result in these names. -/
theorem result_eq (m : (ℓ : Loc nD τ sig) → Buf (Elt Ideal) ℓ) (c : Dev nD) : res_main_v113 m c =
    attend (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  unfold res_main_v113 attend soft softSink topA topB rowMaxB sinkAt scoresA scoresB relIdx chunkQ chunkK posQ posK chunks
  rfl

end Cert.ReferenceIdeal.Att
-- ==== Proof.RefAt.lean ====
module

public import proofs.«01_k».proof.Proof.Ref
public import proofs.«01_k».proof.Proof.Words

/-! The reference's arrays read at an entry. -/

@[expose] public section
set_option maxRecDepth 16384
noncomputable section
namespace Cert.ReferenceIdeal.Att
open Idealize.ShloMosaic Idealize.ShloMosaic.TcCoe Idealize.SL.Sem Cert.ReferenceIdeal Cert.ReferenceIdeal.Gen Cert.ReferenceIdeal.Value
open Cert.Read Cert.Words
open scoped BigOperators

/-- The word of minus infinity. -/
theorem ofBits_bot : Ideal.ofBits FTy.f32 0xFF800000#32 = ⊥ := by
  simp [Ideal.ofBits, Ideal.ieee]

/-- The word of one eighth. -/
theorem ofBits_eighth : Ideal.ofBits FTy.f32 0x3E000000#32 = ((1 / 8 : ℝ) : EReal) := by
  simp [Ideal.ofBits, Ideal.ieee]
  norm_num
  rw [← EReal.coe_mul]
  norm_num

/-- The largest score of a query of mixer A. -/
theorem topA_apply (s : FVec Ideal S8x8x1x8192x8192 .f32) (b h : Fin 8) (q : Fin 8192) :
    topA s (ix5 b h 0 q 0) = Finset.univ.sup fun k => s (ix5 b h 0 q k) := by
  unfold topA
  pointwise
  rw [ofBits_bot]
  rfl

/-- The softmax of mixer A at an entry. -/
theorem soft_apply (t : FVec Ideal S8x8x1x8192x1 .f32) (s : FVec Ideal S8x8x1x8192x8192 .f32) (b h : Fin 8) (q k : Fin 8192) :
    soft t s (ix5 b h 0 q k)
      = Ideal.div (Ideal.exp (s (ix5 b h 0 q k) - t (ix5 b h 0 q 0))) (∑ k, Ideal.exp (s (ix5 b h 0 q k) - t (ix5 b h 0 q 0))) := by
  unfold soft
  pointwise

/-- The sink of a query of mixer B. -/
theorem sinkAt_apply (v : FVec Ideal S8 .f32) (b : Fin 8) (g : Fin 2) (h : Fin 4) (q : Fin 8192) :
    sinkAt v (ix5 b g h q 0) = rd1 v (g * 4 + h) := by
  unfold sinkAt
  pointwise
  rw [rd1, dif_pos]

/-- The largest score of a query of mixer B. -/
theorem rowMaxB_apply (s : FVec Ideal S8x2x4x8192x8192 .f32) (b : Fin 8) (g : Fin 2) (h : Fin 4) (q : Fin 8192) :
    rowMaxB s (ix5 b g h q 0) = Finset.univ.sup fun k => s (ix5 b g h q k) := by
  unfold rowMaxB
  pointwise
  rw [ofBits_bot]
  rfl

/-- The larger of two arrays' entries. -/
theorem max_apply {t : Shape} (X Y : FVec Ideal t .f32) (i : t.Idx) : maximumf X Y i = max (X i) (Y i) := rfl

/-- The largest of a query's scores and its sink. -/
theorem topB_apply (v : FVec Ideal S8 .f32) (s : FVec Ideal S8x2x4x8192x8192 .f32) (b : Fin 8) (g : Fin 2) (h : Fin 4) (q : Fin 8192) :
    topB v s (ix5 b g h q 0) = max (Finset.univ.sup fun k => s (ix5 b g h q k)) (rd1 v (g * 4 + h)) := by
  rw [topB, max_apply, rowMaxB_apply, sinkAt_apply]

/-- The softmax of mixer B at an entry. -/
theorem softSink_apply (t v : FVec Ideal S8x2x4x8192x1 .f32) (s : FVec Ideal S8x2x4x8192x8192 .f32) (b : Fin 8) (g : Fin 2) (h : Fin 4)
    (q k : Fin 8192) :
    softSink t v s (ix5 b g h q k) = Ideal.div (Ideal.exp (s (ix5 b g h q k) - t (ix5 b g h q 0)))
      (∑ k, Ideal.exp (s (ix5 b g h q k) - t (ix5 b g h q 0)) + Ideal.exp (v (ix5 b g h q 0) - t (ix5 b g h q 0))) := by
  unfold softSink
  pointwise

/-- The chunks of a query and of a key. -/
theorem chunk_apply (q k : Fin 8192) : chunkQ (ix2 q k) = BitVec.ofNat 32 ((q : ℕ) / 64) ∧ chunkK (ix2 q k) = BitVec.ofNat 32 ((k : ℕ) / 64) := by
  rw [← div_chunk q (by omega), ← div_chunk k (by omega)]
  constructor <;> pointwise [chunkQ, chunkK, chunks]

/-- The positions of a query and of a key. -/
theorem pos_apply (q k : Fin 8192) : posQ (ix2 q k) = BitVec.ofNat 32 q ∧ posK (ix2 q k) = BitVec.ofNat 32 k := by
  constructor <;> pointwise [posQ, posK]

/-- The row of the table for a query and a key. -/
theorem relIdx_apply (q k : Fin 8192) : relIdx (ix2 q k) = BitVec.ofNat 32 (min (q + 256 - k) 512) := by
  rw [← clip_word q k (by omega) (by omega), ← (pos_apply q k).1, ← (pos_apply q k).2]
  unfold relIdx
  generalize posQ = Q
  generalize posK = K
  pointwise
  rfl

/-- The table's rows picked by index words: a head's entry at the word's row. -/
theorem gather_apply (tab : FVec Ideal S8x513 .f32) (I : IVec S8192x8192x1 32) (h : Fin 8) (q k : Fin 8192) :
    Host.gather gather_S8x513_S8192x8192x1_S8x8192x8192_0_1_n_n_1_2_81 tab I (ix3 h q k)
      = tab (ix2 h ⟨min (I (ix3 q k 0)).toInt.toNat 512, by omega⟩) := by
  unfold Host.gather
  refine congrArg tab (funext fun a => Fin.ext ?_)
  show GatherDims.start _ _ I a + GatherDims.batchCoord _ _ a + GatherDims.offCoord _ _ a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start
    rw [dif_neg (by decide)]
    unfold GatherDims.offCoord
    rw [dif_pos (by decide)]
    refine (Nat.zero_add _).trans ?_
    have e : gather_S8x513_S8192x8192x1_S8x8192x8192_0_1_n_n_1_2_81.offsetDims[List.idxOf (0 : Fin S8x513.rank)
        gather_S8x513_S8192x8192x1_S8x8192x8192_0_1_n_n_1_2_81.sKept]'(by decide) = 0 := by decide
    exact congrArg (fun x => (ix3 h q k x : ℕ)) e
  · rw [GatherDims.offCoord_eq_zero _ _ _ (by decide)]
    unfold GatherDims.start
    rw [dif_pos (by decide)]
    refine congrArg (fun z : ℕ => min z 512 + 0 + 0) (congrArg (fun i => (I i).toInt.toNat) (funext fun b => Fin.ext ?_))
    match b with
    | ⟨0, _⟩ => rfl
    | ⟨1, _⟩ => rfl
    | ⟨2, _⟩ => rfl

/-- A choice that is made for negative words is not made for a word from zero up. -/
theorem select_nonneg (x y : BitVec 32) (h : 0 ≤ y.toInt) : Scalar.select (IntOp.cmpi .slt y 0#32) x y = y := by
  have e : IntOp.cmpi .slt y 0#32 = 0#1 := by
    have : BitVec.slt y 0#32 = false := by
      rw [BitVec.slt]
      simpa using h
    simp [IntOp.cmpi, this]
  rw [e]
  rfl

/-- Mixer A's score of a query and a key: their product and the table's entry inside the band, minus infinity outside. -/
def bandA (qa ka : FVec Ideal S8x8192x8x64 .f32) (tab : FVec Ideal S8x513 .f32) (b h : Fin 8) (q k : Fin 8192) : EReal :=
  if (k : ℕ) / 64 ≤ (q : ℕ) / 64 ∧ (q : ℕ) / 64 ≤ (k : ℕ) / 64 + 8 then
    (∑ d, qa (ix4 b q h d) * ka (ix4 b k h d)) * ((1 / 8 : ℝ) : EReal) + tab (ix2 h ⟨min (q + 256 - k) 512, by omega⟩)
  else ⊥

/-- The reference's scores of mixer A. -/
theorem scoresA_apply (qa ka : FVec Ideal S8x8192x8x64 .f32) (tab : FVec Ideal S8x513 .f32) (b h : Fin 8) (q k : Fin 8192) :
    scoresA qa ka tab (ix5 b h 0 q k) = bandA qa ka tab b h q k := by
  unfold bandA
  have c := chunk_apply q k
  have r := relIdx_apply q k
  unfold scoresA
  generalize relIdx = R at *
  generalize chunkQ = Cq at *
  generalize chunkK = Ck at *
  pointwise
  rw [c.1, c.2, between _ _ 8 (by omega) (by omega) (by omega)]
  by_cases hb : (k : ℕ) / 64 ≤ (q : ℕ) / 64 ∧ (q : ℕ) / 64 ≤ (k : ℕ) / 64 + 8
  · rw [if_pos hb, if_pos hb]
    refine congrArg₂ (· + ·) (congrArg₂ (· * ·) (Finset.sum_congr rfl fun d _ => mul_comm _ _) ofBits_eighth) ?_
    rw [gather_apply]
    refine congrArg tab (congrArg (ix2 h) (Fin.ext ?_))
    have e : (broadcastInDim S8192x8192x1 ![0, 1] bcast_S8192x8192_S8192x8192x1_0_1
        (select (cmpi .slt R (broadcastInDim S8192x8192 ![] bcast_S_S8192x8192 (constantI S_ 32 0#32)))
          (addi R (broadcastInDim S8192x8192 ![] bcast_S_S8192x8192 (constantI S_ 32 513#32))) R)) (ix3 q k 0)
        = BitVec.ofNat 32 (min (q + 256 - k) 512) := by
      pointwise
      rw [r]
      refine select_nonneg _ _ ?_
      rw [toInt_small _ (by omega)]
      omega
    show min (BitVec.toInt _).toNat 512 = min ((q : ℕ) + 256 - (k : ℕ)) 512
    rw [e, toInt_small _ (by omega)]
    omega
  · rw [if_neg hb, if_neg hb]
    exact ofBits_bot

/-- Mixer B's score of a query and a key: their product less the distance's share inside the band, minus infinity outside. -/
def bandB (qb : FVec Ideal S8x8192x8x64 .f32) (kb : FVec Ideal S8x8192x2x64 .f32) (b : Fin 8) (g : Fin 2) (h : Fin 4) (q k : Fin 8192) : EReal :=
  if (k : ℕ) / 64 ≤ (q : ℕ) / 64 ∧ (q : ℕ) / 64 ≤ (k : ℕ) / 64 + 2 then
    (∑ d, qb (ix4 b q ⟨g * 4 + h, by omega⟩ d) * kb (ix4 b k g d)) * ((1 / 8 : ℝ) : EReal)
      + -headSlope (g * 4 + h) * (((|((q : ℕ) : ℤ) - ((k : ℕ) : ℤ)| : ℤ) : ℝ) : EReal)
  else ⊥

/-- The reference's scores of mixer B. -/
theorem scoresB_apply (qb : FVec Ideal S8x8192x8x64 .f32) (kb : FVec Ideal S8x8192x2x64 .f32) (b : Fin 8) (g : Fin 2) (h : Fin 4)
    (q k : Fin 8192) : scoresB qb kb (ix5 b g h q k) = bandB qb kb b g h q k := by
  unfold bandB
  have c := chunk_apply q k
  have r := pos_apply q k
  unfold scoresB
  generalize chunkQ = Cq at *
  generalize chunkK = Ck at *
  generalize posQ = Pq at *
  generalize posK = Pk at *
  pointwise
  rw [c.1, c.2, between _ _ 2 (by omega) (by omega) (by omega)]
  by_cases hb : (k : ℕ) / 64 ≤ (q : ℕ) / 64 ∧ (q : ℕ) / 64 ≤ (k : ℕ) / 64 + 2
  · rw [if_pos hb, if_pos hb]
    refine congrArg₂ (· + ·) (congrArg₂ (· * ·) (Finset.sum_congr rfl fun d _ => mul_comm _ _) ofBits_eighth)
      (congrArg₂ (· * ·) rfl ?_)
    rw [r.1, r.2]
    exact sitofp_abs q k (by omega) (by omega)
  · rw [if_neg hb, if_neg hb]
    exact ofBits_bot

/-- The reference's result in the lanes of mixer A. -/
theorem attend_lo (qa ka va qb : FVec Ideal S8x8192x8x64 .f32) (kb vb : FVec Ideal S8x8192x2x64 .f32) (tab : FVec Ideal S8x513 .f32)
    (snk : FVec Ideal S8 .f32) (i : S65536x1024.Idx) (b h : Fin 8) (q : Fin 8192) (d : Fin 64)
    (h0 : (i 0 : ℕ) = 8192 * b + q) (h1 : (i 1 : ℕ) = 64 * h + d) :
    attend qa ka va qb kb vb tab snk i
      = ∑ k, Ideal.div (Ideal.exp (bandA qa ka tab b h q k - Finset.univ.sup (bandA qa ka tab b h q)))
          (∑ k, Ideal.exp (bandA qa ka tab b h q k - Finset.univ.sup (bandA qa ka tab b h q))) * va (ix4 b k h d) := by
  have eb : (⟨(i 0 : ℕ) / 8192, by omega⟩ : Fin 8) = b := Fin.ext (show (i 0 : ℕ) / 8192 = b by omega)
  have eq : (⟨(i 0 : ℕ) % 8192, by omega⟩ : Fin 8192) = q := Fin.ext (show (i 0 : ℕ) % 8192 = q by omega)
  have eh : (⟨(i 1 : ℕ) / 64, by omega⟩ : Fin 8) = h := Fin.ext (show (i 1 : ℕ) / 64 = h by omega)
  have ed : (⟨(i 1 : ℕ) % 64, by omega⟩ : Fin 64) = d := Fin.ext (show (i 1 : ℕ) % 64 = d by omega)
  have s := fun k => soft_apply (topA (scoresA qa ka tab)) (scoresA qa ka tab) b h q k
  simp only [topA_apply, scoresA_apply] at s
  refine Eq.trans ?_ (Finset.sum_congr rfl fun k _ => congrArg (· * va (ix4 b k h d)) (s k))
  unfold attend
  generalize soft _ _ = S
  generalize softSink _ _ _ = S2
  pointwise
  rw [dif_pos (show (i 1 : ℕ) < 512 by omega)]
  refine Finset.sum_congr rfl fun k _ => (mul_comm _ _).trans ?_
  rw [eb, eq, eh, ed]

set_option maxHeartbeats 2000000 in
/-- The reference's result in the lanes of mixer B. -/
theorem attend_hi (qa ka va qb : FVec Ideal S8x8192x8x64 .f32) (kb vb : FVec Ideal S8x8192x2x64 .f32) (tab : FVec Ideal S8x513 .f32)
    (snk : FVec Ideal S8 .f32) (i : S65536x1024.Idx) (b : Fin 8) (g : Fin 2) (h : Fin 4) (q : Fin 8192) (d : Fin 64)
    (h0 : (i 0 : ℕ) = 8192 * b + q) (h1 : (i 1 : ℕ) = 512 + (128 * h + 64 * g + d)) :
    attend qa ka va qb kb vb tab snk i
      = ∑ k, Ideal.div (Ideal.exp (bandB qb kb b g h q k - max (Finset.univ.sup (bandB qb kb b g h q)) (rd1 snk (g * 4 + h))))
          (∑ k, Ideal.exp (bandB qb kb b g h q k - max (Finset.univ.sup (bandB qb kb b g h q)) (rd1 snk (g * 4 + h)))
            + Ideal.exp (rd1 snk (g * 4 + h) - max (Finset.univ.sup (bandB qb kb b g h q)) (rd1 snk (g * 4 + h))))
          * vb (ix4 b k g d) := by
  have eb : (⟨(i 0 : ℕ) / 8192, by omega⟩ : Fin 8) = b := Fin.ext (show (i 0 : ℕ) / 8192 = b by omega)
  have eq : (⟨(i 0 : ℕ) % 8192, by omega⟩ : Fin 8192) = q := Fin.ext (show (i 0 : ℕ) % 8192 = q by omega)
  have eg : (⟨((i 1 : ℕ) - 512) / 64 % 2, by omega⟩ : Fin 2) = g := Fin.ext (show ((i 1 : ℕ) - 512) / 64 % 2 = g by omega)
  have eh : (⟨((i 1 : ℕ) - 512) / 128, by omega⟩ : Fin 4) = h := Fin.ext (show ((i 1 : ℕ) - 512) / 128 = h by omega)
  have ed : (⟨((i 1 : ℕ) - 512) % 64, by omega⟩ : Fin 64) = d := Fin.ext (show ((i 1 : ℕ) - 512) % 64 = d by omega)
  have s := fun k => softSink_apply (topB snk (scoresB qb kb)) (sinkAt snk) (scoresB qb kb) b g h q k
  simp only [topB_apply, scoresB_apply, sinkAt_apply] at s
  refine Eq.trans ?_ (Finset.sum_congr rfl fun k _ => congrArg (· * vb (ix4 b k g d)) (s k))
  unfold attend
  generalize soft _ _ = S
  generalize softSink _ _ _ = S2
  pointwise
  rw [dif_neg (show ¬ (i 1 : ℕ) < 512 by omega)]
  refine Finset.sum_congr rfl fun k _ => (mul_comm _ _).trans ?_
  rw [eb, eq, eg, eh, ed]

end Cert.ReferenceIdeal.Att
-- ==== Proof.Tie.lean ====
module

public import proofs.«01_k».proof.Proof.Bias
public import proofs.«01_k».proof.Proof.RefAt

/-! The kernel's windows against the reference's dense rows: the positions of a window that the masks let through are the keys inside the
    reference's band, with the same scores and values, so both softmaxes are the same sum. -/

@[expose] public section
set_option maxRecDepth 16384
noncomputable section
namespace Cert.KernelIdeal.Att
open Idealize.ShloMosaic Idealize.ShloMosaic.TcCoe Idealize.SL.Sem Cert.KernelIdeal Cert.KernelIdeal.Gen Cert.Read Cert.Words Cert.Soft
open Cert.ReferenceIdeal.Att (bandA bandB attend attend_lo attend_hi)
open scoped BigOperators
variable (m : (ℓ : Loc nD τ sig) → Buf (Elt Ideal) ℓ)

/-- Every entry of the array is a real number. -/
def AllReal {s : Shape} (X : s.Idx → EReal) : Prop := ∀ i, ∃ r : ℝ, X i = r

/-- A product of real vectors is real. -/
theorem dot_real {ι : Type} [Fintype ι] (q k : ι → EReal) (hq : ∀ d, ∃ r : ℝ, q d = r) (hk : ∀ d, ∃ r : ℝ, k d = r) :
    ∃ r : ℝ, ∑ d, q d * k d = r := by
  refine Finset.sum_induction _ (fun x : EReal => ∃ r : ℝ, x = r) ?_ ⟨0, rfl⟩ fun d _ => ?_
  · rintro x y ⟨r, rfl⟩ ⟨s, rfl⟩
    exact ⟨r + s, (EReal.coe_add r s).symm⟩
  · obtain ⟨r, hr⟩ := hq d
    obtain ⟨s, hs⟩ := hk d
    exact ⟨r * s, by rw [hr, hs, EReal.coe_mul]⟩

/-- A score's scale taken out of its two parts. -/
theorem scale_out (s t : ℝ) :
    (s : EReal) * ((1 / 8 * ell : ℝ) : EReal) + (t : EReal) * (ell : EReal) = ((s : EReal) * ((1 / 8 : ℝ) : EReal) + (t : EReal)) * (ell : EReal) := by
  simp only [← EReal.coe_mul, ← EReal.coe_add]
  exact congrArg _ (by ring)

/-- Where a place of the band of a step lies among the rows. -/
theorem row_eq (t b n x : ℕ) (ht : t = 16 * b + n) (hn : n < 16) (hx : 512 ≤ 512 * n + x) : row t x = 8192 * b + (512 * n + x - 512) := by
  unfold row prev
  split_ifs <;> omega

/-- The score of mixer A inside the band is real. -/
theorem bandA_real (qa ka : FVec Ideal S8x8192x8x64 .f32) (tab : FVec Ideal S8x513 .f32) (b h : Fin 8) (q k : Fin 8192)
    (hq : AllReal qa) (hk : AllReal ka) (ht : AllReal tab) (hb : (k : ℕ) / 64 ≤ (q : ℕ) / 64 ∧ (q : ℕ) / 64 ≤ (k : ℕ) / 64 + 8) :
    ∃ r : ℝ, bandA qa ka tab b h q k = r := by
  obtain ⟨s, hs⟩ := dot_real (fun d => qa (ix4 b q h d)) (fun d => ka (ix4 b k h d)) (fun d => hq _) (fun d => hk _)
  obtain ⟨t, ht⟩ := ht (ix2 h ⟨min (q + 256 - k) 512, by omega⟩)
  rw [bandA, if_pos hb, hs, ht]
  exact ⟨s * (1 / 8) + t, by rw [EReal.coe_add, EReal.coe_mul]⟩

/-- The score of mixer B inside the band is real. -/
theorem bandB_real (qb : FVec Ideal S8x8192x8x64 .f32) (kb : FVec Ideal S8x8192x2x64 .f32) (b : Fin 8) (g : Fin 2) (h : Fin 4) (q k : Fin 8192)
    (hq : AllReal qb) (hk : AllReal kb) (hb : (k : ℕ) / 64 ≤ (q : ℕ) / 64 ∧ (q : ℕ) / 64 ≤ (k : ℕ) / 64 + 2) :
    ∃ r : ℝ, bandB qb kb b g h q k = r := by
  obtain ⟨s, hs⟩ := dot_real (fun d => qb (ix4 b q ⟨g * 4 + h, by omega⟩ d)) (fun d => kb (ix4 b k g d)) (fun d => hq _) (fun d => hk _)
  obtain ⟨t, ht⟩ := slope_real (g * 4 + h)
  rw [bandB, if_pos hb, hs, ht]
  exact ⟨s * (1 / 8) + -t * ((|((q : ℕ) : ℤ) - ((k : ℕ) : ℤ)| : ℤ) : ℝ), by rw [EReal.coe_add, EReal.coe_mul, EReal.coe_mul, EReal.coe_neg]⟩

/-- Mixer A's entry is the reference's. -/
theorem entryA_tie (c : Dev nD) (hqa : AllReal (aQA m c)) (hka : AllReal (aKA m c)) (htab : AllReal (aTab m c)) (t : Fin cfg0.N) (a : ℕ)
    (ha : a < 512) (b h : Fin 8) (n : ℕ) (hn : n < 16) (ht : t.val = 16 * b + n) (q : Fin 8192) (hq : (q : ℕ) = 512 * n + a) (d : Fin 64) :
    entryA m c t a (64 * h + d)
      = ∑ k, Ideal.div (Ideal.exp (bandA (aQA m c) (aKA m c) (aTab m c) b h q k - Finset.univ.sup (bandA (aQA m c) (aKA m c) (aTab m c) b h q)))
          (∑ k, Ideal.exp (bandA (aQA m c) (aKA m c) (aTab m c) b h q k - Finset.univ.sup (bandA (aQA m c) (aKA m c) (aTab m c) b h q)))
          * aVA m c (ix4 b k h d) := by
  have hb : (64 * (h : ℕ) + d) / 64 = h := by omega
  have hR : 512 * t.val + a = 8192 * (b : ℕ) + (q : ℕ) := by omega
  have hT : t.val % 16 = n := by omega
  rw [entryA_eq m c t a _ ha (by omega), hb, hR, hT]
  let φ : Fin 640 → Fin 8192 := fun κ => ⟨512 * n + (128 * (a / 128) + κ) - 512, by omega⟩
  have hφ : ∀ κ : Fin 640, 512 ≤ 512 * n + (128 * (a / 128) + (κ : ℕ)) → row t.val (128 * (a / 128) + κ) = 8192 * (b : ℕ) + (φ κ : ℕ) :=
    fun κ hκ => row_eq _ _ _ _ ht hn hκ
  have hv : ∀ κ : Fin 640, (φ κ : ℕ) = 512 * n + (128 * (a / 128) + κ) - 512 := fun κ => rfl
  refine softmax_window_plain (bandA (aQA m c) (aKA m c) (aTab m c) b h q) (fun k => aVA m c (ix4 b k h d)) _ _
    (fun κ : Fin 640 => ((a % 128) / 64 ≤ (κ : ℕ) / 64 ∧ (κ : ℕ) / 64 ≤ (a % 128) / 64 + 8) ∧ 512 ≤ 512 * n + (128 * (a / 128) + (κ : ℕ))) φ
    ?_ ?_ ?_ ?_ ?_ ?_ ?_
  · intro x y hx hy e
    have e' := congrArg Fin.val e
    rw [hv, hv] at e'
    exact Fin.ext (by omega)
  · intro j hj
    have hb : (j : ℕ) / 64 ≤ (q : ℕ) / 64 ∧ (q : ℕ) / 64 ≤ (j : ℕ) / 64 + 8 := by
      by_contra hc
      exact hj (if_neg hc)
    obtain ⟨κ, hκ⟩ : ∃ κ : Fin 640, (κ : ℕ) = j + 512 - 512 * n - 128 * (a / 128) := ⟨⟨_, by omega⟩, rfl⟩
    exact ⟨κ, ⟨⟨by omega, by omega⟩, by omega⟩, Fin.ext (by rw [hv]; omega)⟩
  · rintro κ ⟨hκ, hp⟩
    beta_reduce
    have hbd : (φ κ : ℕ) / 64 ≤ (q : ℕ) / 64 ∧ (q : ℕ) / 64 ≤ (φ κ : ℕ) / 64 + 8 := by rw [hv]; omega
    rw [biasA_at m c _ _ _ _ (by omega) h.2 (by omega) κ.2, if_pos ⟨hκ, by omega⟩, bandA, if_pos hbd]
    obtain ⟨s, hs⟩ := dot_real (fun d => aQA m c (ix4 b q h d)) (fun d => aKA m c (ix4 b (φ κ) h d)) (fun d => hqa _) (fun d => hka _)
    obtain ⟨u, hu⟩ := htab (ix2 h ⟨min (q + 256 - φ κ) 512, by omega⟩)
    have hdot : ∑ d : Fin 64, qkv m c (8192 * (b : ℕ) + (q : ℕ)) (64 * (h : ℕ) + d)
        * qkv m c (row t.val (128 * (a / 128) + κ)) (512 + (64 * (h : ℕ) + d)) = (s : EReal) * ((1 / 8 * ell : ℝ) : EReal) := by
      rw [← hs, ← dot_scaled _ _ _ (mul_nonneg (by norm_num) ell_pos.le)]
      refine Finset.sum_congr rfl fun d _ => ?_
      rw [hφ κ hp, qkv_qa, qkv_ka]
    rw [hdot, hs, hu, ← scale_out, ← hu]
    refine congrArg (fun z => _ + z * (ell : EReal)) (at2 (aTab m c) _ _ _ _ rfl ?_)
    show min (a % 128 + 768 - (κ : ℕ)) 512 = min ((q : ℕ) + 256 - (φ κ : ℕ)) 512
    rw [hv]
    omega
  · intro κ hκ
    beta_reduce
    rw [biasA_at m c _ _ _ _ (by omega) h.2 (by omega) κ.2, if_neg (fun hc => hκ ⟨hc.1, by omega⟩), EReal.add_bot]
  · rintro κ ⟨-, hp⟩
    beta_reduce
    rw [hφ κ hp, qkv_va]
  · refine ⟨q, fun e => ?_⟩
    obtain ⟨r, hr⟩ := bandA_real (aQA m c) (aKA m c) (aTab m c) b h q q hqa hka htab ⟨le_rfl, by omega⟩
    exact EReal.coe_ne_bot r (hr.symm.trans e)
  · intro j
    by_cases hb : (j : ℕ) / 64 ≤ (q : ℕ) / 64 ∧ (q : ℕ) / 64 ≤ (j : ℕ) / 64 + 8
    · obtain ⟨r, hr⟩ := bandA_real (aQA m c) (aKA m c) (aTab m c) b h q j hqa hka htab hb
      exact hr ▸ EReal.coe_ne_top r
    · rw [bandA, if_neg hb]
      exact bot_ne_top

/-- Mixer B's entry is the reference's. -/
theorem entryB_tie (c : Dev nD) (hqb : AllReal (aQB m c)) (hkb : AllReal (aKB m c)) (hsnk : ∀ i, aSnk m c i ≠ ⊤) (t : Fin cfg0.N) (a : ℕ)
    (ha : a < 512) (b : Fin 8) (g : Fin 2) (h : Fin 4) (n : ℕ) (hn : n < 16) (ht : t.val = 16 * b + n) (q : Fin 8192)
    (hq : (q : ℕ) = 512 * n + a) (d : Fin 64) :
    entryB m c t a (128 * h + 64 * g + d)
      = ∑ k, Ideal.div (Ideal.exp (bandB (aQB m c) (aKB m c) b g h q k
            - max (Finset.univ.sup (bandB (aQB m c) (aKB m c) b g h q)) (rd1 (n0 := 8) (aSnk m c) (g * 4 + h))))
          (∑ k, Ideal.exp (bandB (aQB m c) (aKB m c) b g h q k
              - max (Finset.univ.sup (bandB (aQB m c) (aKB m c) b g h q)) (rd1 (n0 := 8) (aSnk m c) (g * 4 + h)))
            + Ideal.exp (rd1 (n0 := 8) (aSnk m c) (g * 4 + h)
              - max (Finset.univ.sup (bandB (aQB m c) (aKB m c) b g h q)) (rd1 (n0 := 8) (aSnk m c) (g * 4 + h))))
          * aVB m c (ix4 b k g d) := by
  have e1 : (128 * (h : ℕ) + 64 * g + d) / 128 + 4 * ((128 * (h : ℕ) + 64 * g + d) / 64 % 2) = g * 4 + h := by omega
  have e2 : (128 * (h : ℕ) + 64 * g + d) / 64 % 2 = g := by omega
  have e3 : 64 * ((128 * (h : ℕ) + 64 * g + d) / 64) = 128 * (h : ℕ) + 64 * g := by omega
  have e4 : (128 * (h : ℕ) + 64 * g + d) % 128 = 64 * (g : ℕ) + d := by omega
  have hR : 512 * t.val + a = 8192 * (b : ℕ) + (q : ℕ) := by omega
  have hT : t.val % 16 = n := by omega
  rw [entryB_eq m c t a _ ha (by omega), e1, e2, e3, e4, hR, hT, sink_at m c _ (by omega)]
  let φ : Fin 256 → Fin 8192 := fun κ => ⟨512 * n + (384 + 128 * (a / 128) + κ) - 512, by omega⟩
  have hφ : ∀ κ : Fin 256, 512 ≤ 512 * n + (384 + 128 * (a / 128) + (κ : ℕ)) → row t.val (384 + 128 * (a / 128) + κ) = 8192 * (b : ℕ) + (φ κ : ℕ) :=
    fun κ hκ => row_eq _ _ _ _ ht hn hκ
  have hv : ∀ κ : Fin 256, (φ κ : ℕ) = 512 * n + (384 + 128 * (a / 128) + κ) - 512 := fun κ => rfl
  refine softmax_window (bandB (aQB m c) (aKB m c) b g h q) (fun k => aVB m c (ix4 b k g d)) _ _ (rd1 (n0 := 8) (aSnk m c) (g * 4 + h))
    (fun κ : Fin 256 => ((a % 128) / 64 ≤ (κ : ℕ) / 64 ∧ (κ : ℕ) / 64 ≤ (a % 128) / 64 + 2)
      ∧ 512 ≤ 512 * n + (384 + 128 * (a / 128) + (κ : ℕ))) φ ?_ ?_ ?_ ?_ ?_ ?_ ?_ ?_
  · intro x y hx hy e
    have e' := congrArg Fin.val e
    rw [hv, hv] at e'
    exact Fin.ext (by omega)
  · intro j hj
    have hb : (j : ℕ) / 64 ≤ (q : ℕ) / 64 ∧ (q : ℕ) / 64 ≤ (j : ℕ) / 64 + 2 := by
      by_contra hc
      exact hj (if_neg hc)
    obtain ⟨κ, hκ⟩ : ∃ κ : Fin 256, (κ : ℕ) = j + 128 - 512 * n - 128 * (a / 128) := ⟨⟨_, by omega⟩, rfl⟩
    exact ⟨κ, ⟨⟨by omega, by omega⟩, by omega⟩, Fin.ext (by rw [hv]; omega)⟩
  · rintro κ ⟨hκ, hp⟩
    beta_reduce
    have hbd : (φ κ : ℕ) / 64 ≤ (q : ℕ) / 64 ∧ (q : ℕ) / 64 ≤ (φ κ : ℕ) / 64 + 2 := by rw [hv]; omega
    have hdist : ((a % 128 : ℕ) : ℤ) - ((κ : ℕ) : ℤ) + 128 = ((q : ℕ) : ℤ) - ((φ κ : ℕ) : ℤ) := by rw [hv]; omega
    rw [biasB_at m c _ _ _ _ (by omega) (by omega) (by omega) κ.2, if_pos ⟨hκ, by omega⟩, bandB, if_pos hbd, hdist]
    obtain ⟨s, hs⟩ := dot_real (fun d => aQB m c (ix4 b q ⟨g * 4 + h, by omega⟩ d)) (fun d => aKB m c (ix4 b (φ κ) g d)) (fun d => hqb _)
      (fun d => hkb _)
    obtain ⟨u, hu⟩ := slope_real (g * 4 + h)
    have hdot : ∑ d : Fin 64, qkv m c (8192 * (b : ℕ) + (q : ℕ)) (1024 + (128 * (h : ℕ) + 64 * g + d))
        * qkv m c (row t.val (384 + 128 * (a / 128) + κ)) (2048 + (64 * (g : ℕ) + d)) = (s : EReal) * ((1 / 8 * ell : ℝ) : EReal) := by
      rw [← hs, ← dot_scaled _ _ _ (mul_nonneg (by norm_num) ell_pos.le)]
      refine Finset.sum_congr rfl fun d _ => ?_
      rw [hφ κ hp, qkv_qb, qkv_kb]
    have hw : -(u : EReal) * (((|((q : ℕ) : ℤ) - ((φ κ : ℕ) : ℤ)| : ℤ) : ℝ) : EReal)
        = ((-u * ((|((q : ℕ) : ℤ) - ((φ κ : ℕ) : ℤ)| : ℤ) : ℝ) : ℝ) : EReal) := by rw [EReal.coe_mul, EReal.coe_neg]
    rw [hdot, hs, hu, hw, ← scale_out]
  · intro κ hκ
    beta_reduce
    rw [biasB_at m c _ _ _ _ (by omega) (by omega) (by omega) κ.2, if_neg (fun hc => hκ ⟨hc.1, by omega⟩), EReal.add_bot]
  · rintro κ ⟨-, hp⟩
    beta_reduce
    rw [hφ κ hp, qkv_vb]
  · refine ⟨q, fun e => ?_⟩
    obtain ⟨r, hr⟩ := bandB_real (aQB m c) (aKB m c) b g h q q hqb hkb ⟨le_rfl, by omega⟩
    exact EReal.coe_ne_bot r (hr.symm.trans e)
  · intro j
    by_cases hb : (j : ℕ) / 64 ≤ (q : ℕ) / 64 ∧ (q : ℕ) / 64 ≤ (j : ℕ) / 64 + 2
    · obtain ⟨r, hr⟩ := bandB_real (aQB m c) (aKB m c) b g h q j hqb hkb hb
      exact hr ▸ EReal.coe_ne_top r
    · rw [bandB, if_neg hb]
      exact bot_ne_top
  · rw [rd1, dif_pos (show (g : ℕ) * 4 + h < 8 by omega)]
    exact hsnk _

/-- The array the kernel leaves is the reference's. -/
theorem result_tie (c : Dev nD) (hqa : AllReal (aQA m c)) (hka : AllReal (aKA m c)) (htab : AllReal (aTab m c)) (hqb : AllReal (aQB m c))
    (hkb : AllReal (aKB m c)) (hsnk : ∀ i, aSnk m c i ≠ ⊤) (i : S65536x1024.Idx) :
    resultAt m c i = attend (aQA m c) (aKA m c) (aVA m c) (aQB m c) (aKB m c) (aVB m c) (aTab m c) (aSnk m c) i := by
  have h0 : (i 0 : ℕ) < 65536 := (i 0).2
  have h1 : (i 1 : ℕ) < 1024 := (i 1).2
  have hN : cfg0.N = 128 := rfl
  rw [resultAt_of m c ⟨(i 0 : ℕ) / 512, by omega⟩ ((i 0 : ℕ) % 512) (i 1) (by omega) i (by show (i 0 : ℕ) = 512 * ((i 0 : ℕ) / 512) + _; omega) rfl, entry]
  by_cases hl : (i 1 : ℕ) < 512
  · rw [if_pos hl, attend_lo (aQA m c) (aKA m c) (aVA m c) (aQB m c) (aKB m c) (aVB m c) (aTab m c) (aSnk m c) i ⟨(i 0 : ℕ) / 8192, by omega⟩
      ⟨(i 1 : ℕ) / 64, by omega⟩ ⟨(i 0 : ℕ) % 8192, by omega⟩ ⟨(i 1 : ℕ) % 64, by omega⟩
      (by show (i 0 : ℕ) = 8192 * ((i 0 : ℕ) / 8192) + (i 0 : ℕ) % 8192; omega) (by show (i 1 : ℕ) = 64 * ((i 1 : ℕ) / 64) + (i 1 : ℕ) % 64; omega)]
    refine Eq.trans (congrArg (entryA m c _ _) ?_) (entryA_tie m c hqa hka htab _ _ (by omega) ⟨(i 0 : ℕ) / 8192, by omega⟩
      ⟨(i 1 : ℕ) / 64, by omega⟩ ((i 0 : ℕ) / 512 % 16) (by omega) ?_ ⟨(i 0 : ℕ) % 8192, by omega⟩ ?_ ⟨(i 1 : ℕ) % 64, by omega⟩)
    · show (i 1 : ℕ) = 64 * ((i 1 : ℕ) / 64) + (i 1 : ℕ) % 64
      omega
    · show (i 0 : ℕ) / 512 = 16 * ((i 0 : ℕ) / 8192) + (i 0 : ℕ) / 512 % 16
      omega
    · show (i 0 : ℕ) % 8192 = 512 * ((i 0 : ℕ) / 512 % 16) + (i 0 : ℕ) % 512
      omega
  · rw [if_neg hl, attend_hi (aQA m c) (aKA m c) (aVA m c) (aQB m c) (aKB m c) (aVB m c) (aTab m c) (aSnk m c) i ⟨(i 0 : ℕ) / 8192, by omega⟩
      ⟨((i 1 : ℕ) - 512) / 64 % 2, by omega⟩ ⟨((i 1 : ℕ) - 512) / 128, by omega⟩ ⟨(i 0 : ℕ) % 8192, by omega⟩ ⟨(i 1 : ℕ) % 64, by omega⟩
      (by show (i 0 : ℕ) = 8192 * ((i 0 : ℕ) / 8192) + (i 0 : ℕ) % 8192; omega)
      (by show (i 1 : ℕ) = 512 + (128 * (((i 1 : ℕ) - 512) / 128) + 64 * (((i 1 : ℕ) - 512) / 64 % 2) + (i 1 : ℕ) % 64); omega)]
    refine Eq.trans (congrArg (entryB m c _ _) ?_) (entryB_tie m c hqb hkb hsnk _ _ (by omega) ⟨(i 0 : ℕ) / 8192, by omega⟩
      ⟨((i 1 : ℕ) - 512) / 64 % 2, by omega⟩ ⟨((i 1 : ℕ) - 512) / 128, by omega⟩ ((i 0 : ℕ) / 512 % 16) (by omega) ?_
      ⟨(i 0 : ℕ) % 8192, by omega⟩ ?_ ⟨(i 1 : ℕ) % 64, by omega⟩)
    · show (i 1 : ℕ) - 512 = 128 * (((i 1 : ℕ) - 512) / 128) + 64 * (((i 1 : ℕ) - 512) / 64 % 2) + (i 1 : ℕ) % 64
      omega
    · show (i 0 : ℕ) / 512 = 16 * ((i 0 : ℕ) / 8192) + (i 0 : ℕ) / 512 % 16
      omega
    · show (i 0 : ℕ) % 8192 = 512 * ((i 0 : ℕ) / 512 % 16) + (i 0 : ℕ) % 512
      omega

end Cert.KernelIdeal.Att
-- ==== Proof.Pre.lean ====
module

public import proofs.«01_k».proof.Defs
public import proofs.«01_k».proof.Proof.Tie
public import Idealize.ShloMosaic.Lib.ReduceAll

/-! What the precondition says of the arguments. -/

@[expose] public section
set_option maxRecDepth 16384
noncomputable section
namespace Cert.Pre_finite_scores
open Idealize.ShloMosaic
open Cert.KernelIdeal.Att (AllReal)

/-- The shape relations of the precondition's operations. -/
theorem facts : Facts where
  bcast_S_S8x8192x8x64 := by decide
  reducesTo_S8x8192x8x64_S_d0_1_2_3 := by decide
  h_S_ := by decide
  bcast_S_S8x8192x2x64 := by decide
  reducesTo_S8x8192x2x64_S_d0_1_2_3 := by decide
  bcast_S_S8x513 := by decide
  reducesTo_S8x513_S_d0_1 := by decide
  bcast_S_S8 := by decide
  reducesTo_S8_S_d0 := by decide

/-- There is one index of no coordinates. -/
instance : Subsingleton S_.Idx := ⟨fun _ _ => funext fun a => a.elim0⟩

/-- The word of plus infinity. -/
theorem ofBits_top : Ideal.ofBits FTy.f32 0x7F800000#32 = ⊤ := by
  simp [Ideal.ofBits, Ideal.ieee]

/-- A comparison that is true. -/
theorem lt_of_cmp (x y : EReal) (h : Ideal.cmp .olt x y = 1#1) : x < y := by
  by_contra hc
  have e : Ideal.cmp .olt x y = BitVec.ofBool (decide (x < y)) := rfl
  rw [e, decide_eq_false hc] at h
  exact absurd h (by decide)

/-- A number whose magnitude is below infinity is real. -/
theorem real_of_abs (x : EReal) (h : max x (-x) < ⊤) : ∃ r : ℝ, x = r := by
  induction x with
  | bot => simp at h
  | top => simp at h
  | coe r => exact ⟨r, rfl⟩

/-- All magnitudes of an array below infinity: it is real. -/
theorem real_of_all {s : Shape} {axes : List (Fin s.rank)} (X : FVec Ideal s .f32) (hb : S_.BroadcastsInDim s (![] : Fin 0 → Fin s.rank))
    (hr : s.ReducesTo axes S_) (hu : 0 < S_.numel) (v : IVec S_ 1) (j : S_.Idx)
    (h : Host.reduce IntOp.andi (cmpf .olt (Host.absf X) (broadcastInDim s ![] hb (constant (F := Ideal) S_ .f32 0x7F800000#32))) v hr hu j = 1#1) :
    AllReal X := fun i => by
  have e := Host.reduce_andi_all _ _ _ _ _ h i
  have e' := lt_of_cmp (max (X i) (-X i)) (Ideal.ofBits .f32 0x7F800000#32) e
  rw [ofBits_top] at e'
  exact real_of_abs _ e'

/-- All entries of an array below infinity. -/
theorem below_of_all {s : Shape} {axes : List (Fin s.rank)} (X : FVec Ideal s .f32) (hb : S_.BroadcastsInDim s (![] : Fin 0 → Fin s.rank))
    (hr : s.ReducesTo axes S_) (hu : 0 < S_.numel) (v : IVec S_ 1) (j : S_.Idx)
    (h : Host.reduce IntOp.andi (cmpf .olt X (broadcastInDim s ![] hb (constant (F := Ideal) S_ .f32 0x7F800000#32))) v hr hu j = 1#1) :
    ∀ i, X i ≠ ⊤ := fun i => by
  have e := Host.reduce_andi_all _ _ _ _ _ h i
  have e' := lt_of_cmp (X i) (Ideal.ofBits .f32 0x7F800000#32) e
  rw [ofBits_top] at e'
  exact e'.ne

/-- Two bits whose conjunction is one are both one. -/
theorem both {a b : IVec S_ 1} {j : S_.Idx} (h : andi a b j = 1#1) : a j = 1#1 ∧ b j = 1#1 := IntOp.andi_eq_one.1 h

/-- The precondition: all that enters a score is real, and no sink is plus infinity. -/
theorem parts [Facts] (qa ka va qb : FVec Ideal S8x8192x8x64 .f32) (kb vb : FVec Ideal S8x8192x2x64 .f32) (tab : FVec Ideal S8x513 .f32)
    (snk : FVec Ideal S8 .f32) (h : fn (F := Ideal) qa ka va qb kb vb tab snk = fun _ => 1#1) :
    AllReal qa ∧ AllReal ka ∧ AllReal qb ∧ AllReal kb ∧ AllReal tab ∧ ∀ i, snk i ≠ ⊤ := by
  have h0 := congrFun h ix0
  unfold fn fn_part1 at h0
  obtain ⟨h1, e6⟩ := both h0
  obtain ⟨h2, e5⟩ := both h1
  obtain ⟨h3, e4⟩ := both h2
  obtain ⟨h4, e3⟩ := both h3
  obtain ⟨e1, e2⟩ := both h4
  exact ⟨real_of_all _ _ _ _ _ _ e1, real_of_all _ _ _ _ _ _ e2, real_of_all _ _ _ _ _ _ e3, real_of_all _ _ _ _ _ _ e4,
    real_of_all _ _ _ _ _ _ e5, below_of_all _ _ _ _ _ _ e6⟩

end Cert.Pre_finite_scores
-- ==== Proof.Ffn.lean ====
module

public import proofs.«01_k».proof.Proof.Read

/-! The mixers' output projections and the gated feed-forward, one token at a time: a token's rows are functions of a
    natural lane, and the weights are functions of natural coordinates. The programs are compared with these. -/

@[expose] public section
noncomputable section
namespace Cert.Ffn
open Idealize.ShloMosaic
open scoped BigOperators

/-- The word of the norms' epsilon, read as a number. -/
def eps : EReal := Ideal.ofBits .f32 0x358637BD#32

/-- The word of the group norm's width, read as a number. -/
def w512 : EReal := Ideal.ofBits .f32 0x44000000#32

/-- The word of the feed-forward norm's width, read as a number. -/
def w1024 : EReal := Ideal.ofBits .f32 0x44800000#32

/-- `x` times its logistic function. -/
def silu (x : EReal) : EReal := x * Ideal.div 1 (1 + Ideal.exp (-x))

/-- The feed-forward's weights. -/
structure Wts where
  /-- the feed-forward norm's scale -/
  gn : ℕ → EReal
  /-- the input projection: the gate's half, then the other half -/
  win : ℕ → ℕ → EReal
  /-- the taps of the convolution -/
  cw : ℕ → ℕ → EReal
  /-- the bias of the convolution -/
  cb : ℕ → EReal
  /-- the output projection -/
  wd : ℕ → ℕ → EReal

/-- The scan's output times its gate. -/
def gate (y z : ℕ → EReal) (k : ℕ) : EReal := y k * silu (z k)

/-- The norm of a lane's group of 512, with its scale. -/
def mix (a w : ℕ → EReal) (k : ℕ) : EReal :=
  a k * Ideal.rsqrt (Ideal.div (∑ j : Fin 512, a (512 * (k / 512) + j) * a (512 * (k / 512) + j)) w512 + eps) * w k

/-- The residual stream after the gated mixer, whose group norm's scale is `ssm` and whose output projection is `wo`. -/
def stream (ssm : ℕ → EReal) (wo : ℕ → ℕ → EReal) (y z x : ℕ → EReal) (d : ℕ) : EReal :=
  x d + ∑ k : Fin 2048, mix (gate y z) ssm k * wo k d

/-- The residual stream after the attentions, whose output projection is `wo`. -/
def headStream (wo : ℕ → ℕ → EReal) (h x : ℕ → EReal) (d : ℕ) : EReal := x d + ∑ k : Fin 1024, h k * wo k d

/-- The norm of a whole row, with its scale. -/
def rowNorm (a g : ℕ → EReal) (d : ℕ) : EReal :=
  a d * Ideal.rsqrt (Ideal.div (∑ j : Fin 1024, a j * a j) w1024 + eps) * g d

/-- The input projection of a token. -/
def proj (P : Wts) (s : ℕ → EReal) (f : ℕ) : EReal := ∑ d : Fin 1024, rowNorm s P.gn d * P.win d f

/-- The convolution of a lane, from the gate's half two tokens ago, one ago and now. -/
def conv (P : Wts) (g2 g1 g0 : ℕ → EReal) (f : ℕ) : EReal :=
  P.cw 0 f * g2 f + P.cw 1 f * g1 f + P.cw 2 f * g0 f + P.cb f

/-- The result of a token with residual stream `s`, where the gate's half was `g2` two tokens ago and `g1` one ago. -/
def result (P : Wts) (s g2 g1 : ℕ → EReal) (d : ℕ) : EReal :=
  s d + ∑ f : Fin 2816, silu (conv P g2 g1 (proj P s) f) * proj P s (2816 + f) * P.wd f d

end Cert.Ffn
-- ==== Proof.FfnOps.lean ====
module

public import proofs.«01_k».proof.Proof.Ffn
public import proofs.«01_k».proof.Proof.Gen.Kernel2Ideal.Value
public import Idealize.ShloMosaic.Lib.Pointwise

/-! The vector operations of one half of a step (256 tokens), each read at an entry. -/

@[expose] public section
set_option maxRecDepth 16384
noncomputable section
namespace Cert.Kernel2Ideal.Ffn
open Idealize.ShloMosaic Idealize.ShloMosaic.TcCoe Idealize.SL.Sem Cert.Kernel2Ideal Cert.Kernel2Ideal.Gen Cert.Read Cert.Ffn
open scoped BigOperators

/-- The scan's output times its gate. -/
def gateV (y z : Vec Ideal S256x2048 .bf16) : FVec Ideal S256x2048 .f32 :=
  mulf (extf .f32 (shapeCast S256x2048 y shapeCasts_S256x2048_S256x2048) bitsLt_bf16_f32)
    (extf .f32 (mulf (shapeCast S256x2048 z shapeCasts_S256x2048_S256x2048)
      (divf (broadcast S256x2048 (Scalar.ofBits .bf16 0x3F80#16))
        (addf (broadcast S256x2048 (Scalar.ofBits .bf16 0x3F80#16))
          (exp (subf (broadcast S256x2048 (Scalar.ofBits .bf16 0x0000#16)) (shapeCast S256x2048 z shapeCasts_S256x2048_S256x2048))))))
      bitsLt_bf16_f32)

/-- A lane of it. -/
theorem gateV_apply (y z : Vec Ideal S256x2048 .bf16) (r : Fin 256) (Y Z : ℕ → EReal) (hy : ∀ k : Fin 2048, y (ix2 r k) = Y k)
    (hz : ∀ k : Fin 2048, z (ix2 r k) = Z k) (k : Fin 2048) : gateV y z (ix2 r k) = gate Y Z k := by
  pointwise [gateV]
  rw [hy, hz, gate, silu, zero_sub]

/-- The norm of one group of 512 lanes. -/
def groupV (a : FVec Ideal S256x2048 .f32) (o : ℕ) (ho : S256x2048.Slices ![0, o] S256x512) (w : Vec Ideal S1x512 .f32) : FVec Ideal S256x512 .bf16 :=
  truncf .bf16 (mulf (mulf (extractStridedSlice S256x512 ![0, o] a ho)
    (broadcastTo S256x512 (rsqrt (addf (divf (shapeCast S256x1 (multiReduction .add [1] S256
      (mulf (extractStridedSlice S256x512 ![0, o] a ho) (extractStridedSlice S256x512 ![0, o] a ho))
      0x00000000#32 reduces_S256x512_S256 (.inl rfl) rfl) shapeCasts_S256_S256x1) (broadcast S256x1 (Scalar.ofBits .f32 0x44000000#32)))
      (broadcast S256x1 (Scalar.ofBits .f32 0x358637BD#32)))) broadcasts_S256x1_S256x512))
    (broadcastTo S256x512 (shapeCast S1x512 w shapeCasts_S1x512_S1x512) broadcasts_S1x512_S256x512)) bitsLt_bf16_f32

/-- A lane of it. -/
theorem groupV_apply (a : FVec Ideal S256x2048 .f32) (n : ℕ) (ho) (w : Vec Ideal S1x512 .f32) (r : Fin 256) (A v : ℕ → EReal)
    (ha : ∀ k : Fin 2048, a (ix2 r k) = A k) (hw : ∀ k : Fin 512, w (ix2 0 k) = v (512 * n + k)) (k : Fin 512) :
    groupV a (512 * n) ho w (ix2 r k) = mix A v (512 * n + k) := by
  have e : (512 * n + (k : ℕ)) / 512 = n := by omega
  pointwise [groupV]
  rw [mix, e]
  simp only [ha, hw]
  rfl

/-- The four groups side by side. -/
def mixV (a : FVec Ideal S256x2048 .f32) (w0 w1 w2 w3 : Vec Ideal S1x512 .f32) : FVec Ideal S256x2048 .bf16 :=
  concatenate S256x2048 1 [⟨S256x512, groupV a 0 slices_S256x2048_o0_0_S256x512 w0⟩, ⟨S256x512, groupV a 512 slices_S256x2048_o0_512_S256x512 w1⟩,
    ⟨S256x512, groupV a 1024 slices_S256x2048_o0_1024_S256x512 w2⟩, ⟨S256x512, groupV a 1536 slices_S256x2048_o0_1536_S256x512 w3⟩]
    concatenates_S256x512_S256x512_S256x512_S256x512_S256x2048_d1

/-- A lane of them. -/
theorem mixV_apply (a : FVec Ideal S256x2048 .f32) (w0 w1 w2 w3 : Vec Ideal S1x512 .f32) (r : Fin 256) (A v : ℕ → EReal)
    (ha : ∀ k : Fin 2048, a (ix2 r k) = A k) (h0 : ∀ k : Fin 512, w0 (ix2 0 k) = v (512 * 0 + k)) (h1 : ∀ k : Fin 512, w1 (ix2 0 k) = v (512 * 1 + k))
    (h2 : ∀ k : Fin 512, w2 (ix2 0 k) = v (512 * 2 + k)) (h3 : ∀ k : Fin 512, w3 (ix2 0 k) = v (512 * 3 + k)) (k : Fin 2048) :
    mixV a w0 w1 w2 w3 (ix2 r k) = mix A v k := by
  pointwise [mixV]
  have e (n : ℕ) (ho) (w : Vec Ideal S1x512 .f32) (hw : ∀ k : Fin 512, w (ix2 0 k) = v (512 * n + k)) (l : Fin 512) (hl : (k : ℕ) = 512 * n + l) :
      groupV a (512 * n) ho w (ix2 r l) = mix A v k := by rw [groupV_apply a n ho w r A v ha hw l, hl]
  by_cases c0 : (k : ℕ) < 512
  · exact (dif_pos c0).trans (e 0 _ w0 h0 _ (by show (k : ℕ) = 512 * 0 + k; omega))
  refine (dif_neg c0).trans ?_
  by_cases c1 : (k : ℕ) - 512 < 512
  · exact (dif_pos c1).trans (e 1 _ w1 h1 _ (by show (k : ℕ) = 512 * 1 + (k - 512); omega))
  refine (dif_neg c1).trans ?_
  by_cases c2 : (k : ℕ) - 512 - 512 < 512
  · exact (dif_pos c2).trans (e 2 _ w2 h2 _ (by show (k : ℕ) = 512 * 2 + (k - 512 - 512); omega))
  · exact (dif_neg c2).trans (e 3 _ w3 h3 _ (by show (k : ℕ) = 512 * 3 + (k - 512 - 512 - 512); omega))

/-- The residual stream after the mixer. -/
def streamV (x : Vec Ideal S256x1024 .f32) (a : FVec Ideal S256x2048 .bf16) (wo : Vec Ideal S2048x1024 .bf16) : FVec Ideal S256x1024 .f32 :=
  addf (shapeCast S256x1024 x shapeCasts_S256x1024_S256x1024)
    (matmul dot_S256x2048_S2048x1024_S256x1024_1_0_0_1_n_n (φ₁ := .bf16) (φ₂ := .bf16) none a (shapeCast S2048x1024 wo shapeCasts_S2048x1024_S2048x1024)
      (constant S256x1024 .f32 0x00000000#32))

/-- A lane of it. -/
theorem streamV_apply (x : Vec Ideal S256x1024 .f32) (a : FVec Ideal S256x2048 .bf16) (wo : Vec Ideal S2048x1024 .bf16) (r : Fin 256) (d : Fin 1024) :
    streamV x a wo (ix2 r d) = x (ix2 r d) + ∑ k : Fin 2048, a (ix2 r k) * wo (ix2 k d) := by
  pointwise [streamV]

/-- The norm of whole rows. -/
def normV (s : FVec Ideal S256x1024 .f32) (g : Vec Ideal S1x1024 .f32) : FVec Ideal S256x1024 .bf16 :=
  truncf .bf16 (mulf (mulf s (broadcastTo S256x1024 (rsqrt (addf (divf (shapeCast S256x1 (multiReduction .add [1] S256 (mulf s s)
      0x00000000#32 reduces_S256x1024_S256 (.inl rfl) rfl) shapeCasts_S256_S256x1) (broadcast S256x1 (Scalar.ofBits .f32 0x44800000#32)))
      (broadcast S256x1 (Scalar.ofBits .f32 0x358637BD#32)))) broadcasts_S256x1_S256x1024))
    (broadcastTo S256x1024 (shapeCast S1x1024 g shapeCasts_S1x1024_S1x1024) broadcasts_S1x1024_S256x1024)) bitsLt_bf16_f32

/-- A lane of it. -/
theorem normV_apply (s : FVec Ideal S256x1024 .f32) (g : Vec Ideal S1x1024 .f32) (r : Fin 256) (A v : ℕ → EReal)
    (hs : ∀ d : Fin 1024, s (ix2 r d) = A d) (hg : ∀ d : Fin 1024, g (ix2 0 d) = v d) (d : Fin 1024) :
    normV s g (ix2 r d) = rowNorm A v d := by
  pointwise [normV]
  simp only [hs, hg]
  rfl

/-- One half of the input projection. -/
def projV (h : FVec Ideal S256x1024 .bf16) (w : Vec Ideal S1024x2816 .bf16) : FVec Ideal S256x2816 .f32 :=
  matmul dot_S256x1024_S1024x2816_S256x2816_1_0_0_1_n_n (φ₁ := .bf16) (φ₂ := .bf16) none h (shapeCast S1024x2816 w shapeCasts_S1024x2816_S1024x2816)
    (constant S256x2816 .f32 0x00000000#32)

/-- A lane of it. -/
theorem projV_apply (h : FVec Ideal S256x1024 .bf16) (w : Vec Ideal S1024x2816 .bf16) (r : Fin 256) (f : Fin 2816) :
    projV h w (ix2 r f) = ∑ d : Fin 1024, h (ix2 r d) * w (ix2 d f) := by
  pointwise [projV]

/-- The rows `k` tokens ago: the first of them come from the eight rows before. -/
def shiftV (k : BitVec 32) (p : FVec Ideal S8x2816 .f32) (g : FVec Ideal S256x2816 .f32) : FVec Ideal S256x2816 .f32 :=
  concatenate S256x2816 0
    [⟨S8x2816, select (broadcastTo S8x2816 (shapeCast S8x1 (cmpi .slt (iota .tc S8x1 32 [0] iota_S8x1_d0_w32) (broadcast S8x1 k)) shapeCasts_S8x1_S8x1)
        broadcasts_S8x1_S8x2816) (dynamicRotate 0 k none p rotates_S8x2816_d0)
        (extractStridedSlice S8x2816 ![0, 0] (dynamicRotate 0 k none g rotates_S256x2816_d0) slices_S256x2816_o0_0_S8x2816)⟩,
     ⟨S248x2816, extractStridedSlice S248x2816 ![8, 0] (dynamicRotate 0 k none g rotates_S256x2816_d0) slices_S256x2816_o8_0_S248x2816⟩]
    concatenates_S8x2816_S248x2816_S256x2816_d0

/-- A row of the array one token ago. -/
theorem shiftV1_apply (p : FVec Ideal S8x2816 .f32) (g : FVec Ideal S256x2816 .f32) (r : Fin 256) (f : Fin 2816) :
    shiftV 1#32 p g (ix2 r f) = if (r : ℕ) < 1 then rd2 p (7 + r) f else rd2 g (r - 1) f := by
  pointwise [shiftV]
  obtain ⟨r, hr⟩ := r
  by_cases h : r < 8
  · refine (dif_pos h).trans ?_
    by_cases h' : r < 1
    · refine Eq.trans ?_ (if_pos h').symm
      interval_cases r <;> exact rd2_of p _ _ _ (by simp) rfl
    · refine Eq.trans ?_ (if_neg h').symm
      interval_cases r <;> first | exact absurd (by decide) h' | exact rd2_of g _ _ _ (by simp) rfl
  · refine (dif_neg h).trans ((rd2_of g _ (r - 1) f ?_ rfl).trans (if_neg (by show ¬ r < 1; omega)).symm)
    show (8 + (r - 8) + 256 - 1) % 256 = r - 1
    omega

/-- A row of the array two tokens ago. -/
theorem shiftV2_apply (p : FVec Ideal S8x2816 .f32) (g : FVec Ideal S256x2816 .f32) (r : Fin 256) (f : Fin 2816) :
    shiftV 2#32 p g (ix2 r f) = if (r : ℕ) < 2 then rd2 p (6 + r) f else rd2 g (r - 2) f := by
  pointwise [shiftV]
  obtain ⟨r, hr⟩ := r
  by_cases h : r < 8
  · refine (dif_pos h).trans ?_
    by_cases h' : r < 2
    · refine Eq.trans ?_ (if_pos h').symm
      interval_cases r <;> exact rd2_of p _ _ _ (by simp) rfl
    · refine Eq.trans ?_ (if_neg h').symm
      interval_cases r <;> first | exact absurd (by decide) h' | exact rd2_of g _ _ _ (by simp) rfl
  · refine (dif_neg h).trans ((rd2_of g _ (r - 2) f ?_ rfl).trans (if_neg (by show ¬ r < 2; omega)).symm)
    show (8 + (r - 8) + 256 - 2) % 256 = r - 2
    omega

/-- The convolution over three tokens, its bias and its gate. -/
def actV (s2 s1 g u : FVec Ideal S256x2816 .f32) (c0 c1 c2 b : Vec Ideal S1x2816 .f32) : FVec Ideal S256x2816 .bf16 :=
  let v := addf (addf (addf (mulf (broadcastTo S256x2816 c0 broadcasts_S1x2816_S256x2816) s2)
    (mulf (broadcastTo S256x2816 c1 broadcasts_S1x2816_S256x2816) s1)) (mulf (broadcastTo S256x2816 c2 broadcasts_S1x2816_S256x2816) g))
    (broadcastTo S256x2816 (shapeCast S1x2816 b shapeCasts_S1x2816_S1x2816) broadcasts_S1x2816_S256x2816)
  truncf .bf16 (mulf (mulf v (divf (broadcast S256x2816 (Scalar.ofBits .f32 0x3F800000#32))
    (addf (broadcast S256x2816 (Scalar.ofBits .f32 0x3F800000#32)) (exp (subf (broadcast S256x2816 (Scalar.ofBits .f32 0x00000000#32)) v))))) u)
    bitsLt_bf16_f32

/-- A lane of it. -/
theorem actV_apply (s2 s1 g u : FVec Ideal S256x2816 .f32) (c0 c1 c2 b : Vec Ideal S1x2816 .f32) (r : Fin 256) (f : Fin 2816) :
    actV s2 s1 g u c0 c1 c2 b (ix2 r f) = silu (c0 (ix2 0 f) * s2 (ix2 r f) + c1 (ix2 0 f) * s1 (ix2 r f) + c2 (ix2 0 f) * g (ix2 r f)
      + b (ix2 0 f)) * u (ix2 r f) := by
  pointwise [actV]
  rw [silu, zero_sub]

/-- The residual stream after the feed-forward. -/
def outV (s : FVec Ideal S256x1024 .f32) (a : FVec Ideal S256x2816 .bf16) (wd : Vec Ideal S2816x1024 .bf16) : FVec Ideal S256x1024 .f32 :=
  addf s (matmul dot_S256x2816_S2816x1024_S256x1024_1_0_0_1_n_n (φ₁ := .bf16) (φ₂ := .bf16) none a
    (shapeCast S2816x1024 wd shapeCasts_S2816x1024_S2816x1024) (constant S256x1024 .f32 0x00000000#32))

/-- A lane of it. -/
theorem outV_apply (s : FVec Ideal S256x1024 .f32) (a : FVec Ideal S256x2816 .bf16) (wd : Vec Ideal S2816x1024 .bf16) (r : Fin 256) (d : Fin 1024) :
    outV s a wd (ix2 r d) = s (ix2 r d) + ∑ f : Fin 2816, a (ix2 r f) * wd (ix2 f d) := by
  pointwise [outV]

end Cert.Kernel2Ideal.Ffn
-- ==== Proof.FfnPays.lean ====
module

public import proofs.«01_k».proof.Proof.FfnOps

/-! The values that the kernel's step names, each as a vector operation of one half of the step. -/

@[expose] public section
set_option maxRecDepth 16384
noncomputable section
namespace Cert.Kernel2Ideal.Ffn
open Idealize.ShloMosaic Idealize.ShloMosaic.TcCoe Idealize.SL.Sem Cert.Kernel2Ideal Cert.Kernel2Ideal.Gen Cert.Read Cert.Ffn

variable (y z : Vec Ideal S256x2048 .bf16) (w0 w1 w2 w3 : Vec Ideal S1x512 .f32) (x : Vec Ideal S256x1024 .f32) (wo : Vec Ideal S2048x1024 .bf16)
  (s : FVec Ideal S256x1024 .f32) (a : FVec Ideal S256x2048 .bf16) (gn : Vec Ideal S1x1024 .f32) (w : Vec Ideal S1024x2816 .bf16)
  (p : FVec Ideal S8x2816 .f32) (g u : FVec Ideal S256x2816 .f32) (c0 c1 c2 b : Vec Ideal S1x2816 .f32) (wd : Vec Ideal S2816x1024 .bf16)

/-- The first half's gate. -/
theorem pay4_eq : k0_pay4 y z = gateV y z := rfl

/-- The second half's gate. -/
theorem pay17_eq : k0_pay17 y z = gateV y z := rfl

/-- The first half's groups. -/
theorem pay9_eq (h : FVec Ideal S256x2048 .f32) (e : h = k0_pay4 y z) :
    k0_pay9 h (k0_pay5 y z w0) (k0_pay6 y z) (k0_pay7 w1) (k0_pay8 y z) w2 w3 = mixV h w0 w1 w2 w3 := by
  unfold k0_pay5 k0_pay8 k0_pay6
  rw [← e]
  rfl

/-- The second half's residual stream. -/
theorem pay20_eq (h : FVec Ideal S256x2048 .f32) (e : h = k0_pay17 y z) :
    k0_pay20 h (k0_pay18 y z w0) (k0_pay19 y z w1) w2 w3 x wo = streamV x (mixV h w0 w1 w2 w3) wo := by
  unfold k0_pay18 k0_pay19
  rw [← e]
  rfl

/-- The first half's residual stream. -/
theorem pay10_eq : k0_pay10 a x wo = streamV x a wo := rfl

/-- The first half's projection, the gate's half. -/
theorem pay12_eq : k0_pay12 a x wo gn w = projV (normV (streamV x a wo) gn) w := rfl

/-- The first half's projection, the other half. -/
theorem pay13_eq : k0_pay13 a x wo gn w = projV (normV (streamV x a wo) gn) w := rfl

/-- The first half's earliest tap. -/
theorem pay14_eq : k0_pay14 p a x wo gn w c0
    = mulf (broadcastTo S256x2816 c0 broadcasts_S1x2816_S256x2816) (shiftV 2#32 p (projV (normV (streamV x a wo) gn) w)) := rfl

/-- The first half's results. -/
theorem pay16_eq (v : FVec Ideal S256x2816 .f32) : k0_pay16 p s g u
      (mulf (broadcastTo S256x2816 c0 broadcasts_S1x2816_S256x2816) v) c1 c2 b wd
    = outV s (actV v (shiftV 1#32 p g) g u c0 c1 c2 b) wd := rfl

/-- The second half's projection, the gate's half. -/
theorem pay24_eq : k0_pay24 s (k0_pay21 gn) (mulf s s) w = projV (normV s gn) w := rfl

/-- The second half's projection, the other half. -/
theorem pay25_eq : k0_pay25 s (k0_pay21 gn) (mulf s s) w = projV (normV s gn) w := rfl

/-- The second half's results. -/
theorem pay1_eq (e : g = k0_pay24 s (k0_pay21 gn) (mulf s s) w) :
    k0_pay1 s g u (k0_pay26 p s (k0_pay21 gn) (mulf s s) w c0) c1 (k0_pay27 s (k0_pay21 gn) (mulf s s) w) (k0_pay28 p)
      (k0_pay29 s (k0_pay21 gn) (mulf s s) w) k0_pay30 c2 b wd
    = outV s (actV (shiftV 2#32 p g) (shiftV 1#32 p g) g u c0 c1 c2 b) wd := by
  unfold k0_pay26 k0_pay29 k0_pay27
  rw [← e]
  rfl

end Cert.Kernel2Ideal.Ffn
-- ==== Proof.FfnTok.lean ====
module

public import proofs.«01_k».proof.Proof.Ffn

/-! The closed form of a token's result as a function of the arguments, a token being a row of all eight sequences one after another. -/

@[expose] public section
noncomputable section
namespace Cert.Ffn
open Idealize.ShloMosaic Cert.Read
open scoped BigOperators

/-- A lane of a token, the eight sequences of 8192 tokens counted through. -/
def tok {n2 : ℕ} (X : (⟨3, ![8, 8192, n2]⟩ : Shape).Idx → EReal) (n k : ℕ) : EReal :=
  if h : n < 65536 ∧ k < n2 then X (ix3 ⟨n / 8192, by omega⟩ ⟨n % 8192, by omega⟩ ⟨k, h.2⟩) else 0

/-- An entry at a token's coordinates. -/
theorem tok_of {n2 : ℕ} (X : (⟨3, ![8, 8192, n2]⟩ : Shape).Idx → EReal) (b : Fin 8) (q : Fin 8192) (k : Fin n2) :
    X (ix3 b q k) = tok X (8192 * b + q) k := by
  rw [tok, dif_pos ⟨by omega, k.2⟩]
  have e0 : (⟨(8192 * (b : ℕ) + q) / 8192, by omega⟩ : Fin 8) = b := Fin.ext (by show (8192 * (b : ℕ) + q) / 8192 = b; omega)
  have e1 : (⟨(8192 * (b : ℕ) + q) % 8192, by omega⟩ : Fin 8192) = q := Fin.ext (by show (8192 * (b : ℕ) + q) % 8192 = q; omega)
  rw [e0, e1]

/-- The residual stream after the gated mixer at a token. -/
def strmOf (ssm : ℕ → EReal) (wo : ℕ → ℕ → EReal) (y z x : ℕ → ℕ → EReal) (n : ℕ) : ℕ → EReal := stream ssm wo (y n) (z n) (x n)

/-- The residual stream after the attentions at a token. -/
def headStrm (wo : ℕ → ℕ → EReal) (h x : ℕ → ℕ → EReal) (n : ℕ) : ℕ → EReal := headStream wo (h n) (x n)

/-- The gate's half `k` tokens before: zero before a sequence. -/
def backOf (P : Wts) (s : ℕ → ℕ → EReal) (k n f : ℕ) : EReal := if n % 8192 < k then 0 else proj P (s (n - k)) f

/-- The result of a token. -/
def token (P : Wts) (s : ℕ → ℕ → EReal) (n d : ℕ) : EReal := result P (s n) (backOf P s 2 n) (backOf P s 1 n) d

/-- A result depends on the lanes of the gate's half that there are. -/
theorem result_congr (P : Wts) (s g2 g1 g2' g1' : ℕ → EReal) (h2 : ∀ f : Fin 2816, g2 f = g2' f) (h1 : ∀ f : Fin 2816, g1 f = g1' f) (d : ℕ) :
    result P s g2 g1 d = result P s g2' g1' d := by
  unfold result conv
  simp only [h2, h1]

end Cert.Ffn
-- ==== Proof.FfnStep.lean ====
module

public import proofs.«01_k».proof.Proof.FfnOps
public import proofs.«01_k».proof.Proof.FfnTok

/-! One step of a mixer-and-feed-forward kernel, 512 tokens in two halves, whatever the mixer was: the results from the residual stream
    after the mixer, the weights and the eight rows of the gate's half before the step. -/

@[expose] public section
set_option maxRecDepth 16384
noncomputable section
namespace Cert.Kernel2Ideal.Ffn
open Idealize.ShloMosaic Idealize.ShloMosaic.TcCoe Idealize.SL.Sem Cert.Kernel2Ideal Cert.Kernel2Ideal.Gen Cert.Read Cert.Ffn
open scoped BigOperators

/-- What a step's feed-forward takes. -/
structure Step where
  /-- the residual stream after the mixer in the half that begins at row `o` -/
  s : ∀ o, o ≤ 256 → FVec Ideal S256x1024 .f32
  /-- the residual stream at a row of the step -/
  strm : ℕ → ℕ → EReal
  /-- the first is the second -/
  s_apply : ∀ o ho (r : Fin 256) (d : Fin 1024), s o ho (ix2 r d) = strm (o + r) d
  /-- the feed-forward norm's scale -/
  gn : Vec Ideal S1x1024 .f32
  /-- the input projection -/
  win : Vec Ideal S1024x5632 .bf16
  /-- the convolution's taps -/
  cw : Vec Ideal S3x2816 .f32
  /-- the convolution's bias -/
  cb : Vec Ideal S1x2816 .f32
  /-- the output projection -/
  wd : Vec Ideal S2816x1024 .bf16

/-- The step's weights at natural coordinates. -/
def Step.wts (B : Step) : Wts := ⟨rd2 B.gn 0, rd2 B.win, rd2 B.cw, rd2 B.cb 0, rd2 B.wd⟩

/-- A rectangle of a matrix lies inside it. -/
theorem inb2 {n0 n1 : ℕ} (a b u v : ℕ) (h0 : a + u ≤ n0) (h1 : b + v ≤ n1) :
    ∀ x : Fin 2, (![a, b] : Fin 2 → ℕ) x + (![u, v] : Fin 2 → ℕ) x ≤ (⟨2, ![n0, n1]⟩ : Shape).size x := by
  intro x; fin_cases x <;> simpa

/-- A row of a wide block's half. -/
theorem ldw {n0 n1 u v : ℕ} (X : Vec Ideal ⟨2, ![n0, n1]⟩ .bf16) (a b : ℕ) (inb) (i : Fin u) (j : Fin v) :
    View.ld (Val := Elt Ideal) (e' := .bf16) X (Rect.unit (s := ⟨2, ![n0, n1]⟩) ![a, b] ![u, v] inb) (ix2 i j) = rd2 X (a + i) (b + j) :=
  rd2_of X _ _ _ (Rect.idx_unit_val ..) (Rect.idx_unit_val ..)

/-- The same for a block of the wider words. -/
theorem ldf {n0 n1 u v : ℕ} (X : Vec Ideal ⟨2, ![n0, n1]⟩ .f32) (a b : ℕ) (inb) (i : Fin u) (j : Fin v) :
    View.ld (Val := Elt Ideal) (e' := .f32) X (Rect.unit (s := ⟨2, ![n0, n1]⟩) ![a, b] ![u, v] inb) (ix2 i j) = rd2 X (a + i) (b + j) :=
  rd2_of X _ _ _ (Rect.idx_unit_val ..) (Rect.idx_unit_val ..)

/-- The gate's half of the input projection in the half that begins at row `o`. -/
def Step.gV (B : Step) (o : ℕ) (ho : o ≤ 256) : FVec Ideal S256x2816 .f32 :=
  projV (normV (B.s o ho) B.gn) (View.ld B.win (Rect.unit (s := S1024x5632) ![0, 0] ![1024, 2816] inb_S1024x5632_S1024x2816_0_0))

/-- The other half of the input projection there. -/
def Step.uV (B : Step) (o : ℕ) (ho : o ≤ 256) : FVec Ideal S256x2816 .f32 :=
  projV (normV (B.s o ho) B.gn) (View.ld B.win (Rect.unit (s := S1024x5632) ![0, 2816] ![1024, 2816] inb_S1024x5632_S1024x2816_0_2816))

/-- The results there, where the eight rows of the gate's half before are `p`. -/
def Step.oV (B : Step) (o : ℕ) (ho : o ≤ 256) (p : FVec Ideal S8x2816 .f32) : FVec Ideal S256x1024 .f32 :=
  outV (B.s o ho) (actV (shiftV 2#32 p (B.gV o ho)) (shiftV 1#32 p (B.gV o ho)) (B.gV o ho) (B.uV o ho)
    (View.ld B.cw (Rect.unit (s := S3x2816) ![0, 0] ![1, 2816] inb_S3x2816_S1x2816_0_0))
    (View.ld B.cw (Rect.unit (s := S3x2816) ![1, 0] ![1, 2816] inb_S3x2816_S1x2816_1_0))
    (View.ld B.cw (Rect.unit (s := S3x2816) ![2, 0] ![1, 2816] inb_S3x2816_S1x2816_2_0)) B.cb) B.wd

/-- An entry of a matrix at its own coordinates. -/
theorem rd2_ix {n0 n1 : ℕ} (X : (⟨2, ![n0, n1]⟩ : Shape).Idx → EReal) (i : Fin n0) (j : Fin n1) : X (ix2 i j) = rd2 X i j :=
  rd2_of X _ _ _ rfl rfl

/-- An entry of the gate's half. -/
theorem Step.gV_apply (B : Step) (o : ℕ) (ho) (r : Fin 256) (f : Fin 2816) : B.gV o ho (ix2 r f) = proj B.wts (B.strm (o + r)) f := by
  rw [Step.gV, projV_apply]
  refine Finset.sum_congr rfl fun d _ => congrArg₂ (· * ·) ?_ ((ldw B.win _ _ _ _ _).trans (by rw [Nat.zero_add, Nat.zero_add]; rfl))
  exact normV_apply _ _ r _ _ (fun d => B.s_apply o ho r d) (fun d => rd2_ix B.gn 0 d) d

/-- An entry of the other half. -/
theorem Step.uV_apply (B : Step) (o : ℕ) (ho) (r : Fin 256) (f : Fin 2816) :
    B.uV o ho (ix2 r f) = proj B.wts (B.strm (o + r)) (2816 + f) := by
  rw [Step.uV, projV_apply]
  refine Finset.sum_congr rfl fun d _ => congrArg₂ (· * ·) ?_ ((ldw B.win _ _ _ _ _).trans (by rw [Nat.zero_add]; rfl))
  exact normV_apply _ _ r _ _ (fun d => B.s_apply o ho r d) (fun d => rd2_ix B.gn 0 d) d

/-- The gate's half `k` tokens before row `r` of a step that took up the eight rows `p`. -/
def Step.back (B : Step) (p : ℕ → ℕ → EReal) (k r f : ℕ) : EReal :=
  if r < k then p (8 + r - k) f else proj B.wts (B.strm (r - k)) f

/-- The results of a half, where the eight rows before are those that the step would see `k` tokens before. -/
theorem Step.oV_apply (B : Step) (o : ℕ) (ho) (p : FVec Ideal S8x2816 .f32) (P : ℕ → ℕ → EReal)
    (h1 : ∀ f : Fin 2816, rd2 p 7 f = B.back P 1 o f)
    (h2 : ∀ f : Fin 2816, ∀ r < 2, rd2 p (6 + r) f = B.back P 2 (o + r) f) (r : Fin 256) (d : Fin 1024) :
    B.oV o ho p (ix2 r d) = result B.wts (B.strm (o + r)) (B.back P 2 (o + r)) (B.back P 1 (o + r)) d := by
  have b2 : ∀ f : Fin 2816, shiftV 2#32 p (B.gV o ho) (ix2 r f) = B.back P 2 (o + r) f := fun f => by
    rw [shiftV2_apply]
    by_cases c : (r : ℕ) < 2
    · rw [if_pos c]; exact h2 f r c
    · rw [if_neg c, Step.back, if_neg (by omega)]
      refine (rd2_ix _ ⟨(r : ℕ) - 2, by omega⟩ f).symm.trans ((B.gV_apply o ho _ f).trans ?_)
      exact congrArg (fun x => proj B.wts (B.strm x) f) (by show o + ((r : ℕ) - 2) = o + r - 2; omega)
  have b1 : ∀ f : Fin 2816, shiftV 1#32 p (B.gV o ho) (ix2 r f) = B.back P 1 (o + r) f := fun f => by
    rw [shiftV1_apply]
    by_cases c : (r : ℕ) < 1
    · have e : (r : ℕ) = 0 := by omega
      rw [if_pos c, e]; exact h1 f
    · rw [if_neg c, Step.back, if_neg (by omega)]
      refine (rd2_ix _ ⟨(r : ℕ) - 1, by omega⟩ f).symm.trans ((B.gV_apply o ho _ f).trans ?_)
      exact congrArg (fun x => proj B.wts (B.strm x) f) (by show o + ((r : ℕ) - 1) = o + r - 1; omega)
  rw [Step.oV, outV_apply]
  refine congrArg₂ (· + ·) (B.s_apply o ho r d) (Finset.sum_congr rfl fun f _ => congrArg₂ (· * ·) ?_ (rd2_ix B.wd f d))
  rw [actV_apply, b2, b1, B.gV_apply, B.uV_apply, ldf, ldf, ldf, rd2_ix B.cb 0 f]
  simp only [conv, Nat.zero_add]
  rfl

/-- The last eight rows of a half. -/
def tailV (g : FVec Ideal S256x2816 .f32) : FVec Ideal S8x2816 .f32 := extractStridedSlice S8x2816 ![248, 0] g slices_S256x2816_o248_0_S8x2816

/-- An entry of them. -/
theorem tailV_apply (g : FVec Ideal S256x2816 .f32) (k : Fin 8) (f : Fin 2816) : tailV g (ix2 k f) = rd2 g (248 + k) f := by
  pointwise [tailV]
  exact rd2_of g _ _ _ rfl rfl

/-- The results of a step's first half. -/
theorem Step.first (B : Step) (p : FVec Ideal S8x2816 .f32) (y : S512x1024.Idx) (z : S256x1024.Idx) (h0 : (y 0 : ℕ) = z 0) (h1 : (y 1 : ℕ) = z 1) :
    B.oV 0 (by omega) p z = result B.wts (B.strm (y 0)) (B.back (rd2 p) 2 (y 0)) (B.back (rd2 p) 1 (y 0)) (y 1) := by
  rw [h0, h1]
  idx_vars z
  refine (B.oV_apply 0 _ p (rd2 p) (fun f => ?_) (fun f r hr => ?_) z0 z1).trans ?_
  · rw [Step.back, if_pos (by omega)]
  · rw [Step.back, if_pos (by omega)]
    exact congrArg (fun x => rd2 p x f) (by omega)
  · simp only [Nat.zero_add]

/-- The results of its second half. -/
theorem Step.second (B : Step) (P : ℕ → ℕ → EReal) (y : S512x1024.Idx) (z : S256x1024.Idx) (h0 : (y 0 : ℕ) = 256 + z 0) (h1 : (y 1 : ℕ) = z 1) :
    B.oV 256 (by omega) (tailV (B.gV 0 (by omega))) z = result B.wts (B.strm (y 0)) (B.back P 2 (y 0)) (B.back P 1 (y 0)) (y 1) := by
  have e (k : Fin 8) (f : Fin 2816) : rd2 (tailV (B.gV 0 (by omega))) k f = proj B.wts (B.strm (248 + k)) f := by
    rw [← rd2_ix, tailV_apply]
    refine (rd2_ix _ ⟨248 + (k : ℕ), by omega⟩ f).symm.trans ((B.gV_apply 0 _ _ f).trans ?_)
    exact congrArg (fun x => proj B.wts (B.strm x) f) (by show 0 + (248 + (k : ℕ)) = 248 + k; omega)
  rw [h0, h1]
  idx_vars z
  refine B.oV_apply 256 _ _ P (fun f => ?_) (fun f r hr => ?_) z0 z1
  · rw [Step.back, if_neg (by omega)]
    exact e 7 f
  · rw [Step.back, if_neg (by omega)]
    refine (e ⟨6 + r, by omega⟩ f).trans ?_
    exact congrArg (fun x => proj B.wts (B.strm x) f) (by show 248 + (6 + r) = 256 + r - 2; omega)

/-- The rows before a row of step `t` are the tokens before it, where `P` and `S` are the launch's weights and residual stream and the
    eight rows that the step took up are the end of the step before, or zero at a sequence's beginning. -/
theorem Step.back_eq (B : Step) (P : Wts) (S p : ℕ → ℕ → EReal) (t : ℕ) (hw : B.wts = P) (hs : ∀ r < 512, B.strm r = S (512 * t + r))
    (hp : ∀ (j : Fin 8) (f : Fin 2816), p j f = if t % 16 = 0 then 0 else proj P (S (512 * (t - 1) + (504 + j))) f) (k r : ℕ) (hk : k ≤ 2)
    (hr : r < 512) (f : Fin 2816) : B.back p k r f = backOf P S k (512 * t + r) f := by
  rw [Step.back, backOf]
  by_cases hc : r < k
  · rw [if_pos hc, hp ⟨8 + r - k, by omega⟩ f]
    by_cases h : t % 16 = 0
    · rw [if_pos h, if_pos (by omega)]
    · rw [if_neg h, if_neg (by omega)]
      exact congrArg (fun x => proj P (S x) f) (by show 512 * (t - 1) + (504 + (8 + r - k)) = _; omega)
  · rw [if_neg hc, if_neg (by omega), hw, hs _ (by omega)]
    exact congrArg (fun x => proj P (S x) f) (by omega)

/-- So a row's result is its token's closed form. -/
theorem Step.result_token (B : Step) (P : Wts) (S p : ℕ → ℕ → EReal) (t : ℕ) (hw : B.wts = P) (hs : ∀ r < 512, B.strm r = S (512 * t + r))
    (hp : ∀ (j : Fin 8) (f : Fin 2816), p j f = if t % 16 = 0 then 0 else proj P (S (512 * (t - 1) + (504 + j))) f) (r : ℕ) (hr : r < 512)
    (d : ℕ) : result B.wts (B.strm r) (B.back p 2 r) (B.back p 1 r) d = token P S (512 * t + r) d := by
  rw [token, hw, hs r hr]
  exact result_congr _ _ _ _ _ _ (fun f => B.back_eq P S p t hw hs hp 2 r (by omega) hr f) (fun f => B.back_eq P S p t hw hs hp 1 r (by omega) hr f) _

/-- A block's row in its array, the block's number times its height first. -/
theorem row_at (t r : ℕ) : t * 512 + r = 512 * t + r := by rw [Nat.mul_comm]

/-- Two matrices agree along a row where their entries do. -/
theorem row_eq {n0 n1 N0 : ℕ} (X : (⟨2, ![n0, n1]⟩ : Shape).Idx → EReal) (A : (⟨2, ![N0, n1]⟩ : Shape).Idx → EReal) (r R : ℕ) (hr : r < n0)
    (hR : R < N0) (h : ∀ j : Fin n1, X (ix2 ⟨r, hr⟩ j) = rd2 A R j) : rd2 X r = rd2 A R := by
  funext k
  by_cases hk : k < n1
  · rw [rd2, dif_pos ⟨hr, hk⟩]; exact h ⟨k, hk⟩
  · rw [rd2, dif_neg (fun e => hk e.2), rd2, dif_neg (fun e => hk e.2)]

/-- Two readings of matrices agree where the entries do. -/
theorem rd2_ext {n0 n1 : ℕ} (X : (⟨2, ![n0, n1]⟩ : Shape).Idx → EReal) (Y : ℕ → ℕ → EReal) (h : ∀ (i : Fin n0) (j : Fin n1), X (ix2 i j) = Y i j)
    (h0 : ∀ a b, ¬ (a < n0 ∧ b < n1) → Y a b = 0) : rd2 X = Y := by
  funext a b
  by_cases e : a < n0 ∧ b < n1
  · rw [rd2, dif_pos e]; exact h ⟨a, e.1⟩ ⟨b, e.2⟩
  · rw [rd2, dif_neg e, h0 a b e]

end Cert.Kernel2Ideal.Ffn
-- ==== Proof.FfnBlock.lean ====
module

public import proofs.«01_k».proof.Proof.FfnPays
public import proofs.«01_k».proof.Proof.FfnStep
public import Idealize.ShloMosaic.Lib.Pipeline.ValueKit

/-! The gated mixer's step: the residual stream after it from the blocks that the step reads, and the last eight rows of the gate's half,
    which the next step takes up. -/

@[expose] public section
set_option maxRecDepth 16384
noncomputable section
namespace Cert.Kernel2Ideal.Ffn
open Idealize.ShloMosaic Idealize.ShloMosaic.TcCoe Idealize.SL.Sem Cert.Kernel2Ideal Cert.Kernel2Ideal.Gen Cert.Read Cert.Ffn
open scoped BigOperators
variable (m : (ℓ : Loc nD τ sig) → Buf (Elt Ideal) ℓ)

/-- The residual stream after the mixer in the half that begins at row `o`. -/
def mixedV (y z : Vec Ideal S512x2048 .bf16) (ssm : Vec Ideal S1x2048 .f32) (x : Vec Ideal S512x1024 .f32) (wo : Vec Ideal S2048x1024 .bf16) (o : ℕ)
    (ho : o ≤ 256) : FVec Ideal S256x1024 .f32 :=
  streamV (View.ld x (Rect.unit (s := S512x1024) ![o, 0] ![256, 1024] (inb2 _ _ _ _ (by omega) (by omega))))
    (mixV (gateV (View.ld y (Rect.unit (s := S512x2048) ![o, 0] ![256, 2048] (inb2 _ _ _ _ (by omega) (by omega))))
        (View.ld z (Rect.unit (s := S512x2048) ![o, 0] ![256, 2048] (inb2 _ _ _ _ (by omega) (by omega)))))
      (View.ld ssm (Rect.unit (s := S1x2048) ![0, 0] ![1, 512] inb_S1x2048_S1x512_0_0))
      (View.ld ssm (Rect.unit (s := S1x2048) ![0, 512] ![1, 512] inb_S1x2048_S1x512_0_512))
      (View.ld ssm (Rect.unit (s := S1x2048) ![0, 1024] ![1, 512] inb_S1x2048_S1x512_0_1024))
      (View.ld ssm (Rect.unit (s := S1x2048) ![0, 1536] ![1, 512] inb_S1x2048_S1x512_0_1536))) wo

/-- An entry of it. -/
theorem mixedV_apply (y z : Vec Ideal S512x2048 .bf16) (ssm : Vec Ideal S1x2048 .f32) (x : Vec Ideal S512x1024 .f32) (wo : Vec Ideal S2048x1024 .bf16)
    (o : ℕ) (ho : o ≤ 256) (r : Fin 256) (d : Fin 1024) :
    mixedV y z ssm x wo o ho (ix2 r d) = stream (rd2 ssm 0) (rd2 wo) (rd2 y (o + r)) (rd2 z (o + r)) (rd2 x (o + r)) d := by
  rw [mixedV, streamV_apply, ldf]
  refine congrArg₂ (· + ·) (by rw [Nat.zero_add]) (Finset.sum_congr rfl fun k _ => congrArg₂ (· * ·) ?_ (rd2_ix wo k d))
  refine mixV_apply _ _ _ _ _ r (gate (rd2 y (o + r)) (rd2 z (o + r))) (rd2 ssm 0) (fun k => ?_) (fun k => ?_) (fun k => ?_) (fun k => ?_)
    (fun k => ?_) k
  · exact gateV_apply _ _ r _ _ (fun k => (ldw y _ _ _ _ _).trans (by rw [Nat.zero_add])) (fun k => (ldw z _ _ _ _ _).trans (by rw [Nat.zero_add])) k
  all_goals exact ldf ssm _ _ _ _ _

/-- What step `t` reads. -/
def blocks (c : Dev nD) (t : Fin cfg0.N) : Step where
  s := mixedV (iblk m c 0 t) (iblk m c 1 t) (iblk m c 2 t) (iblk m c 3 t) (iblk m c 4 t)
  strm := fun r => stream (rd2 (n0 := 1) (n1 := 2048) (iblk m c 2 t) 0) (rd2 (n0 := 2048) (n1 := 1024) (iblk m c 4 t))
    (rd2 (n0 := 512) (n1 := 2048) (iblk m c 0 t) r) (rd2 (n0 := 512) (n1 := 2048) (iblk m c 1 t) r) (rd2 (n0 := 512) (n1 := 1024) (iblk m c 3 t) r)
  s_apply := mixedV_apply _ _ _ _ _
  gn := iblk m c 5 t
  win := iblk m c 6 t
  cw := iblk m c 7 t
  cb := iblk m c 8 t
  wd := iblk m c 9 t

/-- The last eight rows of the first half, for the second. -/
theorem pay15_eq (g : FVec Ideal S256x2816 .f32) : k0_pay15 g = tailV g := rfl

/-- The same rows, as they are stored. -/
theorem pay2_apply (g : FVec Ideal S256x2816 .f32) (k : Fin 8) (f : Fin 2816) : k0_pay2 g (ix2 k f) = rd2 g (248 + k) f := by
  pointwise [k0_pay2]
  exact rd2_of g _ _ _ rfl rfl

/-- A sequence begins with zeros. -/
theorem pay3_apply (k : Fin 8) (f : Fin 2816) : (k0_pay3 : FVec Ideal S8x2816 .f32) (ix2 k f) = 0 := by
  pointwise [k0_pay3]

set_option maxHeartbeats 1000000 in
/-- What a step leaves for the next one. -/
theorem carry_apply (c : Dev nD) (t : Fin cfg0.N) (y : S8x2816.Idx) :
    (outsAt0 m c t.val t.isLt).2 y = proj (blocks m c t).wts ((blocks m c t).strm (504 + y 0)) (y 1) := by
  have key : k0_pay2 ((blocks m c t).gV 256 (by omega)) y = proj (blocks m c t).wts ((blocks m c t).strm (504 + y 0)) (y 1) := by
    idx_vars y
    rw [pay2_apply]
    refine (rd2_ix _ ⟨248 + (y0 : ℕ), by omega⟩ y1).symm.trans (((blocks m c t).gV_apply 256 _ _ y1).trans ?_)
    exact congrArg (fun x => proj (blocks m c t).wts ((blocks m c t).strm x) y1) (by show 256 + (248 + (y0 : ℕ)) = 504 + y0; omega)
  by_cases h0 : t.val % 16 = 0
  · rw [outsAt0_A m c t h0]
    dsimp only
    frame_out
    unfold k0_pay22
    rw [pay20_eq _ _ _ _ _ _ _ _ _ rfl, pay24_eq, pay17_eq]
    exact key
  · rw [outsAt0_B m c t h0]
    dsimp only
    frame_out
    unfold k0_pay22
    rw [pay20_eq _ _ _ _ _ _ _ _ _ rfl, pay24_eq, pay17_eq]
    exact key

end Cert.Kernel2Ideal.Ffn
-- ==== Proof.FfnOut.lean ====
module

public import proofs.«01_k».proof.Proof.FfnBlock

/-! The block of results that a step writes: that of the step's own rows, with the eight rows before at a sequence's beginning zero
    and elsewhere those that the step before left. -/

@[expose] public section
set_option maxRecDepth 16384
noncomputable section
namespace Cert.Kernel2Ideal.Ffn
open Idealize.ShloMosaic Idealize.ShloMosaic.TcCoe Idealize.SL.Sem Cert.Kernel2Ideal Cert.Kernel2Ideal.Gen Cert.Read Cert.Ffn
open scoped BigOperators
variable (m : (ℓ : Loc nD τ sig) → Buf (Elt Ideal) ℓ)

set_option maxHeartbeats 1000000 in
/-- The block of results of a step where a sequence begins. -/
theorem out_first (c : Dev nD) (t : Fin cfg0.N) (h : t.val % 16 = 0) (y : S512x1024.Idx) :
    (outsAt0 m c t.val t.isLt).1 y = result (blocks m c t).wts ((blocks m c t).strm (y 0))
      ((blocks m c t).back (rd2 (n0 := 8) (n1 := 2816) (k0_pay3 (F := Ideal))) 2 (y 0)) ((blocks m c t).back (rd2 (n0 := 8) (n1 := 2816) (k0_pay3 (F := Ideal))) 1 (y 0)) (y 1) := by
  rw [outsAt0_A m c t h]
  dsimp only
  frame_out
  canon_tiles z h using View.cover_of_tiledBy _ ![256, 1024] (by sl_kernel_rfl) y
  case piece0 =>
    unfold k0_pay22
    rw [pay20_eq _ _ _ _ _ _ _ _ _ rfl, pay1_eq _ _ _ _ _ _ _ _ _ _ _ rfl]
    rw [pay24_eq, pay25_eq, pay17_eq, pay9_eq _ _ _ _ _ _ _ rfl, pay12_eq, pay4_eq, pay15_eq]
    refine Eq.trans ?_ ((blocks m c t).second (rd2 (n0 := 8) (n1 := 2816) (k0_pay3 (F := Ideal))) y z (by omega) (by omega))
    dsimp only [Step.oV, Step.gV, Step.uV, blocks, mixedV]
  case piece1 =>
    rw [pay9_eq _ _ _ _ _ _ _ rfl, pay12_eq, pay13_eq, pay14_eq, pay10_eq, pay4_eq, pay16_eq]
    refine Eq.trans ?_ ((blocks m c t).first (k0_pay3 (F := Ideal)) y z (by omega) (by omega))
    dsimp only [Step.oV, Step.gV, Step.uV, blocks, mixedV]

set_option maxHeartbeats 1000000 in
/-- The block of results of a later step: the eight rows before are those that the step before left. -/
theorem out_later (c : Dev nD) (t : Fin cfg0.N) (h : ¬ t.val % 16 = 0) (y : S512x1024.Idx) :
    (outsAt0 m c t.val t.isLt).1 y = result (blocks m c t).wts ((blocks m c t).strm (y 0))
      ((blocks m c t).back (rd2 (outsAt0 m c (t.val - 1) (Nat.lt_of_le_of_lt (Nat.sub_le _ _) t.isLt)).2) 2 (y 0))
      ((blocks m c t).back (rd2 (outsAt0 m c (t.val - 1) (Nat.lt_of_le_of_lt (Nat.sub_le _ _) t.isLt)).2) 1 (y 0)) (y 1) := by
  rw [outsAt0_B m c t h]
  dsimp only
  generalize (outsAt0 m c (t.val - 1) (Nat.lt_of_le_of_lt (Nat.sub_le _ _) t.isLt)).2 = p
  frame_out
  canon_tiles z h using View.cover_of_tiledBy _ ![256, 1024] (by sl_kernel_rfl) y
  case piece0 =>
    unfold k0_pay22
    rw [pay20_eq _ _ _ _ _ _ _ _ _ rfl, pay1_eq _ _ _ _ _ _ _ _ _ _ _ rfl]
    rw [pay24_eq, pay25_eq, pay17_eq, pay9_eq _ _ _ _ _ _ _ rfl, pay12_eq, pay4_eq, pay15_eq]
    refine Eq.trans ?_ ((blocks m c t).second (rd2 p) y z (by omega) (by omega))
    dsimp only [Step.oV, Step.gV, Step.uV, blocks, mixedV]
  case piece1 =>
    rw [pay9_eq _ _ _ _ _ _ _ rfl, pay12_eq, pay13_eq, pay14_eq, pay10_eq, pay4_eq, pay16_eq]
    have e : View.read (Elt Ideal) (View.whole cc0_scratch0) ((Memref.isWhole_whole cc0_scratch0).unread p) = p := Memref.IsWhole.read_unread _ p
    rw [e]
    refine Eq.trans ?_ ((blocks m c t).first p y z (by omega) (by omega))
    dsimp only [Step.oV, Step.gV, Step.uV, blocks, mixedV]

end Cert.Kernel2Ideal.Ffn
-- ==== Proof.FfnRows.lean ====
module

public import proofs.«01_k».proof.Proof.FfnOut

/-! Where the blocks of a step lie in the arrays, and so the launch's whole result: the closed form of each token. -/

@[expose] public section
set_option maxRecDepth 16384
noncomputable section
namespace Cert.Kernel2Ideal.Ffn
open Idealize.ShloMosaic Idealize.ShloMosaic.TcCoe Idealize.SL.Sem Cert.Kernel2Ideal Cert.Kernel2Ideal.Gen Cert.Read Cert.Ffn
open scoped BigOperators
variable (m : (ℓ : Loc nD τ sig) → Buf (Elt Ideal) ℓ)

/-- The index maps of the windows that step through the rows. -/
theorem idx_rows : ∀ t : Fin cfg0.N, win0_0.index t = ![t.val, 0] ∧ win0_1.index t = ![t.val, 0] ∧ win0_3.index t = ![t.val, 0]
    ∧ win0_10.index t = ![t.val, 0] :=
  (by decide +kernel : ∀ t : Fin grid0.N, _)

/-- The index maps of the windows on the weights. -/
theorem idx_wts : ∀ t : Fin cfg0.N, (win0_2.index t = ![0, 0] ∧ win0_4.index t = ![0, 0] ∧ win0_5.index t = ![0, 0] ∧ win0_6.index t = ![0, 0])
    ∧ win0_7.index t = ![0, 0] ∧ win0_8.index t = ![0, 0] ∧ win0_9.index t = ![0, 0] :=
  (by decide +kernel : ∀ t : Fin grid0.N, _)

/-- The feed-forward's weights of the launch. -/
def wts (c : Dev nD) : Wts :=
  ⟨rd2 (n0 := 1) (n1 := 1024) (V m c main_v4) 0, rd2 (n0 := 1024) (n1 := 5632) (V m c main_v5), rd2 (n0 := 3) (n1 := 2816) (V m c main_arg7),
    rd2 (n0 := 1) (n1 := 2816) (V m c main_v6) 0, rd2 (n0 := 2816) (n1 := 1024) (V m c main_v7)⟩

/-- The residual stream after the mixer at a row of the launch. -/
def strm (c : Dev nD) : ℕ → ℕ → EReal :=
  strmOf (rd2 (n0 := 1) (n1 := 2048) (V m c main_v10) 0) (rd2 (n0 := 2048) (n1 := 1024) (V m c main_v3))
    (rd2 (n0 := 65536) (n1 := 2048) (V m c main_v1)) (rd2 (n0 := 65536) (n1 := 2048) (V m c main_v9))
    (rd2 (n0 := 65536) (n1 := 1024) (V m c main_v2))

/-- The launch's result in closed form. -/
def resultAt (c : Dev nD) (i : S65536x1024.Idx) : EReal := token (wts m c) (strm m c) (i 0) (i 1)

set_option maxHeartbeats 2000000 in
/-- The blocks of weights are the weights. -/
theorem blocks_wts (c : Dev nD) (t : Fin cfg0.N) : (blocks m c t).wts = wts m c := by
  obtain ⟨⟨-, -, h5, h6⟩, h7, h8, h9⟩ := idx_wts t
  have e5 : (blocks m c t).gn = V m c main_v4 := funext fun j => congrArg (V m c main_v4) (by blk_ext [iblk, h5])
  have e6 : (blocks m c t).win = V m c main_v5 := funext fun j => congrArg (V m c main_v5) (by blk_ext [iblk, h6])
  have e7 : (blocks m c t).cw = V m c main_arg7 := funext fun j => congrArg (V m c main_arg7) (by blk_ext [iblk, h7])
  have e8 : (blocks m c t).cb = V m c main_v6 := funext fun j => congrArg (V m c main_v6) (by blk_ext [iblk, h8])
  have e9 : (blocks m c t).wd = V m c main_v7 := funext fun j => congrArg (V m c main_v7) (by blk_ext [iblk, h9])
  rw [Step.wts, e5, e6, e7, e8, e9]
  rfl

set_option maxHeartbeats 2000000 in
/-- A row of a step's blocks is a row of the launch. -/
theorem blocks_strm (c : Dev nD) (t : Fin cfg0.N) (r : ℕ) (hr : r < 512) : (blocks m c t).strm r = strm m c (512 * t.val + r) := by
  obtain ⟨h0, h1, h3, -⟩ := idx_rows t
  obtain ⟨⟨h2, h4, -⟩, -⟩ := idx_wts t
  have ht : t.val < 128 := t.isLt
  have e2 : iblk m c 2 t = V m c main_v10 := funext fun j => congrArg (V m c main_v10) (by blk_ext [iblk, h2])
  have e4 : iblk m c 4 t = V m c main_v3 := funext fun j => congrArg (V m c main_v3) (by blk_ext [iblk, h4])
  have e0 : rd2 (n0 := 512) (n1 := 2048) (iblk m c 0 t) r = rd2 (n0 := 65536) (n1 := 2048) (V m c main_v1) (512 * t.val + r) := by
    refine row_eq _ _ _ _ hr (by omega) fun j => ?_
    refine rd2_of (n0 := 65536) (n1 := 2048) (V m c main_v1) _ _ _ ?_ ?_
    all_goals blk_simp [h0]
    all_goals exact row_at _ _
  have e1 : rd2 (n0 := 512) (n1 := 2048) (iblk m c 1 t) r = rd2 (n0 := 65536) (n1 := 2048) (V m c main_v9) (512 * t.val + r) := by
    refine row_eq _ _ _ _ hr (by omega) fun j => ?_
    refine rd2_of (n0 := 65536) (n1 := 2048) (V m c main_v9) _ _ _ ?_ ?_
    all_goals blk_simp [h1]
    all_goals exact row_at _ _
  have e3 : rd2 (n0 := 512) (n1 := 1024) (iblk m c 3 t) r = rd2 (n0 := 65536) (n1 := 1024) (V m c main_v2) (512 * t.val + r) := by
    refine row_eq _ _ _ _ hr (by omega) fun j => ?_
    refine rd2_of (n0 := 65536) (n1 := 1024) (V m c main_v2) _ _ _ ?_ ?_
    all_goals blk_simp [h3]
    all_goals exact row_at _ _
  show stream _ _ _ _ _ = _
  rw [e0, e1, e2, e3, e4]
  rfl

/-- The block of results of a step. -/
theorem block_apply (c : Dev nD) (t : Fin cfg0.N) (y : S512x1024.Idx) : (outsAt0 m c t.val t.isLt).1 y =
    token (wts m c) (strm m c) (512 * t.val + (y 0 : ℕ)) (y 1) := by
  by_cases h : t.val % 16 = 0
  · refine (out_first m c t h y).trans (Step.result_token _ _ _ _ _ (blocks_wts m c t) (blocks_strm m c t) (fun j f => ?_) _ (y 0).2 _)
    rw [if_pos h, rd2, dif_pos ⟨j.2, f.2⟩]
    exact pay3_apply _ _
  · refine (out_later m c t h y).trans (Step.result_token _ _ _ _ _ (blocks_wts m c t) (blocks_strm m c t) (fun j f => ?_) _ (y 0).2 _)
    rw [if_neg h, rd2, dif_pos ⟨j.2, f.2⟩]
    refine (carry_apply m c ⟨t.val - 1, Nat.lt_of_le_of_lt (Nat.sub_le _ _) t.isLt⟩ _).trans ?_
    rw [blocks_wts, blocks_strm m c _ _ (by show 504 + (j : ℕ) < 512; omega)]
    rfl

/-- The closed form at an index known by its coordinates. -/
theorem resultAt_of (c : Dev nD) (n d : ℕ) (i : S65536x1024.Idx) (h0 : (i 0 : ℕ) = n) (h1 : (i 1 : ℕ) = d) :
    resultAt m c i = token (wts m c) (strm m c) n d := by
  subst h0 h1
  rfl

/-- The launch's result is the closed form. -/
theorem result_apply (c : Dev nD) : (dats m 0 c).arrAt 10 cfg0.N = resultAt m c := by
  refine (dats m 0 c).arrAt_eq_of_covers 10 (resultAt m c) (by decide +kernel) fun t hf y => ?_
  have h := (idx_rows t).2.2.2
  rw [after0_10]
  refine (block_apply m c t y).trans (resultAt_of m c _ _ _ ?_ ?_).symm
  · blk_simp [h]
    exact row_at _ _
  · blk_simp [h]

end Cert.Kernel2Ideal.Ffn
-- ==== Proof.FfnHost.lean ====
module

public import proofs.«01_k».proof.Proof.FfnRows
public import Idealize.ShloMosaic.Lib.StableHlo.ReadAt

/-! What the host leaves for the launch: the arguments, their tokens counted through and their casts being equalities here. -/

@[expose] public section
set_option maxRecDepth 16384
noncomputable section
namespace Cert.Kernel2Ideal.Ffn
open Idealize.ShloMosaic Idealize.ShloMosaic.TcCoe Idealize.SL.Sem Cert.Kernel2Ideal Cert.Kernel2Ideal.Gen Cert.Read Cert.Ffn
open scoped BigOperators
variable (m : (ℓ : Loc nD τ sig) → Buf (Elt Ideal) ℓ)

set_option maxHeartbeats 4000000 in
/-- The scan's output. -/
theorem host_y (c : Dev nD) : rd2 (n0 := 65536) (n1 := 2048) (V m c main_v1) = tok (n2 := 2048) (m ((c.tc : Thread nD τ).loc main_arg0)) := by
  refine rd2_ext _ _ (fun i j => ?_) (fun a b h => by rw [tok, dif_neg h])
  rw [tok, dif_pos ⟨i.2, j.2⟩]
  unfold V
  after_reads_at

set_option maxHeartbeats 4000000 in
/-- Its gate. -/
theorem host_z (c : Dev nD) : rd2 (n0 := 65536) (n1 := 2048) (V m c main_v9) = tok (n2 := 2048) (m ((c.tc : Thread nD τ).loc main_arg1)) := by
  refine rd2_ext _ _ (fun i j => ?_) (fun a b h => by rw [tok, dif_neg h])
  rw [tok, dif_pos ⟨i.2, j.2⟩]
  unfold V
  after_reads_at

set_option maxHeartbeats 4000000 in
/-- The residual stream. -/
theorem host_x (c : Dev nD) : rd2 (n0 := 65536) (n1 := 1024) (V m c main_v2) = tok (n2 := 1024) (m ((c.tc : Thread nD τ).loc main_arg2)) := by
  refine rd2_ext _ _ (fun i j => ?_) (fun a b h => by rw [tok, dif_neg h])
  rw [tok, dif_pos ⟨i.2, j.2⟩]
  unfold V
  after_reads_at

set_option maxHeartbeats 4000000 in
/-- The group norm's scale. -/
theorem host_ssm (c : Dev nD) : rd2 (n0 := 1) (n1 := 2048) (V m c main_v10) 0 = rd1 (n0 := 2048) (m ((c.tc : Thread nD τ).loc main_arg3)) := by
  funext k
  by_cases h : k < 2048
  · rw [rd2, dif_pos ⟨by omega, h⟩, rd1, dif_pos h]
    unfold V
    after_reads_at
  · rw [rd2, dif_neg (fun e => h e.2), rd1, dif_neg h]

set_option maxHeartbeats 4000000 in
/-- The mixer's output projection. -/
theorem host_wo (c : Dev nD) : rd2 (n0 := 2048) (n1 := 1024) (V m c main_v3) = rd2 (n0 := 2048) (n1 := 1024) (m ((c.tc : Thread nD τ).loc main_arg4)) := by
  refine rd2_ext _ _ (fun i j => ?_) (fun a b h => by rw [rd2, dif_neg h])
  rw [← rd2_ix]
  unfold V
  after_reads_at

set_option maxHeartbeats 4000000 in
/-- The feed-forward norm's scale. -/
theorem host_gn (c : Dev nD) : rd2 (n0 := 1) (n1 := 1024) (V m c main_v4) 0 = rd1 (n0 := 1024) (m ((c.tc : Thread nD τ).loc main_arg5)) := by
  funext k
  by_cases h : k < 1024
  · rw [rd2, dif_pos ⟨by omega, h⟩, rd1, dif_pos h]
    unfold V
    after_reads_at
  · rw [rd2, dif_neg (fun e => h e.2), rd1, dif_neg h]

set_option maxHeartbeats 4000000 in
/-- The input projection. -/
theorem host_win (c : Dev nD) : rd2 (n0 := 1024) (n1 := 5632) (V m c main_v5) = rd2 (n0 := 1024) (n1 := 5632) (m ((c.tc : Thread nD τ).loc main_arg6)) := by
  refine rd2_ext _ _ (fun i j => ?_) (fun a b h => by rw [rd2, dif_neg h])
  rw [← rd2_ix]
  unfold V
  after_reads_at

set_option maxHeartbeats 4000000 in
/-- The taps. -/
theorem host_cw (c : Dev nD) : V m c main_arg7 = m ((c.tc : Thread nD τ).loc main_arg7) := by
  unfold V
  after_reads_at

set_option maxHeartbeats 4000000 in
/-- The convolution's bias. -/
theorem host_cb (c : Dev nD) : rd2 (n0 := 1) (n1 := 2816) (V m c main_v6) 0 = rd1 (n0 := 2816) (m ((c.tc : Thread nD τ).loc main_arg8)) := by
  funext k
  by_cases h : k < 2816
  · rw [rd2, dif_pos ⟨by omega, h⟩, rd1, dif_pos h]
    unfold V
    after_reads_at
  · rw [rd2, dif_neg (fun e => h e.2), rd1, dif_neg h]

set_option maxHeartbeats 4000000 in
/-- The output projection. -/
theorem host_wd (c : Dev nD) : rd2 (n0 := 2816) (n1 := 1024) (V m c main_v7) = rd2 (n0 := 2816) (n1 := 1024) (m ((c.tc : Thread nD τ).loc main_arg9)) := by
  refine rd2_ext _ _ (fun i j => ?_) (fun a b h => by rw [rd2, dif_neg h])
  rw [← rd2_ix]
  unfold V
  after_reads_at

/-- The feed-forward's weights among the arguments. -/
def argWts (c : Dev nD) : Wts :=
  ⟨rd1 (n0 := 1024) (m ((c.tc : Thread nD τ).loc main_arg5)), rd2 (n0 := 1024) (n1 := 5632) (m ((c.tc : Thread nD τ).loc main_arg6)),
    rd2 (n0 := 3) (n1 := 2816) (m ((c.tc : Thread nD τ).loc main_arg7)), rd1 (n0 := 2816) (m ((c.tc : Thread nD τ).loc main_arg8)),
    rd2 (n0 := 2816) (n1 := 1024) (m ((c.tc : Thread nD τ).loc main_arg9))⟩

/-- The residual stream after the mixer, from the arguments. -/
def argStrm (c : Dev nD) : ℕ → ℕ → EReal :=
  strmOf (rd1 (n0 := 2048) (m ((c.tc : Thread nD τ).loc main_arg3))) (rd2 (n0 := 2048) (n1 := 1024) (m ((c.tc : Thread nD τ).loc main_arg4)))
    (tok (n2 := 2048) (m ((c.tc : Thread nD τ).loc main_arg0))) (tok (n2 := 2048) (m ((c.tc : Thread nD τ).loc main_arg1)))
    (tok (n2 := 1024) (m ((c.tc : Thread nD τ).loc main_arg2)))

/-- The launch's weights are the arguments'. -/
theorem wts_eq (c : Dev nD) : wts m c = argWts m c := by
  rw [wts, host_gn, host_win, host_cw, host_cb, host_wd]
  rfl

/-- The kernel's result from the arguments: every token's closed form. -/
theorem result_args (c : Dev nD) : (dats m 0 c).arrAt 10 cfg0.N = fun i => token (argWts m c) (argStrm m c) (i 0) (i 1) := by
  refine (result_apply m c).trans (funext fun i => ?_)
  rw [resultAt, strm, host_ssm, host_wo, host_y, host_z, host_x, wts_eq]
  rfl

end Cert.Kernel2Ideal.Ffn
-- ==== Proof.FfnRef.lean ====
module

public import proofs.«01_k».proof.Proof.FfnTok
public import proofs.«01_k».proof.Proof.Gen.Reference2Ideal.Run
public import Idealize.ShloMosaic.Lib.Pointwise

/-! The reference's result, step by step, and each step at an entry. -/

@[expose] public section
set_option maxRecDepth 16384
noncomputable section
namespace Cert.Reference2Ideal.Ffn
open Idealize.ShloMosaic Idealize.ShloMosaic.TcCoe Idealize.SL.Sem Cert.Reference2Ideal Cert.Reference2Ideal.Gen Cert.Reference2Ideal.Value
open Cert.Read Cert.Ffn
open scoped BigOperators

/-- The scan's output times its gate, in groups of 512 lanes. -/
def gateR (y z : FVec Ideal S8x8192x2048 .f32) : FVec Ideal S8x8192x4x512 .f32 :=
  shapeCast _ (mulf y (mulf z (Host.divf (broadcastInDim S8x8192x2048 ![] bcast_S_S8x8192x2048 (constant S_ .f32 0x3F800000#32))
    (addf (broadcastInDim S8x8192x2048 ![] bcast_S_S8x8192x2048 (constant S_ .f32 0x3F800000#32)) (Host.exp (Host.negf z))))))
    shapeCasts_S8x8192x2048_S8x8192x4x512

/-- The norm of each group, with the scale. -/
def mixR (a : FVec Ideal S8x8192x4x512 .f32) (w : FVec Ideal S2048 .f32) : FVec Ideal S8x8192x2048 .f32 :=
  mulf (shapeCast _ (mulf a (broadcastInDim S8x8192x4x512 ![0, 1, 2, 3] bcast_S8x8192x4x1_S8x8192x4x512_0_1_2_3
      (Host.rsqrt (addf (Host.divf (broadcastInDim S8x8192x4x1 ![0, 1, 2] bcast_S8x8192x4_S8x8192x4x1_0_1_2
          (Host.reduceAdd (mulf a a) (constant S_ .f32 0x00000000#32) reducesTo_S8x8192x4x512_S8x8192x4_d3 h_S_))
        (broadcastInDim S8x8192x4x1 ![] bcast_S_S8x8192x4x1 (constant S_ .f32 0x44000000#32)))
        (broadcastInDim S8x8192x4x1 ![] bcast_S_S8x8192x4x1 (constant S_ .f32 0x358637BD#32)))))) shapeCasts_S8x8192x4x512_S8x8192x2048)
    (broadcastInDim S8x8192x2048 ![0, 1, 2] bcast_S1x1x2048_S8x8192x2048_0_1_2 (broadcastInDim S1x1x2048 ![2] bcast_S2048_S1x1x2048_2 w))

/-- The residual stream after the mixer. -/
def streamR (x : FVec Ideal S8x8192x1024 .f32) (a : FVec Ideal S8x8192x2048 .f32) (w : FVec Ideal S2048x1024 .f32) :
    FVec Ideal S8x8192x1024 .f32 :=
  addf x (Host.dotGeneral (φ₁ := .f32) (φ₂ := .f32) dot_S8x8192x2048_S2048x1024_S8x8192x1024_2_0_01_1_n_n none a w)

/-- The norm of the stream, with the scale. -/
def normR (s : FVec Ideal S8x8192x1024 .f32) (g : FVec Ideal S1024 .f32) : FVec Ideal S8x8192x1024 .f32 :=
  mulf (mulf s (broadcastInDim S8x8192x1024 ![0, 1, 2] bcast_S8x8192x1_S8x8192x1024_0_1_2
      (Host.rsqrt (addf (Host.divf (broadcastInDim S8x8192x1 ![0, 1] bcast_S8x8192_S8x8192x1_0_1
          (Host.reduceAdd (mulf s s) (constant S_ .f32 0x00000000#32) reducesTo_S8x8192x1024_S8x8192_d2 h_S_))
        (broadcastInDim S8x8192x1 ![] bcast_S_S8x8192x1 (constant S_ .f32 0x44800000#32)))
        (broadcastInDim S8x8192x1 ![] bcast_S_S8x8192x1 (constant S_ .f32 0x358637BD#32))))))
    (broadcastInDim S8x8192x1024 ![0, 1, 2] bcast_S1x1x1024_S8x8192x1024_0_1_2 (broadcastInDim S1x1x1024 ![2] bcast_S1024_S1x1x1024_2 g))

/-- The input projection. -/
def projR (a : FVec Ideal S8x8192x1024 .f32) (w : FVec Ideal S1024x5632 .f32) : FVec Ideal S8x8192x5632 .f32 :=
  Host.dotGeneral (φ₁ := .f32) (φ₂ := .f32) dot_S8x8192x1024_S1024x5632_S8x8192x5632_2_0_01_1_n_n none a w

/-- The gate's half with two rows of zeros before each sequence. -/
def padR (h : FVec Ideal S8x8192x5632 .f32) : FVec Ideal S8x8194x2816 .f32 :=
  pad S8x8194x2816 ![0, 2, 0] ![0, 0, 0] ![0, 0, 0] (extractStridedSlice S8x8192x2816 ![0, 0, 0] h slices_S8x8192x5632_S8x8192x2816_0_0_0)
    (sitofp .f32 (constantI S_ 32 0#32)) pads_S8x8192x2816_S8x8194x2816_000_200_000 h_S_

/-- A tap of the convolution at every entry. -/
def tapR (w : FVec Ideal S1x2816 .f32) : FVec Ideal S8x8192x2816 .f32 :=
  broadcastInDim S8x8192x2816 ![0, 1, 2] bcast_S1x1x2816_S8x8192x2816_0_1_2
    (broadcastInDim S1x1x2816 ![2] bcast_S2816_S1x1x2816_2 (shapeCast _ w shapeCasts_S1x2816_S2816))

/-- The convolution. -/
def convR (p : FVec Ideal S8x8194x2816 .f32) (w : FVec Ideal S3x2816 .f32) (b : FVec Ideal S2816 .f32) : FVec Ideal S8x8192x2816 .f32 :=
  addf (addf (addf (addf (broadcastInDim S8x8192x2816 ![] bcast_S_S8x8192x2816 (constant S_ .f32 0x00000000#32))
      (mulf (extractStridedSlice S8x8192x2816 ![0, 0, 0] p slices_S8x8194x2816_S8x8192x2816_0_0_0)
        (tapR (extractStridedSlice S1x2816 ![0, 0] w slices_S3x2816_S1x2816_0_0))))
      (mulf (extractStridedSlice S8x8192x2816 ![0, 1, 0] p slices_S8x8194x2816_S8x8192x2816_0_1_0)
        (tapR (extractStridedSlice S1x2816 ![1, 0] w slices_S3x2816_S1x2816_1_0))))
      (mulf (extractStridedSlice S8x8192x2816 ![0, 2, 0] p slices_S8x8194x2816_S8x8192x2816_0_2_0)
        (tapR (extractStridedSlice S1x2816 ![2, 0] w slices_S3x2816_S1x2816_2_0))))
    (broadcastInDim S8x8192x2816 ![0, 1, 2] bcast_S1x1x2816_S8x8192x2816_0_1_2 (broadcastInDim S1x1x2816 ![2] bcast_S2816_S1x1x2816_2 b))

/-- The gated lanes. -/
def actR (v : FVec Ideal S8x8192x2816 .f32) (h : FVec Ideal S8x8192x5632 .f32) : FVec Ideal S8x8192x2816 .f32 :=
  mulf (mulf v (Host.divf (broadcastInDim S8x8192x2816 ![] bcast_S_S8x8192x2816 (constant S_ .f32 0x3F800000#32))
      (addf (broadcastInDim S8x8192x2816 ![] bcast_S_S8x8192x2816 (constant S_ .f32 0x3F800000#32)) (Host.exp (Host.negf v)))))
    (extractStridedSlice S8x8192x2816 ![0, 0, 2816] h slices_S8x8192x5632_S8x8192x2816_0_0_2816)

/-- The result. -/
def outR (s : FVec Ideal S8x8192x1024 .f32) (a : FVec Ideal S8x8192x2816 .f32) (w : FVec Ideal S2816x1024 .f32) : FVec Ideal S65536x1024 .f32 :=
  shapeCast _ (addf s (Host.dotGeneral (φ₁ := .f32) (φ₂ := .f32) dot_S8x8192x2816_S2816x1024_S8x8192x1024_2_0_01_1_n_n none a w))
    shapeCasts_S8x8192x1024_S65536x1024

/-- The input projection of the reference, from the stream. -/
def hidR (s : FVec Ideal S8x8192x1024 .f32) (g : FVec Ideal S1024 .f32) (w : FVec Ideal S1024x5632 .f32) : FVec Ideal S8x8192x5632 .f32 :=
  projR (normR s g) w

/-- The feed-forward of a stream. -/
def ffnR (s : FVec Ideal S8x8192x1024 .f32) (g : FVec Ideal S1024 .f32) (w : FVec Ideal S1024x5632 .f32) (cw : FVec Ideal S3x2816 .f32)
    (cb : FVec Ideal S2816 .f32) (wd : FVec Ideal S2816x1024 .f32) : FVec Ideal S65536x1024 .f32 :=
  outR s (actR (convR (padR (hidR s g w)) cw cb) (hidR s g w)) wd

set_option maxHeartbeats 1000000 in
/-- The reference's result in these names. -/
theorem result_eq (m : (ℓ : Loc nD τ sig) → Buf (Elt Ideal) ℓ) (c : Dev nD) : res_main_v65 m c =
    ffnR (streamR (m ((c.tc : Thread nD τ).loc main_arg2)) (mixR (gateR (m ((c.tc : Thread nD τ).loc main_arg0))
      (m ((c.tc : Thread nD τ).loc main_arg1))) (m ((c.tc : Thread nD τ).loc main_arg3))) (m ((c.tc : Thread nD τ).loc main_arg4)))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) := by
  unfold res_main_v65 ffnR hidR outR actR convR tapR padR projR normR streamR mixR gateR
  rfl

/-- An entry of the gated scan's output. -/
theorem gateR_apply (y z : FVec Ideal S8x8192x2048 .f32) (b : Fin 8) (q : Fin 8192) (g : Fin 4) (j : Fin 512) :
    gateR y z (ix4 b q g j) = gate (tok y (8192 * b + q)) (tok z (8192 * b + q)) (512 * g + j) := by
  unfold gateR gate silu
  pointwise
  rw [tok_of y, tok_of z, show ((⟨(g : ℕ) * 512 + j, by omega⟩ : Fin 2048) : ℕ) = 512 * g + j from congrArg (· + (j : ℕ)) (Nat.mul_comm _ _)]

/-- An entry of the group norm. -/
theorem mixR_apply (a : FVec Ideal S8x8192x4x512 .f32) (w : FVec Ideal S2048 .f32) (b : Fin 8) (q : Fin 8192) (k : Fin 2048) (A : ℕ → EReal)
    (h : ∀ (g : Fin 4) (j : Fin 512), a (ix4 b q g j) = A (512 * g + j)) : mixR a w (ix3 b q k) = mix A (rd1 w) k := by
  unfold mixR mix
  pointwise
  rw [h, rd1_of w _ k rfl, show 512 * ((⟨(k : ℕ) / 512, by omega⟩ : Fin 4) : ℕ) + ((⟨(k : ℕ) % 512, by omega⟩ : Fin 512) : ℕ) = k from
    Nat.div_add_mod _ _]
  simp only [h]
  rfl

/-- An entry of the stream after the mixer. -/
theorem streamR_apply (x : FVec Ideal S8x8192x1024 .f32) (a : FVec Ideal S8x8192x2048 .f32) (w : FVec Ideal S2048x1024 .f32) (b : Fin 8)
    (q : Fin 8192) (d : Fin 1024) : streamR x a w (ix3 b q d) = x (ix3 b q d) + ∑ k : Fin 2048, a (ix3 b q k) * rd2 w k d := by
  unfold streamR
  pointwise
  exact congrArg (_ + ·) (Finset.sum_congr rfl fun k _ => congrArg (_ * ·) (rd2_of w _ _ _ rfl rfl))

/-- An entry of the feed-forward's norm. -/
theorem normR_apply (s : FVec Ideal S8x8192x1024 .f32) (g : FVec Ideal S1024 .f32) (b : Fin 8) (q : Fin 8192) (d : Fin 1024) (A : ℕ → EReal)
    (h : ∀ d : Fin 1024, s (ix3 b q d) = A d) : normR s g (ix3 b q d) = rowNorm A (rd1 g) d := by
  unfold normR rowNorm
  pointwise
  rw [rd1_of g _ d rfl]
  simp only [h]
  rfl

/-- An entry of the input projection. -/
theorem projR_apply (a : FVec Ideal S8x8192x1024 .f32) (w : FVec Ideal S1024x5632 .f32) (b : Fin 8) (q : Fin 8192) (f : Fin 5632) :
    projR a w (ix3 b q f) = ∑ d : Fin 1024, a (ix3 b q d) * rd2 w d f := by
  unfold projR
  pointwise
  exact Finset.sum_congr rfl fun k _ => congrArg (_ * ·) (rd2_of w _ _ _ rfl rfl)

/-- The integer zero as a number. -/
theorem sitofp_zero : FloatOps.sitofp (F := Ideal) FTy.f32 0#32 = 0 := by
  show (((0#32 : BitVec 32).toInt : ℝ) : EReal) = 0
  simp

/-- An entry of the padded half. -/
theorem padR_apply (h : FVec Ideal S8x8192x5632 .f32) (b : Fin 8) (q : Fin 8194) (f : Fin 2816) :
    padR h (ix3 b q f) = if c : (q : ℕ) < 2 then 0 else h (ix3 b ⟨q - 2, by omega⟩ ⟨f, by omega⟩) := by
  unfold padR
  pointwise
  by_cases c : (q : ℕ) < 2
  · rw [dif_pos c, dif_neg (by omega)]
    exact sitofp_zero
  · rw [dif_neg c, dif_pos (by omega)]

/-- An entry of the convolution. -/
theorem convR_apply (p : FVec Ideal S8x8194x2816 .f32) (w : FVec Ideal S3x2816 .f32) (c : FVec Ideal S2816 .f32) (b : Fin 8) (q : Fin 8192)
    (f : Fin 2816) (P : ℕ → EReal) (h : ∀ n : Fin 8194, p (ix3 b n f) = P n) :
    convR p w c (ix3 b q f) = rd2 w 0 f * P q + rd2 w 1 f * P (q + 1) + rd2 w 2 f * P (q + 2) + rd1 c f := by
  unfold convR tapR
  pointwise
  rw [h, h, h, rd1_of c _ f rfl, rd2_of w (ix2 0 f) 0 f rfl rfl, rd2_of w (ix2 1 f) 1 f rfl rfl, rd2_of w (ix2 2 f) 2 f rfl rfl]
  simp only [mul_comm (P _), Nat.add_comm]

/-- A gated lane. -/
theorem actR_apply (v : FVec Ideal S8x8192x2816 .f32) (h : FVec Ideal S8x8192x5632 .f32) (b : Fin 8) (q : Fin 8192) (f : Fin 2816) :
    actR v h (ix3 b q f) = silu (v (ix3 b q f)) * h (ix3 b q ⟨2816 + f, by omega⟩) := by
  unfold actR silu
  pointwise

/-- An entry of the result. -/
theorem outR_apply (s : FVec Ideal S8x8192x1024 .f32) (a : FVec Ideal S8x8192x2816 .f32) (w : FVec Ideal S2816x1024 .f32) (n : Fin 65536)
    (d : Fin 1024) : outR s a w (ix2 n d) = s (ix3 ⟨n / 8192, by omega⟩ ⟨n % 8192, by omega⟩ d)
      + ∑ f : Fin 2816, a (ix3 ⟨n / 8192, by omega⟩ ⟨n % 8192, by omega⟩ f) * rd2 w f d := by
  unfold outR
  pointwise
  exact congrArg (_ + ·) (Finset.sum_congr rfl fun k _ => congrArg (_ * ·) (rd2_of w _ _ _ rfl rfl))

set_option maxHeartbeats 2000000 in
/-- The feed-forward of a stream at a token. -/
theorem ffnR_apply (P : Wts) (S : ℕ → ℕ → EReal) (s : FVec Ideal S8x8192x1024 .f32) (g : FVec Ideal S1024 .f32) (w : FVec Ideal S1024x5632 .f32)
    (cw : FVec Ideal S3x2816 .f32) (cb : FVec Ideal S2816 .f32) (wd : FVec Ideal S2816x1024 .f32)
    (hs : ∀ (b : Fin 8) (q : Fin 8192) (d : Fin 1024), s (ix3 b q d) = S (8192 * b + q) d)
    (hg : P.gn = rd1 g) (hw : P.win = rd2 w) (hcw : P.cw = rd2 cw) (hcb : P.cb = rd1 cb) (hwd : P.wd = rd2 wd) (n : Fin 65536) (d : Fin 1024) :
    ffnR s g w cw cb wd (ix2 n d) = token P S n d := by
  have hid : ∀ (b : Fin 8) (q : Fin 8192) (f : Fin 5632), hidR s g w (ix3 b q f) = proj P (S (8192 * b + q)) f := fun b q f => by
    rw [hidR, projR_apply, proj, hg, hw]
    exact Finset.sum_congr rfl fun d _ => congrArg (· * _) (normR_apply s g b q d _ fun d => hs b q d)
  have pad : ∀ (b : Fin 8) (q : Fin 8194) (f : Fin 2816),
      padR (hidR s g w) (ix3 b q f) = if (q : ℕ) < 2 then 0 else proj P (S (8192 * b + ((q : ℕ) - 2))) f := fun b q f => by
    rw [padR_apply]
    by_cases c : (q : ℕ) < 2
    · rw [dif_pos c, if_pos c]
    · rw [dif_neg c, if_neg c]
      exact hid b _ _
  have en : 8192 * ((n : ℕ) / 8192) + (n : ℕ) % 8192 = n := Nat.div_add_mod _ _
  rw [ffnR, outR_apply, hs, token, result, hwd, en]
  refine congrArg (_ + ·) (Finset.sum_congr rfl fun f _ => congrArg (· * _) ?_)
  rw [actR_apply, hid, en]
  refine congrArg (fun x => silu x * _) ?_
  rw [convR_apply _ _ _ _ _ _ (fun k => if k < 2 then 0 else proj P (S (8192 * ((n : ℕ) / 8192) + (k - 2))) f) fun k => pad _ k f, conv, hcw, hcb, backOf, backOf]
  refine congrArg (· + _) (congrArg₂ (· + ·) (congrArg₂ (· + ·) (congrArg (_ * ·) ?_) (congrArg (_ * ·) ?_)) (congrArg (_ * ·) ?_))
  · by_cases c : (n : ℕ) % 8192 < 2
    · rw [if_pos c, if_pos c]
    · rw [if_neg c, if_neg c]
      exact congrArg (fun x => proj P (S x) f) (by show 8192 * ((n : ℕ) / 8192) + ((n : ℕ) % 8192 - 2) = n - 2; omega)
  · by_cases c : (n : ℕ) % 8192 < 1
    · rw [if_pos c, if_pos (by show (n : ℕ) % 8192 + 1 < 2; omega)]
    · rw [if_neg c, if_neg (by show ¬ (n : ℕ) % 8192 + 1 < 2; omega)]
      exact congrArg (fun x => proj P (S x) f) (by show 8192 * ((n : ℕ) / 8192) + ((n : ℕ) % 8192 + 1 - 2) = n - 1; omega)
  · rw [if_neg (by show ¬ (n : ℕ) % 8192 + 2 < 2; omega)]
    exact congrArg (fun x => proj P (S x) f) (by show 8192 * ((n : ℕ) / 8192) + ((n : ℕ) % 8192 + 2 - 2) = n; omega)

/-- The feed-forward's weights among the arguments. -/
def argWts (m : (ℓ : Loc nD τ sig) → Buf (Elt Ideal) ℓ) (c : Dev nD) : Wts :=
  ⟨rd1 (n0 := 1024) (m ((c.tc : Thread nD τ).loc main_arg5)), rd2 (n0 := 1024) (n1 := 5632) (m ((c.tc : Thread nD τ).loc main_arg6)),
    rd2 (n0 := 3) (n1 := 2816) (m ((c.tc : Thread nD τ).loc main_arg7)), rd1 (n0 := 2816) (m ((c.tc : Thread nD τ).loc main_arg8)),
    rd2 (n0 := 2816) (n1 := 1024) (m ((c.tc : Thread nD τ).loc main_arg9))⟩

/-- The residual stream after the mixer, from the arguments. -/
def argStrm (m : (ℓ : Loc nD τ sig) → Buf (Elt Ideal) ℓ) (c : Dev nD) : ℕ → ℕ → EReal :=
  strmOf (rd1 (n0 := 2048) (m ((c.tc : Thread nD τ).loc main_arg3))) (rd2 (n0 := 2048) (n1 := 1024) (m ((c.tc : Thread nD τ).loc main_arg4)))
    (tok (n2 := 2048) (m ((c.tc : Thread nD τ).loc main_arg0))) (tok (n2 := 2048) (m ((c.tc : Thread nD τ).loc main_arg1)))
    (tok (n2 := 1024) (m ((c.tc : Thread nD τ).loc main_arg2)))

/-- The reference's result from the arguments: every token's closed form. -/
theorem result_args (m : (ℓ : Loc nD τ sig) → Buf (Elt Ideal) ℓ) (c : Dev nD) :
    res_main_v65 m c = fun i => token (argWts m c) (argStrm m c) (i 0) (i 1) := by
  refine (result_eq m c).trans (funext fun i => ?_)
  rw [show i = ix2 (i 0) (i 1) from eq_ix2 i]
  refine ffnR_apply (argWts m c) (argStrm m c) _ _ _ _ _ _ (fun b q d => ?_) rfl rfl rfl rfl rfl (i 0) (i 1)
  rw [streamR_apply, tok_of (n2 := 1024) (m ((c.tc : Thread nD τ).loc main_arg2)), argStrm, strmOf, stream]
  exact congrArg (_ + ·) (Finset.sum_congr rfl fun k _ => congrArg (· * _) (mixR_apply _ _ b q k _ fun g j => gateR_apply _ _ b q g j))

end Cert.Reference2Ideal.Ffn
-- ==== Proof.HeadBlock.lean ====
module

public import proofs.«01_k».proof.Proof.FfnStep
public import proofs.«01_k».proof.Proof.Gen.Kernel3Ideal.Value
public import Idealize.ShloMosaic.Lib.Pointwise
public import Idealize.ShloMosaic.Lib.Pipeline.ValueKit

/-! The ungated mixer's step: the residual stream after the attentions' output projection from the blocks that the step reads, the values
    that the step names as the vector operations of the gated kernel's step, and the last eight rows of the gate's half. -/

@[expose] public section
set_option maxRecDepth 16384
noncomputable section
namespace Cert.Kernel3Ideal.Ffn
open Idealize.ShloMosaic Idealize.ShloMosaic.TcCoe Idealize.SL.Sem Cert.Kernel3Ideal Cert.Kernel3Ideal.Gen Cert.Read Cert.Ffn Cert.Kernel2Ideal.Ffn
open scoped BigOperators

/-- The residual stream after the attentions. -/
def headV (h : Vec Ideal S256x1024 .bf16) (x : Vec Ideal S256x1024 .f32) (wo : Vec Ideal S1024x1024 .bf16) : FVec Ideal S256x1024 .f32 :=
  addf (shapeCast S256x1024 x shapeCasts_S256x1024_S256x1024)
    (matmul dot_S256x1024_S1024x1024_S256x1024_1_0_0_1_n_n (φ₁ := .bf16) (φ₂ := .bf16) none (shapeCast S256x1024 h shapeCasts_S256x1024_S256x1024)
      (shapeCast S1024x1024 wo shapeCasts_S1024x1024_S1024x1024) (constant S256x1024 .f32 0x00000000#32))

/-- A lane of it. -/
theorem headV_apply (h : Vec Ideal S256x1024 .bf16) (x : Vec Ideal S256x1024 .f32) (wo : Vec Ideal S1024x1024 .bf16) (r : Fin 256) (d : Fin 1024) :
    headV h x wo (ix2 r d) = x (ix2 r d) + ∑ k : Fin 1024, h (ix2 r k) * wo (ix2 k d) := by
  pointwise [headV]

section
variable (h : Vec Ideal S256x1024 .bf16) (x : Vec Ideal S256x1024 .f32) (wo : Vec Ideal S1024x1024 .bf16) (gn : Vec Ideal S1x1024 .f32)
  (w : Vec Ideal S1024x2816 .bf16) (p : FVec Ideal S8x2816 .f32) (s : FVec Ideal S256x1024 .f32) (g u : FVec Ideal S256x2816 .f32)
  (c0 c1 c2 b : Vec Ideal S1x2816 .f32) (wd : Vec Ideal S2816x1024 .bf16)

/-- The first half's residual stream. -/
theorem pay4_eq : k0_pay4 h x wo = headV h x wo := rfl

/-- The first half's projection, the gate's half. -/
theorem pay6_eq : k0_pay6 h x wo gn w = projV (normV (headV h x wo) gn) w := rfl

/-- The first half's projection, the other half. -/
theorem pay7_eq : k0_pay7 h x wo gn w = projV (normV (headV h x wo) gn) w := rfl

/-- The last eight rows of the first half, for the second. -/
theorem pay9_eq : k0_pay9 g = tailV g := rfl

/-- The first half's results. -/
theorem pay11_eq : k0_pay11 s u (k0_pay8 p g c0 c1 c2 b) (k0_pay10 p g c0 c1 c2 b) wd
    = outV s (actV (shiftV 2#32 p g) (shiftV 1#32 p g) g u c0 c1 c2 b) wd := rfl

/-- The second half's residual stream. -/
theorem pay12_eq : k0_pay12 h x wo = headV h x wo := rfl

/-- The second half's projection, the gate's half. -/
theorem pay14_eq : k0_pay14 h x wo gn w = projV (normV (headV h x wo) gn) w := rfl

/-- The second half's projection, the other half. -/
theorem pay16_eq : k0_pay16 (k0_pay13 h x wo gn) (k0_pay15 w) (constant S256x2816 .f32 0x00000000#32) = projV (normV (headV h x wo) gn) w := rfl

/-- The second half's results. -/
theorem pay1_eq : k0_pay1 s u (k0_pay17 p g c0 c1 c2 b) (k0_pay19 p g c0 c1 c2 b) wd
    = outV s (actV (shiftV 2#32 p g) (shiftV 1#32 p g) g u c0 c1 c2 b) wd := rfl

/-- The last eight rows of the second half, as they are stored. -/
theorem pay2_apply (k : Fin 8) (f : Fin 2816) : k0_pay2 (k0_pay18 g) (ix2 k f) = rd2 g (248 + k) f := by
  pointwise [k0_pay2, k0_pay18]
  exact rd2_of g _ _ _ rfl rfl

/-- A sequence begins with zeros. -/
theorem pay3_apply (k : Fin 8) (f : Fin 2816) : (k0_pay3 : FVec Ideal S8x2816 .f32) (ix2 k f) = 0 := by
  pointwise [k0_pay3]
end

/-- The residual stream after the attentions in the half that begins at row `o`. -/
def headsV (h : Vec Ideal S512x1024 .bf16) (x : Vec Ideal S512x1024 .f32) (wo : Vec Ideal S1024x1024 .bf16) (o : ℕ) (ho : o ≤ 256) :
    FVec Ideal S256x1024 .f32 :=
  headV (View.ld h (Rect.unit (s := S512x1024) ![o, 0] ![256, 1024] (inb2 _ _ _ _ (by omega) (by omega))))
    (View.ld x (Rect.unit (s := S512x1024) ![o, 0] ![256, 1024] (inb2 _ _ _ _ (by omega) (by omega)))) wo

/-- An entry of it. -/
theorem headsV_apply (h : Vec Ideal S512x1024 .bf16) (x : Vec Ideal S512x1024 .f32) (wo : Vec Ideal S1024x1024 .bf16) (o : ℕ) (ho : o ≤ 256)
    (r : Fin 256) (d : Fin 1024) : headsV h x wo o ho (ix2 r d) = headStream (rd2 wo) (rd2 h (o + r)) (rd2 x (o + r)) d := by
  rw [headsV, headV_apply, ldf]
  refine congrArg₂ (· + ·) (by rw [Nat.zero_add]) (Finset.sum_congr rfl fun k _ => congrArg₂ (· * ·) ?_ (rd2_ix wo k d))
  exact (ldw h _ _ _ _ _).trans (by rw [Nat.zero_add])

variable (m : (ℓ : Loc nD τ sig) → Buf (Elt Ideal) ℓ)

/-- What step `t` reads. -/
def blocks (c : Dev nD) (t : Fin cfg0.N) : Step where
  s := headsV (iblk m c 0 t) (iblk m c 1 t) (iblk m c 2 t)
  strm := fun r => headStream (rd2 (n0 := 1024) (n1 := 1024) (iblk m c 2 t)) (rd2 (n0 := 512) (n1 := 1024) (iblk m c 0 t) r)
    (rd2 (n0 := 512) (n1 := 1024) (iblk m c 1 t) r)
  s_apply := headsV_apply _ _ _
  gn := iblk m c 3 t
  win := iblk m c 4 t
  cw := iblk m c 5 t
  cb := iblk m c 6 t
  wd := iblk m c 7 t

set_option maxHeartbeats 1000000 in
/-- What a step leaves for the next one. -/
theorem carry_apply (c : Dev nD) (t : Fin cfg0.N) (y : S8x2816.Idx) :
    (outsAt0 m c t.val t.isLt).2 y = proj (blocks m c t).wts ((blocks m c t).strm (504 + y 0)) (y 1) := by
  have key : k0_pay2 (k0_pay18 ((blocks m c t).gV 256 (by omega))) y = proj (blocks m c t).wts ((blocks m c t).strm (504 + y 0)) (y 1) := by
    idx_vars y
    rw [pay2_apply]
    refine (rd2_ix _ ⟨248 + (y0 : ℕ), by omega⟩ y1).symm.trans (((blocks m c t).gV_apply 256 _ _ y1).trans ?_)
    exact congrArg (fun x => proj (blocks m c t).wts ((blocks m c t).strm x) y1) (by show 256 + (248 + (y0 : ℕ)) = 504 + y0; omega)
  by_cases h0 : t.val % 16 = 0
  · rw [outsAt0_A m c t h0]
    dsimp only
    frame_out
    rw [pay14_eq]
    exact key
  · rw [outsAt0_B m c t h0]
    dsimp only
    frame_out
    rw [pay14_eq]
    exact key

end Cert.Kernel3Ideal.Ffn
-- ==== Proof.HeadOut.lean ====
module

public import proofs.«01_k».proof.Proof.HeadBlock

/-! The block of results that a step writes: that of the step's own rows, with the eight rows before at a sequence's beginning zero
    and elsewhere those that the step before left. -/

@[expose] public section
set_option maxRecDepth 16384
noncomputable section
namespace Cert.Kernel3Ideal.Ffn
open Idealize.ShloMosaic Idealize.ShloMosaic.TcCoe Idealize.SL.Sem Cert.Kernel3Ideal Cert.Kernel3Ideal.Gen Cert.Read Cert.Ffn Cert.Kernel2Ideal.Ffn
open scoped BigOperators
variable (m : (ℓ : Loc nD τ sig) → Buf (Elt Ideal) ℓ)

set_option maxHeartbeats 1000000 in
/-- The block of results of a step where a sequence begins. -/
theorem out_first (c : Dev nD) (t : Fin cfg0.N) (h : t.val % 16 = 0) (y : S512x1024.Idx) :
    (outsAt0 m c t.val t.isLt).1 y = result (blocks m c t).wts ((blocks m c t).strm (y 0))
      ((blocks m c t).back (rd2 (n0 := 8) (n1 := 2816) (k0_pay3 (F := Ideal))) 2 (y 0)) ((blocks m c t).back (rd2 (n0 := 8) (n1 := 2816) (k0_pay3 (F := Ideal))) 1 (y 0)) (y 1) := by
  rw [outsAt0_A m c t h]
  dsimp only
  frame_out
  canon_tiles z h using View.cover_of_tiledBy _ ![256, 1024] (by sl_kernel_rfl) y
  case piece0 =>
    rw [pay1_eq, pay16_eq, pay14_eq, pay12_eq, pay9_eq, pay6_eq]
    refine Eq.trans ?_ ((blocks m c t).second (rd2 (n0 := 8) (n1 := 2816) (k0_pay3 (F := Ideal))) y z (by omega) (by omega))
    dsimp only [Step.oV, Step.gV, Step.uV, blocks, headsV]
  case piece1 =>
    rw [pay11_eq, pay6_eq, pay7_eq, pay4_eq]
    refine Eq.trans ?_ ((blocks m c t).first (k0_pay3 (F := Ideal)) y z (by omega) (by omega))
    dsimp only [Step.oV, Step.gV, Step.uV, blocks, headsV]

set_option maxHeartbeats 1000000 in
/-- The block of results of a later step: the eight rows before are those that the step before left. -/
theorem out_later (c : Dev nD) (t : Fin cfg0.N) (h : ¬ t.val % 16 = 0) (y : S512x1024.Idx) :
    (outsAt0 m c t.val t.isLt).1 y = result (blocks m c t).wts ((blocks m c t).strm (y 0))
      ((blocks m c t).back (rd2 (outsAt0 m c (t.val - 1) (Nat.lt_of_le_of_lt (Nat.sub_le _ _) t.isLt)).2) 2 (y 0))
      ((blocks m c t).back (rd2 (outsAt0 m c (t.val - 1) (Nat.lt_of_le_of_lt (Nat.sub_le _ _) t.isLt)).2) 1 (y 0)) (y 1) := by
  rw [outsAt0_B m c t h]
  dsimp only
  generalize (outsAt0 m c (t.val - 1) (Nat.lt_of_le_of_lt (Nat.sub_le _ _) t.isLt)).2 = p
  frame_out
  canon_tiles z h using View.cover_of_tiledBy _ ![256, 1024] (by sl_kernel_rfl) y
  case piece0 =>
    rw [pay1_eq, pay16_eq, pay14_eq, pay12_eq, pay9_eq, pay6_eq]
    refine Eq.trans ?_ ((blocks m c t).second (rd2 p) y z (by omega) (by omega))
    dsimp only [Step.oV, Step.gV, Step.uV, blocks, headsV]
  case piece1 =>
    rw [pay11_eq, pay6_eq, pay7_eq, pay4_eq]
    have e : View.read (Elt Ideal) (View.whole cc0_scratch0) ((Memref.isWhole_whole cc0_scratch0).unread p) = p := Memref.IsWhole.read_unread _ p
    rw [e]
    refine Eq.trans ?_ ((blocks m c t).first p y z (by omega) (by omega))
    dsimp only [Step.oV, Step.gV, Step.uV, blocks, headsV]

end Cert.Kernel3Ideal.Ffn
-- ==== Proof.HeadRows.lean ====
module

public import proofs.«01_k».proof.Proof.HeadOut

/-! Where the blocks of a step lie in the arrays, and so the launch's whole result: the closed form of each token. -/

@[expose] public section
set_option maxRecDepth 16384
noncomputable section
namespace Cert.Kernel3Ideal.Ffn
open Idealize.ShloMosaic Idealize.ShloMosaic.TcCoe Idealize.SL.Sem Cert.Kernel3Ideal Cert.Kernel3Ideal.Gen Cert.Read Cert.Ffn Cert.Kernel2Ideal.Ffn
open scoped BigOperators
variable (m : (ℓ : Loc nD τ sig) → Buf (Elt Ideal) ℓ)

/-- The index maps of the windows that step through the rows. -/
theorem idx_rows : ∀ t : Fin cfg0.N, win0_0.index t = ![t.val, 0] ∧ win0_1.index t = ![t.val, 0] ∧ win0_8.index t = ![t.val, 0] :=
  (by decide +kernel : ∀ t : Fin grid0.N, _)

/-- The index maps of the windows on the weights. -/
theorem idx_wts : ∀ t : Fin cfg0.N, (win0_2.index t = ![0, 0] ∧ win0_3.index t = ![0, 0] ∧ win0_4.index t = ![0, 0]) ∧ win0_5.index t = ![0, 0]
    ∧ win0_6.index t = ![0, 0] ∧ win0_7.index t = ![0, 0] :=
  (by decide +kernel : ∀ t : Fin grid0.N, _)

/-- The feed-forward's weights of the launch. -/
def wts (c : Dev nD) : Wts :=
  ⟨rd2 (n0 := 1) (n1 := 1024) (V m c main_v18) 0, rd2 (n0 := 1024) (n1 := 5632) (V m c main_v19), rd2 (n0 := 3) (n1 := 2816) (V m c main_arg5),
    rd2 (n0 := 1) (n1 := 2816) (V m c main_v20) 0, rd2 (n0 := 2816) (n1 := 1024) (V m c main_v21)⟩

/-- The residual stream after the attentions at a row of the launch. -/
def strm (c : Dev nD) : ℕ → ℕ → EReal :=
  headStrm (rd2 (n0 := 1024) (n1 := 1024) (V m c main_v8)) (rd2 (n0 := 65536) (n1 := 1024) (V m c main_v16))
    (rd2 (n0 := 65536) (n1 := 1024) (V m c main_v17))

/-- The launch's result in closed form. -/
def resultAt (c : Dev nD) (i : S65536x1024.Idx) : EReal := token (wts m c) (strm m c) (i 0) (i 1)

set_option maxHeartbeats 2000000 in
/-- The blocks of weights are the weights. -/
theorem blocks_wts (c : Dev nD) (t : Fin cfg0.N) : (blocks m c t).wts = wts m c := by
  obtain ⟨⟨-, h3, h4⟩, h5, h6, h7⟩ := idx_wts t
  have e3 : (blocks m c t).gn = V m c main_v18 := funext fun j => congrArg (V m c main_v18) (by blk_ext [iblk, h3])
  have e4 : (blocks m c t).win = V m c main_v19 := funext fun j => congrArg (V m c main_v19) (by blk_ext [iblk, h4])
  have e5 : (blocks m c t).cw = V m c main_arg5 := funext fun j => congrArg (V m c main_arg5) (by blk_ext [iblk, h5])
  have e6 : (blocks m c t).cb = V m c main_v20 := funext fun j => congrArg (V m c main_v20) (by blk_ext [iblk, h6])
  have e7 : (blocks m c t).wd = V m c main_v21 := funext fun j => congrArg (V m c main_v21) (by blk_ext [iblk, h7])
  rw [Step.wts, e3, e4, e5, e6, e7]
  rfl

set_option maxHeartbeats 2000000 in
/-- A row of a step's blocks is a row of the launch. -/
theorem blocks_strm (c : Dev nD) (t : Fin cfg0.N) (r : ℕ) (hr : r < 512) : (blocks m c t).strm r = strm m c (512 * t.val + r) := by
  obtain ⟨h0, h1, -⟩ := idx_rows t
  obtain ⟨⟨h2, -⟩, -⟩ := idx_wts t
  have ht : t.val < 128 := t.isLt
  have e2 : iblk m c 2 t = V m c main_v8 := funext fun j => congrArg (V m c main_v8) (by blk_ext [iblk, h2])
  have e0 : rd2 (n0 := 512) (n1 := 1024) (iblk m c 0 t) r = rd2 (n0 := 65536) (n1 := 1024) (V m c main_v16) (512 * t.val + r) := by
    refine row_eq _ _ _ _ hr (by omega) fun j => ?_
    refine rd2_of (n0 := 65536) (n1 := 1024) (V m c main_v16) _ _ _ ?_ ?_
    all_goals blk_simp [h0]
    all_goals exact row_at _ _
  have e1 : rd2 (n0 := 512) (n1 := 1024) (iblk m c 1 t) r = rd2 (n0 := 65536) (n1 := 1024) (V m c main_v17) (512 * t.val + r) := by
    refine row_eq _ _ _ _ hr (by omega) fun j => ?_
    refine rd2_of (n0 := 65536) (n1 := 1024) (V m c main_v17) _ _ _ ?_ ?_
    all_goals blk_simp [h1]
    all_goals exact row_at _ _
  show headStream _ _ _ = _
  rw [e0, e1, e2]
  rfl

/-- The block of results of a step. -/
theorem block_apply (c : Dev nD) (t : Fin cfg0.N) (y : S512x1024.Idx) : (outsAt0 m c t.val t.isLt).1 y =
    token (wts m c) (strm m c) (512 * t.val + (y 0 : ℕ)) (y 1) := by
  by_cases h : t.val % 16 = 0
  · refine (out_first m c t h y).trans (Step.result_token _ _ _ _ _ (blocks_wts m c t) (blocks_strm m c t) (fun j f => ?_) _ (y 0).2 _)
    rw [if_pos h, rd2, dif_pos ⟨j.2, f.2⟩]
    exact pay3_apply _ _
  · refine (out_later m c t h y).trans (Step.result_token _ _ _ _ _ (blocks_wts m c t) (blocks_strm m c t) (fun j f => ?_) _ (y 0).2 _)
    rw [if_neg h, rd2, dif_pos ⟨j.2, f.2⟩]
    refine (carry_apply m c ⟨t.val - 1, Nat.lt_of_le_of_lt (Nat.sub_le _ _) t.isLt⟩ _).trans ?_
    rw [blocks_wts, blocks_strm m c _ _ (by show 504 + (j : ℕ) < 512; omega)]
    rfl

/-- The closed form at an index known by its coordinates. -/
theorem resultAt_of (c : Dev nD) (n d : ℕ) (i : S65536x1024.Idx) (h0 : (i 0 : ℕ) = n) (h1 : (i 1 : ℕ) = d) :
    resultAt m c i = token (wts m c) (strm m c) n d := by
  subst h0 h1
  rfl

/-- The launch's result is the closed form. -/
theorem result_apply (c : Dev nD) : (dats m 0 c).arrAt 8 cfg0.N = resultAt m c := by
  refine (dats m 0 c).arrAt_eq_of_covers 8 (resultAt m c) (by decide +kernel) fun t hf y => ?_
  have h := (idx_rows t).2.2
  rw [after0_8]
  refine (block_apply m c t y).trans (resultAt_of m c _ _ _ ?_ ?_).symm
  · blk_simp [h]
    exact row_at _ _
  · blk_simp [h]

end Cert.Kernel3Ideal.Ffn
-- ==== Proof.HeadOrder.lean ====
module

public import proofs.«01_k».proof.Proof.HeadRows
public import Idealize.ShloMosaic.Lib.StableHlo.ReadAt
public import Idealize.ShloMosaic.Lib.Routing.Ops

/-! The order of lanes in which the host lays out the heads and the rows of their output projection: the heads of the second attention
    in pairs, one of each key-value group. A product over all lanes does not depend on it. -/

@[expose] public section
set_option maxRecDepth 16384
noncomputable section
namespace Cert.Kernel3Ideal.Ffn
open Idealize.ShloMosaic Idealize.ShloMosaic.TcCoe Idealize.SL.Sem Cert.Kernel3Ideal Cert.Kernel3Ideal.Gen Cert.Read Cert.Ffn Cert.Kernel2Ideal.Ffn
open scoped BigOperators
variable (m : (ℓ : Loc nD τ sig) → Buf (Elt Ideal) ℓ)

/-- The lane of the second attention that stands at place `k`. -/
def pair (k : ℕ) : ℕ := 256 * (k / 64 % 2) + 64 * (k / 128) + k % 64

/-- The lane that stands at place `k`. -/
def order (k : ℕ) : ℕ := if k < 512 then k else 512 + pair (k - 512)

/-- The place of lane `k`. -/
def place (k : ℕ) : ℕ := if k < 512 then k else 512 + (128 * ((k - 512) / 64 % 4) + 64 * ((k - 512) / 256) + k % 64)

/-- A lane of the second attention is below 512. -/
theorem pair_lt (k : ℕ) (h : k < 512) : pair k < 512 := by unfold pair; omega

/-- The place of the lane at a place. -/
theorem place_order : ∀ k : Fin 1024, place (order k) = k := by decide +kernel

/-- The lane at the place of a lane. -/
theorem order_place : ∀ k : Fin 1024, order (place k) = k := by decide +kernel

/-- The order is a permutation of the lanes. -/
def orderEquiv : Fin 1024 ≃ Fin 1024 where
  toFun k := ⟨order k, by unfold order pair; split <;> omega⟩
  invFun k := ⟨place k, by unfold place; split <;> omega⟩
  left_inv k := Fin.ext (place_order k)
  right_inv k := Fin.ext (order_place k)

/-- A product over the lanes in that order is the product over the lanes. -/
theorem sum_order (a b : ℕ → EReal) : ∑ k : Fin 1024, a (order k) * b (order k) = ∑ k : Fin 1024, a k * b k :=
  Equiv.sum_comp orderEquiv fun k : Fin 1024 => a k * b k

/-- The table of the order, as the program states it. -/
theorem table (k : Fin 512) : lit0 (S512.rowMajor (ix1 k)) = BitVec.ofNat 32 (pair k) := by
  revert k
  decide +kernel

end Cert.Kernel3Ideal.Ffn
-- ==== Proof.HeadHost.lean ====
module

public import proofs.«01_k».proof.Proof.HeadOrder

/-! What the host leaves for the launch: the arguments, their tokens counted through, with the heads and the rows of their output projection
    in the same order. -/

@[expose] public section
set_option maxRecDepth 16384
noncomputable section
namespace Cert.Kernel3Ideal.Ffn
open Idealize.ShloMosaic Idealize.ShloMosaic.TcCoe Idealize.SL.Sem Cert.Kernel3Ideal Cert.Kernel3Ideal.Gen Cert.Read Cert.Ffn Cert.Kernel2Ideal.Ffn
open scoped BigOperators
variable (m : (ℓ : Loc nD τ sig) → Buf (Elt Ideal) ℓ)

/-- Row `k` of the gathered rows is the row that the table names. -/
theorem gather_pair (x : Vec Ideal S512x1024 .f32) (k : Fin 512) (d : Fin 1024) :
    Host.gather gather_S512x1024_S512x1_S512x1024_1_0_n_n_0_1_11024 x (broadcastInDim S512x1 ![0] bcast_S512_S512x1_0
      (select (constantI S512 1 0#1) (addi (fun i => lit0 (S512.rowMajor i)) (broadcastInDim S512 ![] bcast_S_S512 (constantI S_ 32 512#32)))
        fun i => lit0 (S512.rowMajor i))) (ix2 k d) = x (ix2 ⟨pair k, pair_lt k k.2⟩ d) := by
  refine Routing.gather_row _ rfl rfl rfl rfl rfl x _ k d ⟨pair k, pair_lt k k.2⟩ ?_ (by decide)
  pointwise
  exact table k

set_option maxHeartbeats 4000000 in
/-- The attentions' output projection, its rows in the order of the lanes. -/
theorem host_wo (c : Dev nD) (k d : Fin 1024) :
    rd2 (n0 := 1024) (n1 := 1024) (V m c main_v8) k d = rd2 (n0 := 1024) (n1 := 1024) (m ((c.tc : Thread nD τ).loc main_arg2)) (order k) d := by
  rw [← rd2_ix (n0 := 1024) (n1 := 1024) (V m c main_v8), order]
  unfold V
  after_reads_at
  split
  · after_reads_at
    exact rd2_of (n0 := 1024) (n1 := 1024) _ _ _ _ rfl rfl
  · after_reads_at
    refine (gather_pair _ ⟨(k : ℕ) - 512, by omega⟩ d).trans ?_
    pointwise
    exact rd2_of (n0 := 1024) (n1 := 1024) _ _ _ _ rfl rfl

set_option maxHeartbeats 4000000 in
/-- The heads, in the order of the lanes. -/
theorem host_h (c : Dev nD) (n : Fin 65536) (k : Fin 1024) :
    rd2 (n0 := 65536) (n1 := 1024) (V m c main_v16) n k = tok (n2 := 1024) (m ((c.tc : Thread nD τ).loc main_arg0)) n (order k) := by
  have ho : order k < 1024 := (orderEquiv k).2
  rw [← rd2_ix (n0 := 65536) (n1 := 1024) (V m c main_v16), tok, dif_pos ⟨n.2, ho⟩]
  unfold V
  after_reads_at
  split
  · rename_i h
    after_reads_at
    exact congrArg (fun j => m (c, Proc.tc.devRef main_arg0) (ix3 _ _ j)) (Fin.ext (by show (k : ℕ) = order k; rw [order, if_pos h]))
  · rename_i h
    after_reads_at
    refine congrArg (fun j => m (c, Proc.tc.devRef main_arg0) (ix3 _ _ j)) (Fin.ext ?_)
    show 512 + (((k : ℕ) - 512) / 64 % 2 * 256 + ((k : ℕ) - 512) / 128 * 64 + ((k : ℕ) - 512) % 64) = order k
    rw [order, if_neg h, pair]
    omega

set_option maxHeartbeats 4000000 in
/-- The residual stream. -/
theorem host_x (c : Dev nD) : rd2 (n0 := 65536) (n1 := 1024) (V m c main_v17) = tok (n2 := 1024) (m ((c.tc : Thread nD τ).loc main_arg1)) := by
  refine rd2_ext _ _ (fun i j => ?_) (fun a b h => by rw [tok, dif_neg h])
  rw [tok, dif_pos ⟨i.2, j.2⟩]
  unfold V
  after_reads_at

set_option maxHeartbeats 4000000 in
/-- The feed-forward norm's scale. -/
theorem host_gn (c : Dev nD) : rd2 (n0 := 1) (n1 := 1024) (V m c main_v18) 0 = rd1 (n0 := 1024) (m ((c.tc : Thread nD τ).loc main_arg3)) := by
  funext k
  by_cases h : k < 1024
  · rw [rd2, dif_pos ⟨by omega, h⟩, rd1, dif_pos h]
    unfold V
    after_reads_at
  · rw [rd2, dif_neg (fun e => h e.2), rd1, dif_neg h]

set_option maxHeartbeats 4000000 in
/-- The input projection. -/
theorem host_win (c : Dev nD) : rd2 (n0 := 1024) (n1 := 5632) (V m c main_v19) = rd2 (n0 := 1024) (n1 := 5632) (m ((c.tc : Thread nD τ).loc main_arg4)) := by
  refine rd2_ext _ _ (fun i j => ?_) (fun a b h => by rw [rd2, dif_neg h])
  rw [← rd2_ix]
  unfold V
  after_reads_at

set_option maxHeartbeats 4000000 in
/-- The taps. -/
theorem host_cw (c : Dev nD) : V m c main_arg5 = m ((c.tc : Thread nD τ).loc main_arg5) := by
  unfold V
  after_reads_at

set_option maxHeartbeats 4000000 in
/-- The convolution's bias. -/
theorem host_cb (c : Dev nD) : rd2 (n0 := 1) (n1 := 2816) (V m c main_v20) 0 = rd1 (n0 := 2816) (m ((c.tc : Thread nD τ).loc main_arg6)) := by
  funext k
  by_cases h : k < 2816
  · rw [rd2, dif_pos ⟨by omega, h⟩, rd1, dif_pos h]
    unfold V
    after_reads_at
  · rw [rd2, dif_neg (fun e => h e.2), rd1, dif_neg h]

set_option maxHeartbeats 4000000 in
/-- The output projection. -/
theorem host_wd (c : Dev nD) : rd2 (n0 := 2816) (n1 := 1024) (V m c main_v21) = rd2 (n0 := 2816) (n1 := 1024) (m ((c.tc : Thread nD τ).loc main_arg7)) := by
  refine rd2_ext _ _ (fun i j => ?_) (fun a b h => by rw [rd2, dif_neg h])
  rw [← rd2_ix]
  unfold V
  after_reads_at

/-- The feed-forward's weights among the arguments. -/
def argWts (c : Dev nD) : Wts :=
  ⟨rd1 (n0 := 1024) (m ((c.tc : Thread nD τ).loc main_arg3)), rd2 (n0 := 1024) (n1 := 5632) (m ((c.tc : Thread nD τ).loc main_arg4)),
    rd2 (n0 := 3) (n1 := 2816) (m ((c.tc : Thread nD τ).loc main_arg5)), rd1 (n0 := 2816) (m ((c.tc : Thread nD τ).loc main_arg6)),
    rd2 (n0 := 2816) (n1 := 1024) (m ((c.tc : Thread nD τ).loc main_arg7))⟩

/-- The residual stream after the attentions, from the arguments. -/
def argStrm (c : Dev nD) : ℕ → ℕ → EReal :=
  headStrm (rd2 (n0 := 1024) (n1 := 1024) (m ((c.tc : Thread nD τ).loc main_arg2))) (tok (n2 := 1024) (m ((c.tc : Thread nD τ).loc main_arg0)))
    (tok (n2 := 1024) (m ((c.tc : Thread nD τ).loc main_arg1)))

/-- The launch's weights are the arguments'. -/
theorem wts_eq (c : Dev nD) : wts m c = argWts m c := by
  rw [wts, host_gn, host_win, host_cw, host_cb, host_wd]
  rfl

/-- The launch's residual stream is the arguments', the order of the lanes being that of both factors. -/
theorem strm_eq (c : Dev nD) (n : Fin 65536) (d : Fin 1024) : strm m c n d = argStrm m c n d := by
  rw [strm, argStrm, headStrm, headStrm, headStream, headStream, host_x]
  refine congrArg (_ + ·) (Eq.trans (Finset.sum_congr rfl fun k _ => ?_) (sum_order
    (tok (n2 := 1024) (m ((c.tc : Thread nD τ).loc main_arg0)) n) fun k => rd2 (n0 := 1024) (n1 := 1024) (m ((c.tc : Thread nD τ).loc main_arg2)) k d))
  rw [host_h, host_wo]

/-- A token depends on the stream's lanes that there are, of the tokens up to it. -/
theorem token_congr (P : Wts) (s s' : ℕ → ℕ → EReal) (h : ∀ (n : Fin 65536) (d : Fin 1024), s n d = s' n d) (n : Fin 65536) (d : Fin 1024) :
    token P s n d = token P s' n d := by
  have hp (k : ℕ) (hk : k < 65536) (f : ℕ) : proj P (s k) f = proj P (s' k) f := by
    have e : ∀ d : Fin 1024, s k d = s' k d := fun d => h ⟨k, hk⟩ d
    simp only [proj, rowNorm, e]
  simp only [token, result, conv, backOf, h n, hp _ n.2, hp _ (show (n : ℕ) - 2 < 65536 by omega), hp _ (show (n : ℕ) - 1 < 65536 by omega)]

/-- The kernel's result from the arguments: every token's closed form. -/
theorem result_args (c : Dev nD) : (dats m 0 c).arrAt 8 cfg0.N = fun i => token (argWts m c) (argStrm m c) (i 0) (i 1) := by
  refine (result_apply m c).trans (funext fun i => ?_)
  rw [resultAt, wts_eq]
  exact token_congr _ _ _ (strm_eq m c) (i 0) (i 1)

end Cert.Kernel3Ideal.Ffn
-- ==== Proof.HeadRef.lean ====
module

public import proofs.«01_k».proof.Proof.FfnRef
public import proofs.«01_k».proof.Proof.Gen.Reference3Ideal.Run

/-! The third reference's result: the feed-forward that the second one applies, of the residual stream after the attentions. -/

@[expose] public section
set_option maxRecDepth 16384
noncomputable section
namespace Cert.Reference3Ideal.Ffn
open Idealize.ShloMosaic Idealize.ShloMosaic.TcCoe Idealize.SL.Sem Cert.Reference3Ideal Cert.Reference3Ideal.Gen Cert.Reference3Ideal.Value
open Cert.Read Cert.Ffn Cert.Reference2Ideal.Ffn
open scoped BigOperators

/-- The residual stream after the attentions. -/
def headR (x h : FVec Ideal S8x8192x1024 .f32) (w : FVec Ideal S1024x1024 .f32) : FVec Ideal S8x8192x1024 .f32 :=
  addf x (Host.dotGeneral (φ₁ := .f32) (φ₂ := .f32) dot_S8x8192x1024_S1024x1024_S8x8192x1024_2_0_01_1_n_n none h w)

/-- An entry of it. -/
theorem headR_apply (x h : FVec Ideal S8x8192x1024 .f32) (w : FVec Ideal S1024x1024 .f32) (b : Fin 8) (q : Fin 8192) (d : Fin 1024) :
    headR x h w (ix3 b q d) = headStream (rd2 w) (tok h (8192 * b + q)) (tok x (8192 * b + q)) d := by
  unfold headR headStream
  pointwise
  rw [tok_of x]
  exact congrArg (_ + ·) (Finset.sum_congr rfl fun k _ => congrArg₂ (· * ·) (tok_of h b q k) (rd2_of w _ _ _ rfl rfl))

set_option maxHeartbeats 1000000 in
/-- The reference's result in these names. -/
theorem result_eq (m : (ℓ : Loc nD τ sig) → Buf (Elt Ideal) ℓ) (c : Dev nD) : res_main_v48 m c =
    ffnR (headR (m ((c.tc : Thread nD τ).loc main_arg1)) (m ((c.tc : Thread nD τ).loc main_arg0)) (m ((c.tc : Thread nD τ).loc main_arg2)))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  unfold res_main_v48 ffnR hidR outR actR convR tapR padR projR normR headR
  rfl

/-- The feed-forward's weights among the arguments. -/
def argWts (m : (ℓ : Loc nD τ sig) → Buf (Elt Ideal) ℓ) (c : Dev nD) : Wts :=
  ⟨rd1 (n0 := 1024) (m ((c.tc : Thread nD τ).loc main_arg3)), rd2 (n0 := 1024) (n1 := 5632) (m ((c.tc : Thread nD τ).loc main_arg4)),
    rd2 (n0 := 3) (n1 := 2816) (m ((c.tc : Thread nD τ).loc main_arg5)), rd1 (n0 := 2816) (m ((c.tc : Thread nD τ).loc main_arg6)),
    rd2 (n0 := 2816) (n1 := 1024) (m ((c.tc : Thread nD τ).loc main_arg7))⟩

/-- The residual stream after the attentions, from the arguments. -/
def argStrm (m : (ℓ : Loc nD τ sig) → Buf (Elt Ideal) ℓ) (c : Dev nD) : ℕ → ℕ → EReal :=
  headStrm (rd2 (n0 := 1024) (n1 := 1024) (m ((c.tc : Thread nD τ).loc main_arg2))) (tok (n2 := 1024) (m ((c.tc : Thread nD τ).loc main_arg0)))
    (tok (n2 := 1024) (m ((c.tc : Thread nD τ).loc main_arg1)))

/-- The reference's result from the arguments: every token's closed form. -/
theorem result_args (m : (ℓ : Loc nD τ sig) → Buf (Elt Ideal) ℓ) (c : Dev nD) :
    res_main_v48 m c = fun i => token (argWts m c) (argStrm m c) (i 0) (i 1) := by
  refine (result_eq m c).trans (funext fun i => ?_)
  rw [show i = ix2 (i 0) (i 1) from eq_ix2 i]
  exact ffnR_apply (argWts m c) (argStrm m c) _ _ _ _ _ _ (fun b q d => headR_apply _ _ _ b q d) rfl rfl rfl rfl rfl (i 0) (i 1)

end Cert.Reference3Ideal.Ffn
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Pre
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.FfnHost
public import proofs.«01_k».proof.Proof.FfnRef
public import proofs.«01_k».proof.Proof.HeadHost
public import proofs.«01_k».proof.Proof.HeadRef
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import Idealize.ShloMosaic.Adequacy
public import Idealize.ShloMosaic.Init

@[expose] public section

noncomputable section

namespace Cert.Proof

open Idealize.ShloMosaic Idealize.ShloMosaic.TcCoe Idealize.SL.Sem

/-- The reference runs, keeps its arguments and leaves every counter at zero. -/
theorem frame_reference : quiescent_ReferenceIdeal (hReferenceIdeal := Cert.ReferenceIdeal.Gen.facts) := fun m ρ _ =>
  letI := Cert.ReferenceIdeal.Gen.facts
  (θ_run Cert.ReferenceIdeal.defs _ _).mono (fun r h => ⟨fun c => (h c).2, sem_eq_zero_of_no_sems (by decide) r.2⟩)
    (Cert.ReferenceIdeal.Value.run (F := Ideal) m ρ)

/-- Where the precondition holds, the kernel and the reference end with the same array. -/
theorem value : algebraic_KernelIdeal_ReferenceIdeal_pre_finite_scores (hKernelIdeal := Cert.KernelIdeal.Gen.facts)
    (hReferenceIdeal := Cert.ReferenceIdeal.Gen.facts) (hPre_finite_scores := Cert.Pre_finite_scores.facts) := by
  letI := Cert.KernelIdeal.Gen.facts
  letI := Cert.ReferenceIdeal.Gen.facts
  letI := Cert.Pre_finite_scores.facts
  intro m g m' g' hp ha
  refine ⟨fun c => Cert.KernelIdeal.Att.resultAt m c, ?_, ?_⟩
  · exact (θ_run Cert.KernelIdeal.defs _ _).mono
      (fun r h c => ⟨(h c).1.trans (Cert.KernelIdeal.Att.result_apply m c), (h c).2⟩) (Cert.KernelIdeal.Value.run_blocks m g)
  · refine (θ_run Cert.ReferenceIdeal.defs _ _).mono (fun r h c => ⟨(h c).1.trans ?_, (h c).2⟩) (Cert.ReferenceIdeal.Value.run m' g')
    obtain ⟨h1, h2, h3, h4, h5, h6⟩ := Cert.Pre_finite_scores.parts _ _ _ _ _ _ _ _ (hp c)
    obtain ⟨a0, a1, a2, a3, a4, a5, a6, a7⟩ := ha c
    rw [Cert.ReferenceIdeal.Att.result_eq, a0, a1, a2, a3, a4, a5, a6, a7]
    exact (funext fun i => Cert.KernelIdeal.Att.result_tie m c h1 h2 h5 h3 h4 h6 i).symm

/-- The second reference runs, keeps its arguments and leaves every counter at zero. -/
theorem frame_reference2 : quiescent_Reference2Ideal (hReference2Ideal := Cert.Reference2Ideal.Gen.facts) := fun m ρ _ =>
  letI := Cert.Reference2Ideal.Gen.facts
  (θ_run Cert.Reference2Ideal.defs _ _).mono (fun r h => ⟨fun c => (h c).2, sem_eq_zero_of_no_sems (by decide) r.2⟩)
    (Cert.Reference2Ideal.Value.run (F := Ideal) m ρ)

/-- The second kernel and its reference end with the same array. -/
theorem value2 : algebraic_Kernel2Ideal_Reference2Ideal (hKernel2Ideal := Cert.Kernel2Ideal.Gen.facts)
    (hReference2Ideal := Cert.Reference2Ideal.Gen.facts) := by
  letI := Cert.Kernel2Ideal.Gen.facts
  letI := Cert.Reference2Ideal.Gen.facts
  intro m g m' g' _ ha
  refine ⟨fun c => fun i => Cert.Ffn.token (Cert.Kernel2Ideal.Ffn.argWts m c) (Cert.Kernel2Ideal.Ffn.argStrm m c) (i 0) (i 1), ?_, ?_⟩
  · exact (θ_run Cert.Kernel2Ideal.defs _ _).mono
      (fun r h c => ⟨(h c).1.trans (Cert.Kernel2Ideal.Ffn.result_args m c), (h c).2⟩) (Cert.Kernel2Ideal.Value.run_blocks m g)
  · refine (θ_run Cert.Reference2Ideal.defs _ _).mono (fun r h c => ⟨(h c).1.trans ?_, (h c).2⟩) (Cert.Reference2Ideal.Value.run m' g')
    obtain ⟨a0, a1, a2, a3, a4, a5, a6, a7, a8, a9⟩ := ha c
    rw [Cert.Reference2Ideal.Ffn.result_args, Cert.Reference2Ideal.Ffn.argStrm, Cert.Reference2Ideal.Ffn.argWts, a0, a1, a2, a3, a4, a5, a6, a7, a8, a9]
    rfl

/-- The third reference runs, keeps its arguments and leaves every counter at zero. -/
theorem frame_reference3 : quiescent_Reference3Ideal (hReference3Ideal := Cert.Reference3Ideal.Gen.facts) := fun m ρ _ =>
  letI := Cert.Reference3Ideal.Gen.facts
  (θ_run Cert.Reference3Ideal.defs _ _).mono (fun r h => ⟨fun c => (h c).2, sem_eq_zero_of_no_sems (by decide) r.2⟩)
    (Cert.Reference3Ideal.Value.run (F := Ideal) m ρ)

/-- The third kernel and its reference end with the same array. -/
theorem value3 : algebraic_Kernel3Ideal_Reference3Ideal (hKernel3Ideal := Cert.Kernel3Ideal.Gen.facts)
    (hReference3Ideal := Cert.Reference3Ideal.Gen.facts) := by
  letI := Cert.Kernel3Ideal.Gen.facts
  letI := Cert.Reference3Ideal.Gen.facts
  intro m g m' g' _ ha
  refine ⟨fun c => fun i => Cert.Ffn.token (Cert.Kernel3Ideal.Ffn.argWts m c) (Cert.Kernel3Ideal.Ffn.argStrm m c) (i 0) (i 1), ?_, ?_⟩
  · exact (θ_run Cert.Kernel3Ideal.defs _ _).mono
      (fun r h c => ⟨(h c).1.trans (Cert.Kernel3Ideal.Ffn.result_args m c), (h c).2⟩) (Cert.Kernel3Ideal.Value.run_blocks m g)
  · refine (θ_run Cert.Reference3Ideal.defs _ _).mono (fun r h c => ⟨(h c).1.trans ?_, (h c).2⟩) (Cert.Reference3Ideal.Value.run m' g')
    obtain ⟨a0, a1, a2, a3, a4, a5, a6, a7⟩ := ha c
    rw [Cert.Reference3Ideal.Ffn.result_args, Cert.Reference3Ideal.Ffn.argStrm, Cert.Reference3Ideal.Ffn.argWts, a0, a1, a2, a3, a4, a5, a6, a7]
    rfl

/-- The claims, in the order of `Cert.Claim`. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Pre_finite_scores.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    trivial, value, trivial, value2, trivial, value3⟩

end Cert.Proof

end
